-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_KernelFinal (m : (ℓ : Loc Cert.KernelFinal.nD Cert.KernelFinal.τ Cert.KernelFinal.sig) → Buf (Elt Bits) ℓ) : Prop :=
  True

def Pre_KernelFinalIdeal (m : (ℓ : Loc Cert.KernelFinalIdeal.nD Cert.KernelFinalIdeal.τ Cert.KernelFinalIdeal.sig) → Buf (Elt Ideal) ℓ) : Prop :=
  True

def Pre_ReferenceFinalIdeal (m : (ℓ : Loc Cert.ReferenceFinalIdeal.nD Cert.ReferenceFinalIdeal.τ Cert.ReferenceFinalIdeal.sig) → Buf (Elt Ideal) ℓ) : Prop :=
  True

def Pre_KernelMid (m : (ℓ : Loc Cert.KernelMid.nD Cert.KernelMid.τ Cert.KernelMid.sig) → Buf (Elt Bits) ℓ) : Prop :=
  True

def Pre_KernelMidIdeal (m : (ℓ : Loc Cert.KernelMidIdeal.nD Cert.KernelMidIdeal.τ Cert.KernelMidIdeal.sig) → Buf (Elt Ideal) ℓ) : Prop :=
  True

def Pre_ReferenceMidIdeal (m : (ℓ : Loc Cert.ReferenceMidIdeal.nD Cert.ReferenceMidIdeal.τ Cert.ReferenceMidIdeal.sig) → Buf (Elt Ideal) ℓ) : Prop :=
  True

def Pre_KernelQkv (m : (ℓ : Loc Cert.KernelQkv.nD Cert.KernelQkv.τ Cert.KernelQkv.sig) → Buf (Elt Bits) ℓ) : Prop :=
  True

def Pre_KernelQkvIdeal (m : (ℓ : Loc Cert.KernelQkvIdeal.nD Cert.KernelQkvIdeal.τ Cert.KernelQkvIdeal.sig) → Buf (Elt Ideal) ℓ) : Prop :=
  True

def Pre_ReferenceQkvIdeal (m : (ℓ : Loc Cert.ReferenceQkvIdeal.nD Cert.ReferenceQkvIdeal.τ Cert.ReferenceQkvIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_KernelFinal [hKernelFinal : Cert.KernelFinal.Facts] : Prop :=
  ∀ (m : (ℓ : Loc Cert.KernelFinal.nD Cert.KernelFinal.τ Cert.KernelFinal.sig) → Buf (Elt Bits) ℓ) (g : Dev Cert.KernelFinal.nD → PrngReg), Pre_KernelFinal m →
    θ_run (Cert.KernelFinal.defs (F := Bits)) (onTc (τ := Cert.KernelFinal.τ) (Cert.KernelFinal.main (F := Bits))) ⟨m, fun _ => 0, g⟩ (fun r => (∀ c : Dev Cert.KernelFinal.nD,
      r.2.mem ((c.tc : Thread Cert.KernelFinal.nD Cert.KernelFinal.τ).loc Cert.KernelFinal.main_arg0) = m ((c.tc : Thread Cert.KernelFinal.nD Cert.KernelFinal.τ).loc Cert.KernelFinal.main_arg0)
      ∧ r.2.mem ((c.tc : Thread Cert.KernelFinal.nD Cert.KernelFinal.τ).loc Cert.KernelFinal.main_arg1) = m ((c.tc : Thread Cert.KernelFinal.nD Cert.KernelFinal.τ).loc Cert.KernelFinal.main_arg1)
      ∧ r.2.mem ((c.tc : Thread Cert.KernelFinal.nD Cert.KernelFinal.τ).loc Cert.KernelFinal.main_arg2) = m ((c.tc : Thread Cert.KernelFinal.nD Cert.KernelFinal.τ).loc Cert.KernelFinal.main_arg2)
      ∧ r.2.mem ((c.tc : Thread Cert.KernelFinal.nD Cert.KernelFinal.τ).loc Cert.KernelFinal.main_arg3) = m ((c.tc : Thread Cert.KernelFinal.nD Cert.KernelFinal.τ).loc Cert.KernelFinal.main_arg3)
      ∧ r.2.mem ((c.tc : Thread Cert.KernelFinal.nD Cert.KernelFinal.τ).loc Cert.KernelFinal.main_arg4) = m ((c.tc : Thread Cert.KernelFinal.nD Cert.KernelFinal.τ).loc Cert.KernelFinal.main_arg4)
      ∧ r.2.mem ((c.tc : Thread Cert.KernelFinal.nD Cert.KernelFinal.τ).loc Cert.KernelFinal.main_arg5) = m ((c.tc : Thread Cert.KernelFinal.nD Cert.KernelFinal.τ).loc Cert.KernelFinal.main_arg5)
      ∧ r.2.mem ((c.tc : Thread Cert.KernelFinal.nD Cert.KernelFinal.τ).loc Cert.KernelFinal.main_arg6) = m ((c.tc : Thread Cert.KernelFinal.nD Cert.KernelFinal.τ).loc Cert.KernelFinal.main_arg6))
      ∧ r.2.sem = fun _ => 0)

def quiescent_KernelFinalIdeal [hKernelFinalIdeal : Cert.KernelFinalIdeal.Facts] : Prop :=
  ∀ (m : (ℓ : Loc Cert.KernelFinalIdeal.nD Cert.KernelFinalIdeal.τ Cert.KernelFinalIdeal.sig) → Buf (Elt Ideal) ℓ) (g : Dev Cert.KernelFinalIdeal.nD → PrngReg), Pre_KernelFinalIdeal m →
    θ_run (Cert.KernelFinalIdeal.defs (F := Ideal)) (onTc (τ := Cert.KernelFinalIdeal.τ) (Cert.KernelFinalIdeal.main (F := Ideal))) ⟨m, fun _ => 0, g⟩ (fun r => (∀ c : Dev Cert.KernelFinalIdeal.nD,
      r.2.mem ((c.tc : Thread Cert.KernelFinalIdeal.nD Cert.KernelFinalIdeal.τ).loc Cert.KernelFinalIdeal.main_arg0) = m ((c.tc : Thread Cert.KernelFinalIdeal.nD Cert.KernelFinalIdeal.τ).loc Cert.KernelFinalIdeal.main_arg0)
      ∧ r.2.mem ((c.tc : Thread Cert.KernelFinalIdeal.nD Cert.KernelFinalIdeal.τ).loc Cert.KernelFinalIdeal.main_arg1) = m ((c.tc : Thread Cert.KernelFinalIdeal.nD Cert.KernelFinalIdeal.τ).loc Cert.KernelFinalIdeal.main_arg1)
      ∧ r.2.mem ((c.tc : Thread Cert.KernelFinalIdeal.nD Cert.KernelFinalIdeal.τ).loc Cert.KernelFinalIdeal.main_arg2) = m ((c.tc : Thread Cert.KernelFinalIdeal.nD Cert.KernelFinalIdeal.τ).loc Cert.KernelFinalIdeal.main_arg2)
      ∧ r.2.mem ((c.tc : Thread Cert.KernelFinalIdeal.nD Cert.KernelFinalIdeal.τ).loc Cert.KernelFinalIdeal.main_arg3) = m ((c.tc : Thread Cert.KernelFinalIdeal.nD Cert.KernelFinalIdeal.τ).loc Cert.KernelFinalIdeal.main_arg3)
      ∧ r.2.mem ((c.tc : Thread Cert.KernelFinalIdeal.nD Cert.KernelFinalIdeal.τ).loc Cert.KernelFinalIdeal.main_arg4) = m ((c.tc : Thread Cert.KernelFinalIdeal.nD Cert.KernelFinalIdeal.τ).loc Cert.KernelFinalIdeal.main_arg4)
      ∧ r.2.mem ((c.tc : Thread Cert.KernelFinalIdeal.nD Cert.KernelFinalIdeal.τ).loc Cert.KernelFinalIdeal.main_arg5) = m ((c.tc : Thread Cert.KernelFinalIdeal.nD Cert.KernelFinalIdeal.τ).loc Cert.KernelFinalIdeal.main_arg5)
      ∧ r.2.mem ((c.tc : Thread Cert.KernelFinalIdeal.nD Cert.KernelFinalIdeal.τ).loc Cert.KernelFinalIdeal.main_arg6) = m ((c.tc : Thread Cert.KernelFinalIdeal.nD Cert.KernelFinalIdeal.τ).loc Cert.KernelFinalIdeal.main_arg6))
      ∧ r.2.sem = fun _ => 0)

def quiescent_ReferenceFinalIdeal [hReferenceFinalIdeal : Cert.ReferenceFinalIdeal.Facts] : Prop :=
  ∀ (m : (ℓ : Loc Cert.ReferenceFinalIdeal.nD Cert.ReferenceFinalIdeal.τ Cert.ReferenceFinalIdeal.sig) → Buf (Elt Ideal) ℓ) (g : Dev Cert.ReferenceFinalIdeal.nD → PrngReg), Pre_ReferenceFinalIdeal m →
    θ_run (Cert.ReferenceFinalIdeal.defs (F := Ideal)) (onTc (τ := Cert.ReferenceFinalIdeal.τ) (Cert.ReferenceFinalIdeal.main (F := Ideal))) ⟨m, fun _ => 0, g⟩ (fun r => (∀ c : Dev Cert.ReferenceFinalIdeal.nD,
      r.2.mem ((c.tc : Thread Cert.ReferenceFinalIdeal.nD Cert.ReferenceFinalIdeal.τ).loc Cert.ReferenceFinalIdeal.main_arg0) = m ((c.tc : Thread Cert.ReferenceFinalIdeal.nD Cert.ReferenceFinalIdeal.τ).loc Cert.ReferenceFinalIdeal.main_arg0)
      ∧ r.2.mem ((c.tc : Thread Cert.ReferenceFinalIdeal.nD Cert.ReferenceFinalIdeal.τ).loc Cert.ReferenceFinalIdeal.main_arg1) = m ((c.tc : Thread Cert.ReferenceFinalIdeal.nD Cert.ReferenceFinalIdeal.τ).loc Cert.ReferenceFinalIdeal.main_arg1)
      ∧ r.2.mem ((c.tc : Thread Cert.ReferenceFinalIdeal.nD Cert.ReferenceFinalIdeal.τ).loc Cert.ReferenceFinalIdeal.main_arg2) = m ((c.tc : Thread Cert.ReferenceFinalIdeal.nD Cert.ReferenceFinalIdeal.τ).loc Cert.ReferenceFinalIdeal.main_arg2)
      ∧ r.2.mem ((c.tc : Thread Cert.ReferenceFinalIdeal.nD Cert.ReferenceFinalIdeal.τ).loc Cert.ReferenceFinalIdeal.main_arg3) = m ((c.tc : Thread Cert.ReferenceFinalIdeal.nD Cert.ReferenceFinalIdeal.τ).loc Cert.ReferenceFinalIdeal.main_arg3)
      ∧ r.2.mem ((c.tc : Thread Cert.ReferenceFinalIdeal.nD Cert.ReferenceFinalIdeal.τ).loc Cert.ReferenceFinalIdeal.main_arg4) = m ((c.tc : Thread Cert.ReferenceFinalIdeal.nD Cert.ReferenceFinalIdeal.τ).loc Cert.ReferenceFinalIdeal.main_arg4)
      ∧ r.2.mem ((c.tc : Thread Cert.ReferenceFinalIdeal.nD Cert.ReferenceFinalIdeal.τ).loc Cert.ReferenceFinalIdeal.main_arg5) = m ((c.tc : Thread Cert.ReferenceFinalIdeal.nD Cert.ReferenceFinalIdeal.τ).loc Cert.ReferenceFinalIdeal.main_arg5)
      ∧ r.2.mem ((c.tc : Thread Cert.ReferenceFinalIdeal.nD Cert.ReferenceFinalIdeal.τ).loc Cert.ReferenceFinalIdeal.main_arg6) = m ((c.tc : Thread Cert.ReferenceFinalIdeal.nD Cert.ReferenceFinalIdeal.τ).loc Cert.ReferenceFinalIdeal.main_arg6))
      ∧ r.2.sem = fun _ => 0)

def quiescent_KernelMid [hKernelMid : Cert.KernelMid.Facts] : Prop :=
  ∀ (m : (ℓ : Loc Cert.KernelMid.nD Cert.KernelMid.τ Cert.KernelMid.sig) → Buf (Elt Bits) ℓ) (g : Dev Cert.KernelMid.nD → PrngReg), Pre_KernelMid m →
    θ_run (Cert.KernelMid.defs (F := Bits)) (onTc (τ := Cert.KernelMid.τ) (Cert.KernelMid.main (F := Bits))) ⟨m, fun _ => 0, g⟩ (fun r => (∀ c : Dev Cert.KernelMid.nD,
      r.2.mem ((c.tc : Thread Cert.KernelMid.nD Cert.KernelMid.τ).loc Cert.KernelMid.main_arg0) = m ((c.tc : Thread Cert.KernelMid.nD Cert.KernelMid.τ).loc Cert.KernelMid.main_arg0)
      ∧ r.2.mem ((c.tc : Thread Cert.KernelMid.nD Cert.KernelMid.τ).loc Cert.KernelMid.main_arg1) = m ((c.tc : Thread Cert.KernelMid.nD Cert.KernelMid.τ).loc Cert.KernelMid.main_arg1)
      ∧ r.2.mem ((c.tc : Thread Cert.KernelMid.nD Cert.KernelMid.τ).loc Cert.KernelMid.main_arg2) = m ((c.tc : Thread Cert.KernelMid.nD Cert.KernelMid.τ).loc Cert.KernelMid.main_arg2)
      ∧ r.2.mem ((c.tc : Thread Cert.KernelMid.nD Cert.KernelMid.τ).loc Cert.KernelMid.main_arg3) = m ((c.tc : Thread Cert.KernelMid.nD Cert.KernelMid.τ).loc Cert.KernelMid.main_arg3)
      ∧ r.2.mem ((c.tc : Thread Cert.KernelMid.nD Cert.KernelMid.τ).loc Cert.KernelMid.main_arg4) = m ((c.tc : Thread Cert.KernelMid.nD Cert.KernelMid.τ).loc Cert.KernelMid.main_arg4)
      ∧ r.2.mem ((c.tc : Thread Cert.KernelMid.nD Cert.KernelMid.τ).loc Cert.KernelMid.main_arg5) = m ((c.tc : Thread Cert.KernelMid.nD Cert.KernelMid.τ).loc Cert.KernelMid.main_arg5)
      ∧ r.2.mem ((c.tc : Thread Cert.KernelMid.nD Cert.KernelMid.τ).loc Cert.KernelMid.main_arg6) = m ((c.tc : Thread Cert.KernelMid.nD Cert.KernelMid.τ).loc Cert.KernelMid.main_arg6))
      ∧ r.2.sem = fun _ => 0)

def quiescent_KernelMidIdeal [hKernelMidIdeal : Cert.KernelMidIdeal.Facts] : Prop :=
  ∀ (m : (ℓ : Loc Cert.KernelMidIdeal.nD Cert.KernelMidIdeal.τ Cert.KernelMidIdeal.sig) → Buf (Elt Ideal) ℓ) (g : Dev Cert.KernelMidIdeal.nD → PrngReg), Pre_KernelMidIdeal m →
    θ_run (Cert.KernelMidIdeal.defs (F := Ideal)) (onTc (τ := Cert.KernelMidIdeal.τ) (Cert.KernelMidIdeal.main (F := Ideal))) ⟨m, fun _ => 0, g⟩ (fun r => (∀ c : Dev Cert.KernelMidIdeal.nD,
      r.2.mem ((c.tc : Thread Cert.KernelMidIdeal.nD Cert.KernelMidIdeal.τ).loc Cert.KernelMidIdeal.main_arg0) = m ((c.tc : Thread Cert.KernelMidIdeal.nD Cert.KernelMidIdeal.τ).loc Cert.KernelMidIdeal.main_arg0)
      ∧ r.2.mem ((c.tc : Thread Cert.KernelMidIdeal.nD Cert.KernelMidIdeal.τ).loc Cert.KernelMidIdeal.main_arg1) = m ((c.tc : Thread Cert.KernelMidIdeal.nD Cert.KernelMidIdeal.τ).loc Cert.KernelMidIdeal.main_arg1)
      ∧ r.2.mem ((c.tc : Thread Cert.KernelMidIdeal.nD Cert.KernelMidIdeal.τ).loc Cert.KernelMidIdeal.main_arg2) = m ((c.tc : Thread Cert.KernelMidIdeal.nD Cert.KernelMidIdeal.τ).loc Cert.KernelMidIdeal.main_arg2)
      ∧ r.2.mem ((c.tc : Thread Cert.KernelMidIdeal.nD Cert.KernelMidIdeal.τ).loc Cert.KernelMidIdeal.main_arg3) = m ((c.tc : Thread Cert.KernelMidIdeal.nD Cert.KernelMidIdeal.τ).loc Cert.KernelMidIdeal.main_arg3)
      ∧ r.2.mem ((c.tc : Thread Cert.KernelMidIdeal.nD Cert.KernelMidIdeal.τ).loc Cert.KernelMidIdeal.main_arg4) = m ((c.tc : Thread Cert.KernelMidIdeal.nD Cert.KernelMidIdeal.τ).loc Cert.KernelMidIdeal.main_arg4)
      ∧ r.2.mem ((c.tc : Thread Cert.KernelMidIdeal.nD Cert.KernelMidIdeal.τ).loc Cert.KernelMidIdeal.main_arg5) = m ((c.tc : Thread Cert.KernelMidIdeal.nD Cert.KernelMidIdeal.τ).loc Cert.KernelMidIdeal.main_arg5)
      ∧ r.2.mem ((c.tc : Thread Cert.KernelMidIdeal.nD Cert.KernelMidIdeal.τ).loc Cert.KernelMidIdeal.main_arg6) = m ((c.tc : Thread Cert.KernelMidIdeal.nD Cert.KernelMidIdeal.τ).loc Cert.KernelMidIdeal.main_arg6))
      ∧ r.2.sem = fun _ => 0)

def quiescent_ReferenceMidIdeal [hReferenceMidIdeal : Cert.ReferenceMidIdeal.Facts] : Prop :=
  ∀ (m : (ℓ : Loc Cert.ReferenceMidIdeal.nD Cert.ReferenceMidIdeal.τ Cert.ReferenceMidIdeal.sig) → Buf (Elt Ideal) ℓ) (g : Dev Cert.ReferenceMidIdeal.nD → PrngReg), Pre_ReferenceMidIdeal m →
    θ_run (Cert.ReferenceMidIdeal.defs (F := Ideal)) (onTc (τ := Cert.ReferenceMidIdeal.τ) (Cert.ReferenceMidIdeal.main (F := Ideal))) ⟨m, fun _ => 0, g⟩ (fun r => (∀ c : Dev Cert.ReferenceMidIdeal.nD,
      r.2.mem ((c.tc : Thread Cert.ReferenceMidIdeal.nD Cert.ReferenceMidIdeal.τ).loc Cert.ReferenceMidIdeal.main_arg0) = m ((c.tc : Thread Cert.ReferenceMidIdeal.nD Cert.ReferenceMidIdeal.τ).loc Cert.ReferenceMidIdeal.main_arg0)
      ∧ r.2.mem ((c.tc : Thread Cert.ReferenceMidIdeal.nD Cert.ReferenceMidIdeal.τ).loc Cert.ReferenceMidIdeal.main_arg1) = m ((c.tc : Thread Cert.ReferenceMidIdeal.nD Cert.ReferenceMidIdeal.τ).loc Cert.ReferenceMidIdeal.main_arg1)
      ∧ r.2.mem ((c.tc : Thread Cert.ReferenceMidIdeal.nD Cert.ReferenceMidIdeal.τ).loc Cert.ReferenceMidIdeal.main_arg2) = m ((c.tc : Thread Cert.ReferenceMidIdeal.nD Cert.ReferenceMidIdeal.τ).loc Cert.ReferenceMidIdeal.main_arg2)
      ∧ r.2.mem ((c.tc : Thread Cert.ReferenceMidIdeal.nD Cert.ReferenceMidIdeal.τ).loc Cert.ReferenceMidIdeal.main_arg3) = m ((c.tc : Thread Cert.ReferenceMidIdeal.nD Cert.ReferenceMidIdeal.τ).loc Cert.ReferenceMidIdeal.main_arg3)
      ∧ r.2.mem ((c.tc : Thread Cert.ReferenceMidIdeal.nD Cert.ReferenceMidIdeal.τ).loc Cert.ReferenceMidIdeal.main_arg4) = m ((c.tc : Thread Cert.ReferenceMidIdeal.nD Cert.ReferenceMidIdeal.τ).loc Cert.ReferenceMidIdeal.main_arg4)
      ∧ r.2.mem ((c.tc : Thread Cert.ReferenceMidIdeal.nD Cert.ReferenceMidIdeal.τ).loc Cert.ReferenceMidIdeal.main_arg5) = m ((c.tc : Thread Cert.ReferenceMidIdeal.nD Cert.ReferenceMidIdeal.τ).loc Cert.ReferenceMidIdeal.main_arg5)
      ∧ r.2.mem ((c.tc : Thread Cert.ReferenceMidIdeal.nD Cert.ReferenceMidIdeal.τ).loc Cert.ReferenceMidIdeal.main_arg6) = m ((c.tc : Thread Cert.ReferenceMidIdeal.nD Cert.ReferenceMidIdeal.τ).loc Cert.ReferenceMidIdeal.main_arg6))
      ∧ r.2.sem = fun _ => 0)

def quiescent_KernelQkv [hKernelQkv : Cert.KernelQkv.Facts] : Prop :=
  ∀ (m : (ℓ : Loc Cert.KernelQkv.nD Cert.KernelQkv.τ Cert.KernelQkv.sig) → Buf (Elt Bits) ℓ) (g : Dev Cert.KernelQkv.nD → PrngReg), Pre_KernelQkv m →
    θ_run (Cert.KernelQkv.defs (F := Bits)) (onTc (τ := Cert.KernelQkv.τ) (Cert.KernelQkv.main (F := Bits))) ⟨m, fun _ => 0, g⟩ (fun r => (∀ c : Dev Cert.KernelQkv.nD,
      r.2.mem ((c.tc : Thread Cert.KernelQkv.nD Cert.KernelQkv.τ).loc Cert.KernelQkv.main_arg0) = m ((c.tc : Thread Cert.KernelQkv.nD Cert.KernelQkv.τ).loc Cert.KernelQkv.main_arg0)
      ∧ r.2.mem ((c.tc : Thread Cert.KernelQkv.nD Cert.KernelQkv.τ).loc Cert.KernelQkv.main_arg1) = m ((c.tc : Thread Cert.KernelQkv.nD Cert.KernelQkv.τ).loc Cert.KernelQkv.main_arg1)
      ∧ r.2.mem ((c.tc : Thread Cert.KernelQkv.nD Cert.KernelQkv.τ).loc Cert.KernelQkv.main_arg2) = m ((c.tc : Thread Cert.KernelQkv.nD Cert.KernelQkv.τ).loc Cert.KernelQkv.main_arg2)
      ∧ r.2.mem ((c.tc : Thread Cert.KernelQkv.nD Cert.KernelQkv.τ).loc Cert.KernelQkv.main_arg3) = m ((c.tc : Thread Cert.KernelQkv.nD Cert.KernelQkv.τ).loc Cert.KernelQkv.main_arg3)
      ∧ r.2.mem ((c.tc : Thread Cert.KernelQkv.nD Cert.KernelQkv.τ).loc Cert.KernelQkv.main_arg4) = m ((c.tc : Thread Cert.KernelQkv.nD Cert.KernelQkv.τ).loc Cert.KernelQkv.main_arg4)
      ∧ r.2.mem ((c.tc : Thread Cert.KernelQkv.nD Cert.KernelQkv.τ).loc Cert.KernelQkv.main_arg5) = m ((c.tc : Thread Cert.KernelQkv.nD Cert.KernelQkv.τ).loc Cert.KernelQkv.main_arg5))
      ∧ r.2.sem = fun _ => 0)

def quiescent_KernelQkvIdeal [hKernelQkvIdeal : Cert.KernelQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg), Pre_KernelQkvIdeal m →
    θ_run (Cert.KernelQkvIdeal.defs (F := Ideal)) (onTc (τ := Cert.KernelQkvIdeal.τ) (Cert.KernelQkvIdeal.main (F := Ideal))) ⟨m, fun _ => 0, g⟩ (fun r => (∀ c : Dev Cert.KernelQkvIdeal.nD,
      r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
      ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1)
      ∧ r.2.mem ((c.tc : Thread Cert.KernelQkvIdeal.nD Cert.KernelQkvIdeal.τ).loc Cert.KernelQkvIdeal.main_arg2) = m ((c.tc : Thread Cert.KernelQkvIdeal.nD Cert.KernelQkvIdeal.τ).loc Cert.KernelQkvIdeal.main_arg2)
      ∧ r.2.mem ((c.tc : Thread Cert.KernelQkvIdeal.nD Cert.KernelQkvIdeal.τ).loc Cert.KernelQkvIdeal.main_arg3) = m ((c.tc : Thread Cert.KernelQkvIdeal.nD Cert.KernelQkvIdeal.τ).loc Cert.KernelQkvIdeal.main_arg3)
      ∧ r.2.mem ((c.tc : Thread Cert.KernelQkvIdeal.nD Cert.KernelQkvIdeal.τ).loc Cert.KernelQkvIdeal.main_arg4) = m ((c.tc : Thread Cert.KernelQkvIdeal.nD Cert.KernelQkvIdeal.τ).loc Cert.KernelQkvIdeal.main_arg4)
      ∧ r.2.mem ((c.tc : Thread Cert.KernelQkvIdeal.nD Cert.KernelQkvIdeal.τ).loc Cert.KernelQkvIdeal.main_arg5) = m ((c.tc : Thread Cert.KernelQkvIdeal.nD Cert.KernelQkvIdeal.τ).loc Cert.KernelQkvIdeal.main_arg5))
      ∧ r.2.sem = fun _ => 0)

def quiescent_ReferenceQkvIdeal [hReferenceQkvIdeal : Cert.ReferenceQkvIdeal.Facts] : Prop :=
  ∀ (m : (ℓ : Loc Cert.ReferenceQkvIdeal.nD Cert.ReferenceQkvIdeal.τ Cert.ReferenceQkvIdeal.sig) → Buf (Elt Ideal) ℓ) (g : Dev Cert.ReferenceQkvIdeal.nD → PrngReg), Pre_ReferenceQkvIdeal m →
    θ_run (Cert.ReferenceQkvIdeal.defs (F := Ideal)) (onTc (τ := Cert.ReferenceQkvIdeal.τ) (Cert.ReferenceQkvIdeal.main (F := Ideal))) ⟨m, fun _ => 0, g⟩ (fun r => (∀ c : Dev Cert.ReferenceQkvIdeal.nD,
      r.2.mem ((c.tc : Thread Cert.ReferenceQkvIdeal.nD Cert.ReferenceQkvIdeal.τ).loc Cert.ReferenceQkvIdeal.main_arg0) = m ((c.tc : Thread Cert.ReferenceQkvIdeal.nD Cert.ReferenceQkvIdeal.τ).loc Cert.ReferenceQkvIdeal.main_arg0)
      ∧ r.2.mem ((c.tc : Thread Cert.ReferenceQkvIdeal.nD Cert.ReferenceQkvIdeal.τ).loc Cert.ReferenceQkvIdeal.main_arg1) = m ((c.tc : Thread Cert.ReferenceQkvIdeal.nD Cert.ReferenceQkvIdeal.τ).loc Cert.ReferenceQkvIdeal.main_arg1)
      ∧ r.2.mem ((c.tc : Thread Cert.ReferenceQkvIdeal.nD Cert.ReferenceQkvIdeal.τ).loc Cert.ReferenceQkvIdeal.main_arg2) = m ((c.tc : Thread Cert.ReferenceQkvIdeal.nD Cert.ReferenceQkvIdeal.τ).loc Cert.ReferenceQkvIdeal.main_arg2)
      ∧ r.2.mem ((c.tc : Thread Cert.ReferenceQkvIdeal.nD Cert.ReferenceQkvIdeal.τ).loc Cert.ReferenceQkvIdeal.main_arg3) = m ((c.tc : Thread Cert.ReferenceQkvIdeal.nD Cert.ReferenceQkvIdeal.τ).loc Cert.ReferenceQkvIdeal.main_arg3)
      ∧ r.2.mem ((c.tc : Thread Cert.ReferenceQkvIdeal.nD Cert.ReferenceQkvIdeal.τ).loc Cert.ReferenceQkvIdeal.main_arg4) = m ((c.tc : Thread Cert.ReferenceQkvIdeal.nD Cert.ReferenceQkvIdeal.τ).loc Cert.ReferenceQkvIdeal.main_arg4)
      ∧ r.2.mem ((c.tc : Thread Cert.ReferenceQkvIdeal.nD Cert.ReferenceQkvIdeal.τ).loc Cert.ReferenceQkvIdeal.main_arg5) = m ((c.tc : Thread Cert.ReferenceQkvIdeal.nD Cert.ReferenceQkvIdeal.τ).loc Cert.ReferenceQkvIdeal.main_arg5))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)) (v2 : (c : Dev Cert.KernelIdeal.nD) → Buf (Elt Ideal) ((c.tc : Thread Cert.KernelIdeal.nD Cert.KernelIdeal.τ).loc Cert.KernelIdeal.main_v17_2)) (v3 : (c : Dev Cert.KernelIdeal.nD) → Buf (Elt Ideal) ((c.tc : Thread Cert.KernelIdeal.nD Cert.KernelIdeal.τ).loc Cert.KernelIdeal.main_v17_3)) (v4 : (c : Dev Cert.KernelIdeal.nD) → Buf (Elt Ideal) ((c.tc : Thread Cert.KernelIdeal.nD Cert.KernelIdeal.τ).loc Cert.KernelIdeal.main_v17_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_v17_2) = v2 c
          ∧ r.2.mem ((c.tc : Thread Cert.KernelIdeal.nD Cert.KernelIdeal.τ).loc Cert.KernelIdeal.main_v17_3) = v3 c
          ∧ r.2.mem ((c.tc : Thread Cert.KernelIdeal.nD Cert.KernelIdeal.τ).loc Cert.KernelIdeal.main_v17_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_v37) = v3 c
          ∧ r.2.mem ((c.tc : Thread Cert.ReferenceIdeal.nD Cert.ReferenceIdeal.τ).loc Cert.ReferenceIdeal.main_v39) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_KernelFinal_KernelFinalIdeal : Prop :=
  True

def algebraic_KernelFinalIdeal_ReferenceFinalIdeal [hKernelFinalIdeal : Cert.KernelFinalIdeal.Facts] [hReferenceFinalIdeal : Cert.ReferenceFinalIdeal.Facts] : Prop :=
  ∀ (m : (ℓ : Loc Cert.KernelFinalIdeal.nD Cert.KernelFinalIdeal.τ Cert.KernelFinalIdeal.sig) → Buf (Elt Ideal) ℓ) (g : Dev Cert.KernelFinalIdeal.nD → PrngReg)
    (m' : (ℓ : Loc Cert.ReferenceFinalIdeal.nD Cert.ReferenceFinalIdeal.τ Cert.ReferenceFinalIdeal.sig) → Buf (Elt Ideal) ℓ) (g' : Dev Cert.ReferenceFinalIdeal.nD → PrngReg), Pre_KernelFinalIdeal m →
    (∀ c : Dev Cert.KernelFinalIdeal.nD,
      m' ((c.tc : Thread Cert.ReferenceFinalIdeal.nD Cert.ReferenceFinalIdeal.τ).loc Cert.ReferenceFinalIdeal.main_arg0) = m ((c.tc : Thread Cert.KernelFinalIdeal.nD Cert.KernelFinalIdeal.τ).loc Cert.KernelFinalIdeal.main_arg0)
      ∧ m' ((c.tc : Thread Cert.ReferenceFinalIdeal.nD Cert.ReferenceFinalIdeal.τ).loc Cert.ReferenceFinalIdeal.main_arg1) = m ((c.tc : Thread Cert.KernelFinalIdeal.nD Cert.KernelFinalIdeal.τ).loc Cert.KernelFinalIdeal.main_arg1)
      ∧ m' ((c.tc : Thread Cert.ReferenceFinalIdeal.nD Cert.ReferenceFinalIdeal.τ).loc Cert.ReferenceFinalIdeal.main_arg2) = m ((c.tc : Thread Cert.KernelFinalIdeal.nD Cert.KernelFinalIdeal.τ).loc Cert.KernelFinalIdeal.main_arg2)
      ∧ m' ((c.tc : Thread Cert.ReferenceFinalIdeal.nD Cert.ReferenceFinalIdeal.τ).loc Cert.ReferenceFinalIdeal.main_arg3) = m ((c.tc : Thread Cert.KernelFinalIdeal.nD Cert.KernelFinalIdeal.τ).loc Cert.KernelFinalIdeal.main_arg3)
      ∧ m' ((c.tc : Thread Cert.ReferenceFinalIdeal.nD Cert.ReferenceFinalIdeal.τ).loc Cert.ReferenceFinalIdeal.main_arg4) = m ((c.tc : Thread Cert.KernelFinalIdeal.nD Cert.KernelFinalIdeal.τ).loc Cert.KernelFinalIdeal.main_arg4)
      ∧ m' ((c.tc : Thread Cert.ReferenceFinalIdeal.nD Cert.ReferenceFinalIdeal.τ).loc Cert.ReferenceFinalIdeal.main_arg5) = m ((c.tc : Thread Cert.KernelFinalIdeal.nD Cert.KernelFinalIdeal.τ).loc Cert.KernelFinalIdeal.main_arg5)
      ∧ m' ((c.tc : Thread Cert.ReferenceFinalIdeal.nD Cert.ReferenceFinalIdeal.τ).loc Cert.ReferenceFinalIdeal.main_arg6) = m ((c.tc : Thread Cert.KernelFinalIdeal.nD Cert.KernelFinalIdeal.τ).loc Cert.KernelFinalIdeal.main_arg6)) →
    ∃ (v0 : (c : Dev Cert.KernelFinalIdeal.nD) → Buf (Elt Ideal) ((c.tc : Thread Cert.KernelFinalIdeal.nD Cert.KernelFinalIdeal.τ).loc Cert.KernelFinalIdeal.main_v12)),
      θ_run (Cert.KernelFinalIdeal.defs (F := Ideal)) (onTc (τ := Cert.KernelFinalIdeal.τ) (Cert.KernelFinalIdeal.main (F := Ideal))) ⟨m, fun _ => 0, g⟩ (fun r => ∀ c : Dev Cert.KernelFinalIdeal.nD,
          r.2.mem ((c.tc : Thread Cert.KernelFinalIdeal.nD Cert.KernelFinalIdeal.τ).loc Cert.KernelFinalIdeal.main_v12) = v0 c
          ∧ r.2.mem ((c.tc : Thread Cert.KernelFinalIdeal.nD Cert.KernelFinalIdeal.τ).loc Cert.KernelFinalIdeal.main_arg0) = m ((c.tc : Thread Cert.KernelFinalIdeal.nD Cert.KernelFinalIdeal.τ).loc Cert.KernelFinalIdeal.main_arg0)
          ∧ r.2.mem ((c.tc : Thread Cert.KernelFinalIdeal.nD Cert.KernelFinalIdeal.τ).loc Cert.KernelFinalIdeal.main_arg1) = m ((c.tc : Thread Cert.KernelFinalIdeal.nD Cert.KernelFinalIdeal.τ).loc Cert.KernelFinalIdeal.main_arg1)
          ∧ r.2.mem ((c.tc : Thread Cert.KernelFinalIdeal.nD Cert.KernelFinalIdeal.τ).loc Cert.KernelFinalIdeal.main_arg2) = m ((c.tc : Thread Cert.KernelFinalIdeal.nD Cert.KernelFinalIdeal.τ).loc Cert.KernelFinalIdeal.main_arg2)
          ∧ r.2.mem ((c.tc : Thread Cert.KernelFinalIdeal.nD Cert.KernelFinalIdeal.τ).loc Cert.KernelFinalIdeal.main_arg3) = m ((c.tc : Thread Cert.KernelFinalIdeal.nD Cert.KernelFinalIdeal.τ).loc Cert.KernelFinalIdeal.main_arg3)
          ∧ r.2.mem ((c.tc : Thread Cert.KernelFinalIdeal.nD Cert.KernelFinalIdeal.τ).loc Cert.KernelFinalIdeal.main_arg4) = m ((c.tc : Thread Cert.KernelFinalIdeal.nD Cert.KernelFinalIdeal.τ).loc Cert.KernelFinalIdeal.main_arg4)
          ∧ r.2.mem ((c.tc : Thread Cert.KernelFinalIdeal.nD Cert.KernelFinalIdeal.τ).loc Cert.KernelFinalIdeal.main_arg5) = m ((c.tc : Thread Cert.KernelFinalIdeal.nD Cert.KernelFinalIdeal.τ).loc Cert.KernelFinalIdeal.main_arg5)
          ∧ r.2.mem ((c.tc : Thread Cert.KernelFinalIdeal.nD Cert.KernelFinalIdeal.τ).loc Cert.KernelFinalIdeal.main_arg6) = m ((c.tc : Thread Cert.KernelFinalIdeal.nD Cert.KernelFinalIdeal.τ).loc Cert.KernelFinalIdeal.main_arg6))
      ∧ θ_run (Cert.ReferenceFinalIdeal.defs (F := Ideal)) (onTc (τ := Cert.ReferenceFinalIdeal.τ) (Cert.ReferenceFinalIdeal.main (F := Ideal))) ⟨m', fun _ => 0, g'⟩ (fun r => ∀ c : Dev Cert.ReferenceFinalIdeal.nD,
          r.2.mem ((c.tc : Thread Cert.ReferenceFinalIdeal.nD Cert.ReferenceFinalIdeal.τ).loc Cert.ReferenceFinalIdeal.main_v40) = v0 c
          ∧ r.2.mem ((c.tc : Thread Cert.ReferenceFinalIdeal.nD Cert.ReferenceFinalIdeal.τ).loc Cert.ReferenceFinalIdeal.main_arg0) = m' ((c.tc : Thread Cert.ReferenceFinalIdeal.nD Cert.ReferenceFinalIdeal.τ).loc Cert.ReferenceFinalIdeal.main_arg0)
          ∧ r.2.mem ((c.tc : Thread Cert.ReferenceFinalIdeal.nD Cert.ReferenceFinalIdeal.τ).loc Cert.ReferenceFinalIdeal.main_arg1) = m' ((c.tc : Thread Cert.ReferenceFinalIdeal.nD Cert.ReferenceFinalIdeal.τ).loc Cert.ReferenceFinalIdeal.main_arg1)
          ∧ r.2.mem ((c.tc : Thread Cert.ReferenceFinalIdeal.nD Cert.ReferenceFinalIdeal.τ).loc Cert.ReferenceFinalIdeal.main_arg2) = m' ((c.tc : Thread Cert.ReferenceFinalIdeal.nD Cert.ReferenceFinalIdeal.τ).loc Cert.ReferenceFinalIdeal.main_arg2)
          ∧ r.2.mem ((c.tc : Thread Cert.ReferenceFinalIdeal.nD Cert.ReferenceFinalIdeal.τ).loc Cert.ReferenceFinalIdeal.main_arg3) = m' ((c.tc : Thread Cert.ReferenceFinalIdeal.nD Cert.ReferenceFinalIdeal.τ).loc Cert.ReferenceFinalIdeal.main_arg3)
          ∧ r.2.mem ((c.tc : Thread Cert.ReferenceFinalIdeal.nD Cert.ReferenceFinalIdeal.τ).loc Cert.ReferenceFinalIdeal.main_arg4) = m' ((c.tc : Thread Cert.ReferenceFinalIdeal.nD Cert.ReferenceFinalIdeal.τ).loc Cert.ReferenceFinalIdeal.main_arg4)
          ∧ r.2.mem ((c.tc : Thread Cert.ReferenceFinalIdeal.nD Cert.ReferenceFinalIdeal.τ).loc Cert.ReferenceFinalIdeal.main_arg5) = m' ((c.tc : Thread Cert.ReferenceFinalIdeal.nD Cert.ReferenceFinalIdeal.τ).loc Cert.ReferenceFinalIdeal.main_arg5)
          ∧ r.2.mem ((c.tc : Thread Cert.ReferenceFinalIdeal.nD Cert.ReferenceFinalIdeal.τ).loc Cert.ReferenceFinalIdeal.main_arg6) = m' ((c.tc : Thread Cert.ReferenceFinalIdeal.nD Cert.ReferenceFinalIdeal.τ).loc Cert.ReferenceFinalIdeal.main_arg6))

def preserves_KernelMid_KernelMidIdeal : Prop :=
  True

def algebraic_KernelMidIdeal_ReferenceMidIdeal [hKernelMidIdeal : Cert.KernelMidIdeal.Facts] [hReferenceMidIdeal : Cert.ReferenceMidIdeal.Facts] : Prop :=
  ∀ (m : (ℓ : Loc Cert.KernelMidIdeal.nD Cert.KernelMidIdeal.τ Cert.KernelMidIdeal.sig) → Buf (Elt Ideal) ℓ) (g : Dev Cert.KernelMidIdeal.nD → PrngReg)
    (m' : (ℓ : Loc Cert.ReferenceMidIdeal.nD Cert.ReferenceMidIdeal.τ Cert.ReferenceMidIdeal.sig) → Buf (Elt Ideal) ℓ) (g' : Dev Cert.ReferenceMidIdeal.nD → PrngReg), Pre_KernelMidIdeal m →
    (∀ c : Dev Cert.KernelMidIdeal.nD,
      m' ((c.tc : Thread Cert.ReferenceMidIdeal.nD Cert.ReferenceMidIdeal.τ).loc Cert.ReferenceMidIdeal.main_arg0) = m ((c.tc : Thread Cert.KernelMidIdeal.nD Cert.KernelMidIdeal.τ).loc Cert.KernelMidIdeal.main_arg0)
      ∧ m' ((c.tc : Thread Cert.ReferenceMidIdeal.nD Cert.ReferenceMidIdeal.τ).loc Cert.ReferenceMidIdeal.main_arg1) = m ((c.tc : Thread Cert.KernelMidIdeal.nD Cert.KernelMidIdeal.τ).loc Cert.KernelMidIdeal.main_arg1)
      ∧ m' ((c.tc : Thread Cert.ReferenceMidIdeal.nD Cert.ReferenceMidIdeal.τ).loc Cert.ReferenceMidIdeal.main_arg2) = m ((c.tc : Thread Cert.KernelMidIdeal.nD Cert.KernelMidIdeal.τ).loc Cert.KernelMidIdeal.main_arg2)
      ∧ m' ((c.tc : Thread Cert.ReferenceMidIdeal.nD Cert.ReferenceMidIdeal.τ).loc Cert.ReferenceMidIdeal.main_arg3) = m ((c.tc : Thread Cert.KernelMidIdeal.nD Cert.KernelMidIdeal.τ).loc Cert.KernelMidIdeal.main_arg3)
      ∧ m' ((c.tc : Thread Cert.ReferenceMidIdeal.nD Cert.ReferenceMidIdeal.τ).loc Cert.ReferenceMidIdeal.main_arg4) = m ((c.tc : Thread Cert.KernelMidIdeal.nD Cert.KernelMidIdeal.τ).loc Cert.KernelMidIdeal.main_arg4)
      ∧ m' ((c.tc : Thread Cert.ReferenceMidIdeal.nD Cert.ReferenceMidIdeal.τ).loc Cert.ReferenceMidIdeal.main_arg5) = m ((c.tc : Thread Cert.KernelMidIdeal.nD Cert.KernelMidIdeal.τ).loc Cert.KernelMidIdeal.main_arg5)
      ∧ m' ((c.tc : Thread Cert.ReferenceMidIdeal.nD Cert.ReferenceMidIdeal.τ).loc Cert.ReferenceMidIdeal.main_arg6) = m ((c.tc : Thread Cert.KernelMidIdeal.nD Cert.KernelMidIdeal.τ).loc Cert.KernelMidIdeal.main_arg6)) →
    ∃ (v0 : (c : Dev Cert.KernelMidIdeal.nD) → Buf (Elt Ideal) ((c.tc : Thread Cert.KernelMidIdeal.nD Cert.KernelMidIdeal.τ).loc Cert.KernelMidIdeal.main_v13_0)) (v1 : (c : Dev Cert.KernelMidIdeal.nD) → Buf (Elt Ideal) ((c.tc : Thread Cert.KernelMidIdeal.nD Cert.KernelMidIdeal.τ).loc Cert.KernelMidIdeal.main_v13_1)),
      θ_run (Cert.KernelMidIdeal.defs (F := Ideal)) (onTc (τ := Cert.KernelMidIdeal.τ) (Cert.KernelMidIdeal.main (F := Ideal))) ⟨m, fun _ => 0, g⟩ (fun r => ∀ c : Dev Cert.KernelMidIdeal.nD,
          r.2.mem ((c.tc : Thread Cert.KernelMidIdeal.nD Cert.KernelMidIdeal.τ).loc Cert.KernelMidIdeal.main_v13_0) = v0 c
          ∧ r.2.mem ((c.tc : Thread Cert.KernelMidIdeal.nD Cert.KernelMidIdeal.τ).loc Cert.KernelMidIdeal.main_v13_1) = v1 c
          ∧ r.2.mem ((c.tc : Thread Cert.KernelMidIdeal.nD Cert.KernelMidIdeal.τ).loc Cert.KernelMidIdeal.main_arg0) = m ((c.tc : Thread Cert.KernelMidIdeal.nD Cert.KernelMidIdeal.τ).loc Cert.KernelMidIdeal.main_arg0)
          ∧ r.2.mem ((c.tc : Thread Cert.KernelMidIdeal.nD Cert.KernelMidIdeal.τ).loc Cert.KernelMidIdeal.main_arg1) = m ((c.tc : Thread Cert.KernelMidIdeal.nD Cert.KernelMidIdeal.τ).loc Cert.KernelMidIdeal.main_arg1)
          ∧ r.2.mem ((c.tc : Thread Cert.KernelMidIdeal.nD Cert.KernelMidIdeal.τ).loc Cert.KernelMidIdeal.main_arg2) = m ((c.tc : Thread Cert.KernelMidIdeal.nD Cert.KernelMidIdeal.τ).loc Cert.KernelMidIdeal.main_arg2)
          ∧ r.2.mem ((c.tc : Thread Cert.KernelMidIdeal.nD Cert.KernelMidIdeal.τ).loc Cert.KernelMidIdeal.main_arg3) = m ((c.tc : Thread Cert.KernelMidIdeal.nD Cert.KernelMidIdeal.τ).loc Cert.KernelMidIdeal.main_arg3)
          ∧ r.2.mem ((c.tc : Thread Cert.KernelMidIdeal.nD Cert.KernelMidIdeal.τ).loc Cert.KernelMidIdeal.main_arg4) = m ((c.tc : Thread Cert.KernelMidIdeal.nD Cert.KernelMidIdeal.τ).loc Cert.KernelMidIdeal.main_arg4)
          ∧ r.2.mem ((c.tc : Thread Cert.KernelMidIdeal.nD Cert.KernelMidIdeal.τ).loc Cert.KernelMidIdeal.main_arg5) = m ((c.tc : Thread Cert.KernelMidIdeal.nD Cert.KernelMidIdeal.τ).loc Cert.KernelMidIdeal.main_arg5)
          ∧ r.2.mem ((c.tc : Thread Cert.KernelMidIdeal.nD Cert.KernelMidIdeal.τ).loc Cert.KernelMidIdeal.main_arg6) = m ((c.tc : Thread Cert.KernelMidIdeal.nD Cert.KernelMidIdeal.τ).loc Cert.KernelMidIdeal.main_arg6))
      ∧ θ_run (Cert.ReferenceMidIdeal.defs (F := Ideal)) (onTc (τ := Cert.ReferenceMidIdeal.τ) (Cert.ReferenceMidIdeal.main (F := Ideal))) ⟨m', fun _ => 0, g'⟩ (fun r => ∀ c : Dev Cert.ReferenceMidIdeal.nD,
          r.2.mem ((c.tc : Thread Cert.ReferenceMidIdeal.nD Cert.ReferenceMidIdeal.τ).loc Cert.ReferenceMidIdeal.main_v41) = v0 c
          ∧ r.2.mem ((c.tc : Thread Cert.ReferenceMidIdeal.nD Cert.ReferenceMidIdeal.τ).loc Cert.ReferenceMidIdeal.main_v43) = v1 c
          ∧ r.2.mem ((c.tc : Thread Cert.ReferenceMidIdeal.nD Cert.ReferenceMidIdeal.τ).loc Cert.ReferenceMidIdeal.main_arg0) = m' ((c.tc : Thread Cert.ReferenceMidIdeal.nD Cert.ReferenceMidIdeal.τ).loc Cert.ReferenceMidIdeal.main_arg0)
          ∧ r.2.mem ((c.tc : Thread Cert.ReferenceMidIdeal.nD Cert.ReferenceMidIdeal.τ).loc Cert.ReferenceMidIdeal.main_arg1) = m' ((c.tc : Thread Cert.ReferenceMidIdeal.nD Cert.ReferenceMidIdeal.τ).loc Cert.ReferenceMidIdeal.main_arg1)
          ∧ r.2.mem ((c.tc : Thread Cert.ReferenceMidIdeal.nD Cert.ReferenceMidIdeal.τ).loc Cert.ReferenceMidIdeal.main_arg2) = m' ((c.tc : Thread Cert.ReferenceMidIdeal.nD Cert.ReferenceMidIdeal.τ).loc Cert.ReferenceMidIdeal.main_arg2)
          ∧ r.2.mem ((c.tc : Thread Cert.ReferenceMidIdeal.nD Cert.ReferenceMidIdeal.τ).loc Cert.ReferenceMidIdeal.main_arg3) = m' ((c.tc : Thread Cert.ReferenceMidIdeal.nD Cert.ReferenceMidIdeal.τ).loc Cert.ReferenceMidIdeal.main_arg3)
          ∧ r.2.mem ((c.tc : Thread Cert.ReferenceMidIdeal.nD Cert.ReferenceMidIdeal.τ).loc Cert.ReferenceMidIdeal.main_arg4) = m' ((c.tc : Thread Cert.ReferenceMidIdeal.nD Cert.ReferenceMidIdeal.τ).loc Cert.ReferenceMidIdeal.main_arg4)
          ∧ r.2.mem ((c.tc : Thread Cert.ReferenceMidIdeal.nD Cert.ReferenceMidIdeal.τ).loc Cert.ReferenceMidIdeal.main_arg5) = m' ((c.tc : Thread Cert.ReferenceMidIdeal.nD Cert.ReferenceMidIdeal.τ).loc Cert.ReferenceMidIdeal.main_arg5)
          ∧ r.2.mem ((c.tc : Thread Cert.ReferenceMidIdeal.nD Cert.ReferenceMidIdeal.τ).loc Cert.ReferenceMidIdeal.main_arg6) = m' ((c.tc : Thread Cert.ReferenceMidIdeal.nD Cert.ReferenceMidIdeal.τ).loc Cert.ReferenceMidIdeal.main_arg6))

def preserves_KernelQkv_KernelQkvIdeal : Prop :=
  IdealRules.named_const.Statement Cert.KernelQkvIdeal.κ "scale_log2e" .f32 0x3E38AA3B#32 (((1 / 8) * (Real.log 2)⁻¹ : ℝ) : EReal)

def algebraic_KernelQkvIdeal_ReferenceQkvIdeal [hKernelQkvIdeal : Cert.KernelQkvIdeal.Facts] [hReferenceQkvIdeal : Cert.ReferenceQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg)
    (m' : (ℓ : Loc Cert.ReferenceQkvIdeal.nD Cert.ReferenceQkvIdeal.τ Cert.ReferenceQkvIdeal.sig) → Buf (Elt Ideal) ℓ) (g' : Dev Cert.ReferenceQkvIdeal.nD → PrngReg), Pre_KernelQkvIdeal m →
    (∀ c : Dev Cert.KernelQkvIdeal.nD,
      m' ((c.tc : Thread Cert.ReferenceQkvIdeal.nD Cert.ReferenceQkvIdeal.τ).loc Cert.ReferenceQkvIdeal.main_arg0) = m ((c.tc : Thread Cert.KernelQkvIdeal.nD Cert.KernelQkvIdeal.τ).loc Cert.KernelQkvIdeal.main_arg0)
      ∧ m' ((c.tc : Thread Cert.ReferenceQkvIdeal.nD Cert.ReferenceQkvIdeal.τ).loc Cert.ReferenceQkvIdeal.main_arg1) = m ((c.tc : Thread Cert.KernelQkvIdeal.nD Cert.KernelQkvIdeal.τ).loc Cert.KernelQkvIdeal.main_arg1)
      ∧ m' ((c.tc : Thread Cert.ReferenceQkvIdeal.nD Cert.ReferenceQkvIdeal.τ).loc Cert.ReferenceQkvIdeal.main_arg2) = m ((c.tc : Thread Cert.KernelQkvIdeal.nD Cert.KernelQkvIdeal.τ).loc Cert.KernelQkvIdeal.main_arg2)
      ∧ m' ((c.tc : Thread Cert.ReferenceQkvIdeal.nD Cert.ReferenceQkvIdeal.τ).loc Cert.ReferenceQkvIdeal.main_arg3) = m ((c.tc : Thread Cert.KernelQkvIdeal.nD Cert.KernelQkvIdeal.τ).loc Cert.KernelQkvIdeal.main_arg3)
      ∧ m' ((c.tc : Thread Cert.ReferenceQkvIdeal.nD Cert.ReferenceQkvIdeal.τ).loc Cert.ReferenceQkvIdeal.main_arg4) = m ((c.tc : Thread Cert.KernelQkvIdeal.nD Cert.KernelQkvIdeal.τ).loc Cert.KernelQkvIdeal.main_arg4)
      ∧ m' ((c.tc : Thread Cert.ReferenceQkvIdeal.nD Cert.ReferenceQkvIdeal.τ).loc Cert.ReferenceQkvIdeal.main_arg5) = m ((c.tc : Thread Cert.KernelQkvIdeal.nD Cert.KernelQkvIdeal.τ).loc Cert.KernelQkvIdeal.main_arg5)) →
    ∃ (v0 : (c : Dev Cert.KernelQkvIdeal.nD) → Buf (Elt Ideal) ((c.tc : Thread Cert.KernelQkvIdeal.nD Cert.KernelQkvIdeal.τ).loc Cert.KernelQkvIdeal.main_v4_0)) (v1 : (c : Dev Cert.KernelQkvIdeal.nD) → Buf (Elt Ideal) ((c.tc : Thread Cert.KernelQkvIdeal.nD Cert.KernelQkvIdeal.τ).loc Cert.KernelQkvIdeal.main_v4_1)) (v2 : (c : Dev Cert.KernelQkvIdeal.nD) → Buf (Elt Ideal) ((c.tc : Thread Cert.KernelQkvIdeal.nD Cert.KernelQkvIdeal.τ).loc Cert.KernelQkvIdeal.main_v4_2)) (v3 : (c : Dev Cert.KernelQkvIdeal.nD) → Buf (Elt Ideal) ((c.tc : Thread Cert.KernelQkvIdeal.nD Cert.KernelQkvIdeal.τ).loc Cert.KernelQkvIdeal.main_v4_3)),
      θ_run (Cert.KernelQkvIdeal.defs (F := Ideal)) (onTc (τ := Cert.KernelQkvIdeal.τ) (Cert.KernelQkvIdeal.main (F := Ideal))) ⟨m, fun _ => 0, g⟩ (fun r => ∀ c : Dev Cert.KernelQkvIdeal.nD,
          r.2.mem ((c.tc : Thread Cert.KernelQkvIdeal.nD Cert.KernelQkvIdeal.τ).loc Cert.KernelQkvIdeal.main_v4_0) = v0 c
          ∧ r.2.mem ((c.tc : Thread Cert.KernelQkvIdeal.nD Cert.KernelQkvIdeal.τ).loc Cert.KernelQkvIdeal.main_v4_1) = v1 c
          ∧ r.2.mem ((c.tc : Thread Cert.KernelQkvIdeal.nD Cert.KernelQkvIdeal.τ).loc Cert.KernelQkvIdeal.main_v4_2) = v2 c
          ∧ r.2.mem ((c.tc : Thread Cert.KernelQkvIdeal.nD Cert.KernelQkvIdeal.τ).loc Cert.KernelQkvIdeal.main_v4_3) = v3 c
          ∧ r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
          ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1)
          ∧ r.2.mem ((c.tc : Thread Cert.KernelQkvIdeal.nD Cert.KernelQkvIdeal.τ).loc Cert.KernelQkvIdeal.main_arg2) = m ((c.tc : Thread Cert.KernelQkvIdeal.nD Cert.KernelQkvIdeal.τ).loc Cert.KernelQkvIdeal.main_arg2)
          ∧ r.2.mem ((c.tc : Thread Cert.KernelQkvIdeal.nD Cert.KernelQkvIdeal.τ).loc Cert.KernelQkvIdeal.main_arg3) = m ((c.tc : Thread Cert.KernelQkvIdeal.nD Cert.KernelQkvIdeal.τ).loc Cert.KernelQkvIdeal.main_arg3)
          ∧ r.2.mem ((c.tc : Thread Cert.KernelQkvIdeal.nD Cert.KernelQkvIdeal.τ).loc Cert.KernelQkvIdeal.main_arg4) = m ((c.tc : Thread Cert.KernelQkvIdeal.nD Cert.KernelQkvIdeal.τ).loc Cert.KernelQkvIdeal.main_arg4)
          ∧ r.2.mem ((c.tc : Thread Cert.KernelQkvIdeal.nD Cert.KernelQkvIdeal.τ).loc Cert.KernelQkvIdeal.main_arg5) = m ((c.tc : Thread Cert.KernelQkvIdeal.nD Cert.KernelQkvIdeal.τ).loc Cert.KernelQkvIdeal.main_arg5))
      ∧ θ_run (Cert.ReferenceQkvIdeal.defs (F := Ideal)) (onTc (τ := Cert.ReferenceQkvIdeal.τ) (Cert.ReferenceQkvIdeal.main (F := Ideal))) ⟨m', fun _ => 0, g'⟩ (fun r => ∀ c : Dev Cert.ReferenceQkvIdeal.nD,
          r.2.mem ((c.tc : Thread Cert.ReferenceQkvIdeal.nD Cert.ReferenceQkvIdeal.τ).loc Cert.ReferenceQkvIdeal.main_v25) = v0 c
          ∧ r.2.mem ((c.tc : Thread Cert.ReferenceQkvIdeal.nD Cert.ReferenceQkvIdeal.τ).loc Cert.ReferenceQkvIdeal.main_v26) = v1 c
          ∧ r.2.mem ((c.tc : Thread Cert.ReferenceQkvIdeal.nD Cert.ReferenceQkvIdeal.τ).loc Cert.ReferenceQkvIdeal.main_v28) = v2 c
          ∧ r.2.mem ((c.tc : Thread Cert.ReferenceQkvIdeal.nD Cert.ReferenceQkvIdeal.τ).loc Cert.ReferenceQkvIdeal.main_v30) = v3 c
          ∧ r.2.mem ((c.tc : Thread Cert.ReferenceQkvIdeal.nD Cert.ReferenceQkvIdeal.τ).loc Cert.ReferenceQkvIdeal.main_arg0) = m' ((c.tc : Thread Cert.ReferenceQkvIdeal.nD Cert.ReferenceQkvIdeal.τ).loc Cert.ReferenceQkvIdeal.main_arg0)
          ∧ r.2.mem ((c.tc : Thread Cert.ReferenceQkvIdeal.nD Cert.ReferenceQkvIdeal.τ).loc Cert.ReferenceQkvIdeal.main_arg1) = m' ((c.tc : Thread Cert.ReferenceQkvIdeal.nD Cert.ReferenceQkvIdeal.τ).loc Cert.ReferenceQkvIdeal.main_arg1)
          ∧ r.2.mem ((c.tc : Thread Cert.ReferenceQkvIdeal.nD Cert.ReferenceQkvIdeal.τ).loc Cert.ReferenceQkvIdeal.main_arg2) = m' ((c.tc : Thread Cert.ReferenceQkvIdeal.nD Cert.ReferenceQkvIdeal.τ).loc Cert.ReferenceQkvIdeal.main_arg2)
          ∧ r.2.mem ((c.tc : Thread Cert.ReferenceQkvIdeal.nD Cert.ReferenceQkvIdeal.τ).loc Cert.ReferenceQkvIdeal.main_arg3) = m' ((c.tc : Thread Cert.ReferenceQkvIdeal.nD Cert.ReferenceQkvIdeal.τ).loc Cert.ReferenceQkvIdeal.main_arg3)
          ∧ r.2.mem ((c.tc : Thread Cert.ReferenceQkvIdeal.nD Cert.ReferenceQkvIdeal.τ).loc Cert.ReferenceQkvIdeal.main_arg4) = m' ((c.tc : Thread Cert.ReferenceQkvIdeal.nD Cert.ReferenceQkvIdeal.τ).loc Cert.ReferenceQkvIdeal.main_arg4)
          ∧ r.2.mem ((c.tc : Thread Cert.ReferenceQkvIdeal.nD Cert.ReferenceQkvIdeal.τ).loc Cert.ReferenceQkvIdeal.main_arg5) = m' ((c.tc : Thread Cert.ReferenceQkvIdeal.nD Cert.ReferenceQkvIdeal.τ).loc Cert.ReferenceQkvIdeal.main_arg5))

def Claim : Prop :=
  ∃ (hKernel : Cert.Kernel.Facts) (hKernelIdeal : Cert.KernelIdeal.Facts) (hReferenceIdeal : Cert.ReferenceIdeal.Facts) (hKernelFinal : Cert.KernelFinal.Facts) (hKernelFinalIdeal : Cert.KernelFinalIdeal.Facts) (hReferenceFinalIdeal : Cert.ReferenceFinalIdeal.Facts) (hKernelMid : Cert.KernelMid.Facts) (hKernelMidIdeal : Cert.KernelMidIdeal.Facts) (hReferenceMidIdeal : Cert.ReferenceMidIdeal.Facts) (hKernelQkv : Cert.KernelQkv.Facts) (hKernelQkvIdeal : Cert.KernelQkvIdeal.Facts) (hReferenceQkvIdeal : Cert.ReferenceQkvIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_KernelFinal (hKernelFinal := hKernelFinal)
    ∧ quiescent_KernelFinalIdeal (hKernelFinalIdeal := hKernelFinalIdeal)
    ∧ quiescent_ReferenceFinalIdeal (hReferenceFinalIdeal := hReferenceFinalIdeal)
    ∧ quiescent_KernelMid (hKernelMid := hKernelMid)
    ∧ quiescent_KernelMidIdeal (hKernelMidIdeal := hKernelMidIdeal)
    ∧ quiescent_ReferenceMidIdeal (hReferenceMidIdeal := hReferenceMidIdeal)
    ∧ quiescent_KernelQkv (hKernelQkv := hKernelQkv)
    ∧ quiescent_KernelQkvIdeal (hKernelQkvIdeal := hKernelQkvIdeal)
    ∧ quiescent_ReferenceQkvIdeal (hReferenceQkvIdeal := hReferenceQkvIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_KernelFinal_KernelFinalIdeal
    ∧ algebraic_KernelFinalIdeal_ReferenceFinalIdeal (hKernelFinalIdeal := hKernelFinalIdeal) (hReferenceFinalIdeal := hReferenceFinalIdeal)
    ∧ preserves_KernelMid_KernelMidIdeal
    ∧ algebraic_KernelMidIdeal_ReferenceMidIdeal (hKernelMidIdeal := hKernelMidIdeal) (hReferenceMidIdeal := hReferenceMidIdeal)
    ∧ preserves_KernelQkv_KernelQkvIdeal
    ∧ algebraic_KernelQkvIdeal_ReferenceQkvIdeal (hKernelQkvIdeal := hKernelQkvIdeal) (hReferenceQkvIdeal := hReferenceQkvIdeal)
-- ==== Pre_finite_scores.lean ====
abbrev S4x4096x3072 : Shape := ⟨3, ![4, 4096, 3072]⟩
abbrev S1x16x513 : Shape := ⟨3, ![1, 16, 513]⟩
abbrev S1x1024x4112 : Shape := ⟨3, ![1, 1024, 4112]⟩
abbrev S1x1024x1024 : Shape := ⟨3, ![1, 1024, 1024]⟩
abbrev S2x1024x4096 : Shape := ⟨3, ![2, 1024, 4096]⟩
abbrev S2x4096x1024 : Shape := ⟨3, ![2, 4096, 1024]⟩
abbrev S4x4096x2048 : Shape := ⟨3, ![4, 4096, 2048]⟩
abbrev S_ : Shape := ⟨0, ![]⟩

class Facts : Prop where
  slices_S4x4096x3072_S4x4096x2048_0_0_0 : S4x4096x3072.Slices ![0, 0, 0] S4x4096x2048
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S1x16x513 : S_.BroadcastsInDim S1x16x513 (![] : Fin 0 → Fin S1x16x513.rank)
  reducesTo_S1x16x513_S_d0_1_2 : S1x16x513.ReducesTo [0, 1, 2] S_

variable [Facts]

def fn {F : FTy → Type} [FloatOps F] (main_arg0 : FVec F S4x4096x3072 .f32) (main_arg1 : FVec F S1x16x513 .f32) (main_arg2 : FVec F S1x1024x4112 .f32) (main_arg3 : FVec F S1x1024x1024 .f32) (main_arg4 : FVec F S2x1024x4096 .f32) (main_arg5 : FVec F S2x4096x1024 .f32) : IVec S_ 1 :=
  let main_v0 : FVec F S4x4096x2048 .f32 := (extractStridedSlice S4x4096x2048 ![0, 0, 0] · slices_S4x4096x3072_S4x4096x2048_0_0_0) main_arg0
  let main_v1 : FVec F S4x4096x2048 .f32 := Host.absf main_v0
  let main_cst : FVec F S_ .f32 := constant S_ .f32 0x7F800000#32
  let main_v2 : FVec F S4x4096x2048 .f32 := broadcastInDim S4x4096x2048 ![] bcast_S_S4x4096x2048 main_cst
  let main_v3 : IVec S4x4096x2048 1 := cmpf .olt main_v1 main_v2
  let main_c : IVec S_ 1 := constantI S_ 1 1#1
  let main_v4 : IVec S_ 1 := (fun x v => Host.reduce IntOp.andi x v reducesTo_S4x4096x2048_S_d0_1_2 h_S_) main_v3 main_c
  let main_v5 : FVec F S1x16x513 .f32 := Host.absf main_arg1
  let main_cst_0 : FVec F S_ .f32 := constant S_ .f32 0x7F800000#32
  let main_v6 : FVec F S1x16x513 .f32 := broadcastInDim S1x16x513 ![] bcast_S_S1x16x513 main_cst_0
  let main_v7 : IVec S1x16x513 1 := cmpf .olt main_v5 main_v6
  let main_c_1 : IVec S_ 1 := constantI S_ 1 1#1
  let main_v8 : IVec S_ 1 := (fun x v => Host.reduce IntOp.andi x v reducesTo_S1x16x513_S_d0_1_2 h_S_) main_v7 main_c_1
  let main_v9 : IVec S_ 1 := andi main_v4 main_v8
  main_v9
-- ==== Kernel.lean ====
abbrev S4x4096x3072 : Shape := ⟨3, ![4, 4096, 3072]⟩
abbrev S1x16x513 : Shape := ⟨3, ![1, 16, 513]⟩
abbrev S1x1024x4112 : Shape := ⟨3, ![1, 1024, 4112]⟩
abbrev S1x1024x1024 : Shape := ⟨3, ![1, 1024, 1024]⟩
abbrev S2x1024x4096 : Shape := ⟨3, ![2, 1024, 4096]⟩
abbrev S2x4096x1024 : Shape := ⟨3, ![2, 4096, 1024]⟩
abbrev S_ : Shape := ⟨0, ![]⟩
abbrev S4x4096x1024 : Shape := ⟨3, ![4, 4096, 1024]⟩
abbrev S4x4096x2048 : Shape := ⟨3, ![4, 4096, 2048]⟩
abbrev S16x513 : Shape := ⟨2, ![16, 513]⟩
abbrev S16x1 : Shape := ⟨2, ![16, 1]⟩
abbrev S16x383 : Shape := ⟨2, ![16, 383]⟩
abbrev S16x257 : Shape := ⟨2, ![16, 257]⟩
abbrev S16x128 : Shape := ⟨2, ![16, 128]⟩
abbrev S16x768 : Shape := ⟨2, ![16, 768]⟩
abbrev S8x2x768 : Shape := ⟨3, ![8, 2, 768]⟩
abbrev S1x1024x4096 : Shape := ⟨3, ![1, 1024, 4096]⟩
abbrev S1x4096x1024 : Shape := ⟨3, ![1, 4096, 1024]⟩
abbrev S1x4096x128 : Shape := ⟨3, ![1, 4096, 128]⟩
abbrev S1x2x768 : Shape := ⟨3, ![1, 2, 768]⟩
abbrev S1x32x4112 : Shape := ⟨3, ![1, 32, 4112]⟩
abbrev S1x32x1024 : Shape := ⟨3, ![1, 32, 1024]⟩
abbrev S1x32x4096 : Shape := ⟨3, ![1, 32, 4096]⟩
abbrev S1x128x1024 : Shape := ⟨3, ![1, 128, 1024]⟩
abbrev S4608x128 : Shape := ⟨2, ![4608, 128]⟩
abbrev S2x4608x128 : Shape := ⟨3, ![2, 4608, 128]⟩
abbrev S256x640 : Shape := ⟨2, ![256, 640]⟩
abbrev S128x640 : Shape := ⟨2, ![128, 640]⟩
abbrev S1x1x768 : Shape := ⟨3, ![1, 1, 768]⟩
abbrev S1x768 : Shape := ⟨2, ![1, 768]⟩
abbrev S128x768 : Shape := ⟨2, ![128, 768]⟩
abbrev S128x256 : Shape := ⟨2, ![128, 256]⟩
abbrev S128x1024 : Shape := ⟨2, ![128, 1024]⟩
abbrev S512x128 : Shape := ⟨2, ![512, 128]⟩
abbrev S4096x128 : Shape := ⟨2, ![4096, 128]⟩
abbrev S2x512x128 : Shape := ⟨3, ![2, 512, 128]⟩
abbrev S128x128 : Shape := ⟨2, ![128, 128]⟩
abbrev S1x128x128 : Shape := ⟨3, ![1, 128, 128]⟩
abbrev S256x128 : Shape := ⟨2, ![256, 128]⟩
abbrev S640x128 : Shape := ⟨2, ![640, 128]⟩
abbrev S256 : Shape := ⟨1, ![256]⟩
abbrev S256x1 : Shape := ⟨2, ![256, 1]⟩
abbrev S1x640x128 : Shape := ⟨3, ![1, 640, 128]⟩

abbrev nBuf : Space → Nat
  | .hbm => 31
  | .vmem => 29
  | .smem => 0
  | _ => 0

abbrev bufTy : (tb : Table) → Fin (tcTables nBuf tb) → BufTy
  | .hbm, ⟨0, _⟩ => ⟨S4x4096x3072, .f32⟩
  | .hbm, ⟨1, _⟩ => ⟨S1x16x513, .f32⟩
  | .hbm, ⟨2, _⟩ => ⟨S1x1024x4112, .f32⟩
  | .hbm, ⟨3, _⟩ => ⟨S1x1024x1024, .f32⟩
  | .hbm, ⟨4, _⟩ => ⟨S2x1024x4096, .f32⟩
  | .hbm, ⟨5, _⟩ => ⟨S2x4096x1024, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4x4096x1024, .f32⟩
  | .hbm, ⟨11, _⟩ => ⟨S_, .f32⟩
  | .hbm, ⟨12, _⟩ => ⟨S_, .f32⟩
  | .hbm, ⟨13, _⟩ => ⟨S4x4096x1024, .f32⟩
  | .hbm, ⟨14, _⟩ => ⟨S4x4096x1024, .f32⟩
  | .hbm, ⟨15, _⟩ => ⟨S4x4096x2048, .f32⟩
  | .hbm, ⟨16, _⟩ => ⟨S4x4096x3072, .f32⟩
  | .hbm, ⟨17, _⟩ => ⟨S4x4096x3072, .bf16⟩
  | .hbm, ⟨18, _⟩ => ⟨S16x513, .f32⟩
  | .hbm, ⟨19, _⟩ => ⟨S16x1, .f32⟩
  | .hbm, ⟨20, _⟩ => ⟨S16x383, .f32⟩
  | .hbm, ⟨21, _⟩ => ⟨S16x383, .f32⟩
  | .hbm, ⟨22, _⟩ => ⟨S16x257, .f32⟩
  | .hbm, ⟨23, _⟩ => ⟨S16x128, .f32⟩
  | .hbm, ⟨24, _⟩ => ⟨S16x768, .f32⟩
  | .hbm, ⟨25, _⟩ => ⟨S8x2x768, .f32⟩
  | .hbm, ⟨26, _⟩ => ⟨S4x4096x1024, .bf16⟩
  | .hbm, ⟨27, _⟩ => ⟨S1x1024x4112, .bf16⟩
  | .hbm, ⟨28, _⟩ => ⟨S1x1024x1024, .bf16⟩
  | .hbm, ⟨29, _⟩ => ⟨S1x1024x4096, .bf16⟩
  | .hbm, ⟨30, _⟩ => ⟨S1x4096x1024, .bf16⟩
  | .local _ .vmem, ⟨0, _⟩ => ⟨S1x4096x128, .bf16⟩
  | .local _ .vmem, ⟨1, _⟩ => ⟨S1x4096x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x2x768, .f32⟩
  | .local _ .vmem, ⟨7, _⟩ => ⟨S1x2x768, .f32⟩
  | .local _ .vmem, ⟨8, _⟩ => ⟨S1x32x4112, .f32⟩
  | .local _ .vmem, ⟨9, _⟩ => ⟨S1x32x4112, .f32⟩
  | .local _ .vmem, ⟨10, _⟩ => ⟨S1x32x1024, .f32⟩
  | .local _ .vmem, ⟨11, _⟩ => ⟨S1x32x1024, .f32⟩
  | .local _ .vmem, ⟨12, _⟩ => ⟨S1x32x4096, .f32⟩
  | .local _ .vmem, ⟨13, _⟩ => ⟨S1x32x4096, .f32⟩
  | .local _ .vmem, ⟨14, _⟩ => ⟨S1x128x1024, .f32⟩
  | .local _ .vmem, ⟨15, _⟩ => ⟨S1x128x1024, .f32⟩
  | .local _ .vmem, ⟨16, _⟩ => ⟨S1x4096x128, .bf16⟩
  | .local _ .vmem, ⟨17, _⟩ => ⟨S1x4096x128, .bf16⟩
  | .local _ .vmem, ⟨18, _⟩ => ⟨S1x32x4112, .bf16⟩
  | .local _ .vmem, ⟨19, _⟩ => ⟨S1x32x4112, .bf16⟩
  | .local _ .vmem, ⟨20, _⟩ => ⟨S1x32x1024, .bf16⟩
  | .local _ .vmem, ⟨21, _⟩ => ⟨S1x32x1024, .bf16⟩
  | .local _ .vmem, ⟨22, _⟩ => ⟨S1x32x4096, .bf16⟩
  | .local _ .vmem, ⟨23, _⟩ => ⟨S1x32x4096, .bf16⟩
  | .local _ .vmem, ⟨24, _⟩ => ⟨S1x128x1024, .bf16⟩
  | .local _ .vmem, ⟨25, _⟩ => ⟨S1x128x1024, .bf16⟩
  | .local _ .vmem, ⟨26, _⟩ => ⟨S4608x128, .bf16⟩
  | .local _ .vmem, ⟨27, _⟩ => ⟨S2x4608x128, .bf16⟩
  | .local _ .vmem, ⟨28, _⟩ => ⟨S256x640, .f32⟩
  | _, _ => ⟨S4x4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17_0 : Ref sig .tc := ⟨.hbm, 26, rfl⟩
abbrev main_v17_1 : Ref sig .tc := ⟨.hbm, 27, rfl⟩
abbrev main_v17_2 : Ref sig .tc := ⟨.hbm, 28, rfl⟩
abbrev main_v17_3 : Ref sig .tc := ⟨.hbm, 29, rfl⟩
abbrev main_v17_4 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![arg1.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![arg1.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_9 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_12 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x32x4112 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x32x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x32x4112 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x32x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x32x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x128x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S4x4096x3072 : Shape := ⟨3, ![4, 4096, 3072]⟩
abbrev S1x16x513 : Shape := ⟨3, ![1, 16, 513]⟩
abbrev S1x1024x4112 : Shape := ⟨3, ![1, 1024, 4112]⟩
abbrev S1x1024x1024 : Shape := ⟨3, ![1, 1024, 1024]⟩
abbrev S2x1024x4096 : Shape := ⟨3, ![2, 1024, 4096]⟩
abbrev S2x4096x1024 : Shape := ⟨3, ![2, 4096, 1024]⟩
abbrev S16x513 : Shape := ⟨2, ![16, 513]⟩
abbrev S4x4096x1024 : Shape := ⟨3, ![4, 4096, 1024]⟩
abbrev S4x4096x16x64 : Shape := ⟨4, ![4, 4096, 16, 64]⟩
abbrev S_ : Shape := ⟨0, ![]⟩
abbrev S4x4608x16x64 : Shape := ⟨4, ![4, 4608, 16, 64]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S16x64x576 : Shape := ⟨3, ![16, 64, 576]⟩
abbrev S64x4x64x16x64 : Shape := ⟨5, ![64, 4, 64, 16, 64]⟩
abbrev S1 : Shape := ⟨1, ![1]⟩
abbrev S4x64x16x64 : Shape := ⟨4, ![4, 64, 16, 64]⟩
abbrev S4x576x16x64 : Shape := ⟨4, ![4, 576, 16, 64]⟩
abbrev S4x16x64x576 : Shape := ⟨4, ![4, 16, 64, 576]⟩
abbrev S1x16x64x576 : Shape := ⟨4, ![1, 16, 64, 576]⟩
abbrev S1x1x1x576 : Shape := ⟨4, ![1, 1, 1, 576]⟩
abbrev S4x16x64 : Shape := ⟨3, ![4, 16, 64]⟩
abbrev S4x16x64x1 : Shape := ⟨4, ![4, 16, 64, 1]⟩
abbrev S4x16x64x64 : Shape := ⟨4, ![4, 16, 64, 64]⟩
abbrev S1x4x64x16x64 : Shape := ⟨5, ![1, 4, 64, 16, 64]⟩
abbrev S4x64x64x16x64 : Shape := ⟨5, ![4, 64, 64, 16, 64]⟩
abbrev S1x1024x4096 : Shape := ⟨3, ![1, 1024, 4096]⟩
abbrev S1x4096x1024 : Shape := ⟨3, ![1, 4096, 1024]⟩

abbrev nBuf : Space → Nat
  | .hbm => 147
  | .vmem => 0
  | .smem => 0
  | _ => 0

abbrev hbmTy0_0 (i : Nat) : BufTy := match i % 128 with
  | 0 => ⟨S4x4096x3072, .f32⟩
  | 1 => ⟨S1x16x513, .f32⟩
  | 2 => ⟨S1x1024x4112, .f32⟩
  | 3 => ⟨S1x1024x1024, .f32⟩
  | 4 => ⟨S2x1024x4096, .f32⟩
  | 5 => ⟨S2x4096x1024, .f32⟩
  | 6 => ⟨S16x513, .f32⟩
  | 7 => ⟨S4x4096x1024, .f32⟩
  | 8 => ⟨S4x4096x1024, .f32⟩
  | 9 => ⟨S4x4096x1024, .f32⟩
  | 10 => ⟨S4x4096x16x64, .f32⟩
  | 11 => ⟨S4x4096x16x64, .f32⟩
  | 12 => ⟨S4x4096x16x64, .f32⟩
  | 13 => ⟨S_, .i32⟩
  | 14 => ⟨S_, .f32⟩
  | 15 => ⟨S4x4608x16x64, .f32⟩
  | 16 => ⟨S_, .i32⟩
  | 17 => ⟨S_, .f32⟩
  | 18 => ⟨S4x4608x16x64, .f32⟩
  | 19 => ⟨S64, .i32⟩
  | 20 => ⟨S64x1, .i32⟩
  | 21 => ⟨S576, .i32⟩
  | 22 => ⟨S1x576, .i32⟩
  | 23 => ⟨S_, .i32⟩
  | 24 => ⟨S1x576, .i32⟩
  | 25 => ⟨S1x576, .i32⟩
  | 26 => ⟨S64x576, .i32⟩
  | 27 => ⟨S64x576, .i32⟩
  | 28 => ⟨S64x576, .i32⟩
  | 29 => ⟨S_, .i32⟩
  | 30 => ⟨S_, .i32⟩
  | 31 => ⟨S_, .i32⟩
  | 32 => ⟨S64x576, .i32⟩
  | 33 => ⟨S64x576, .i32⟩
  | 34 => ⟨S_, .i32⟩
  | 35 => ⟨S64x576, .i32⟩
  | 36 => ⟨S64x576, .i32⟩
  | 37 => ⟨S_, .i32⟩
  | 38 => ⟨S64x576, .i32⟩
  | 39 => ⟨S64x576, .i32⟩
  | 40 => ⟨S_, .i32⟩
  | 41 => ⟨S64x576, .i32⟩
  | 42 => ⟨S64x576, .i1⟩
  | 43 => ⟨S_, .i32⟩
  | 44 => ⟨S64x576, .i32⟩
  | 45 => ⟨S64x576, .i32⟩
  | 46 => ⟨S64x576, .i32⟩
  | 47 => ⟨S64x576x1, .i32⟩
  | 48 => ⟨S16x64x576, .f32⟩
  | 49 => ⟨S64, .i32⟩
  | 50 => ⟨S_, .f32⟩
  | 51 => ⟨S64x4x64x16x64, .f32⟩
  | 52 => ⟨S_, .i32⟩
  | 53 => ⟨S64, .i32⟩
  | 54 => ⟨S4x4096x16x64, .f32⟩
  | 55 => ⟨S4x4608x16x64, .f32⟩
  | 56 => ⟨S4x4608x16x64, .f32⟩
  | 57 => ⟨S16x64x576, .f32⟩
  | 58 => ⟨S_, .i32⟩
  | 59 => ⟨S64x4x64x16x64, .f32⟩
  | 60 => ⟨S_, .i32⟩
  | 61 => ⟨S_, .i1⟩
  | 62 => ⟨S1, .i32⟩
  | 63 => ⟨S_, .i32⟩
  | 64 => ⟨S_, .i32⟩
  | 65 => ⟨S_, .i32⟩
  | 66 => ⟨S_, .i32⟩
  | 67 => ⟨S_, .i1⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S4x64x16x64, .f32⟩
  | 75 => ⟨S_, .i32⟩
  | 76 => ⟨S_, .i1⟩
  | 77 => ⟨S_, .i32⟩
  | 78 => ⟨S_, .i32⟩
  | 79 => ⟨S_, .i32⟩
  | 80 => ⟨S_, .i32⟩
  | 81 => ⟨S_, .i32⟩
  | 82 => ⟨S_, .i32⟩
  | 83 => ⟨S4x576x16x64, .f32⟩
  | 84 => ⟨S_, .i32⟩
  | 85 => ⟨S_, .i1⟩
  | 86 => ⟨S_, .i32⟩
  | 87 => ⟨S_, .i32⟩
  | 88 => ⟨S_, .i32⟩
  | 89 => ⟨S_, .i32⟩
  | 90 => ⟨S_, .i32⟩
  | 91 => ⟨S_, .i32⟩
  | 92 => ⟨S4x576x16x64, .f32⟩
  | 93 => ⟨S4x16x64x576, .f32⟩
  | 94 => ⟨S_, .f32⟩
  | 95 => ⟨S4x16x64x576, .f32⟩
  | 96 => ⟨S4x16x64x576, .f32⟩
  | 97 => ⟨S1x16x64x576, .f32⟩
  | 98 => ⟨S4x16x64x576, .f32⟩
  | 99 => ⟨S4x16x64x576, .f32⟩
  | 100 => ⟨S_, .i32⟩
  | 101 => ⟨S_, .i32⟩
  | 102 => ⟨S576, .i32⟩
  | 103 => ⟨S576, .i32⟩
  | 104 => ⟨S576, .i32⟩
  | 105 => ⟨S_, .i32⟩
  | 106 => ⟨S576, .i32⟩
  | 107 => ⟨S576, .i1⟩
  | 108 => ⟨S1x1x1x576, .i1⟩
  | 109 => ⟨S_, .f32⟩
  | 110 => ⟨S_, .f32⟩
  | 111 => ⟨S4x16x64x576, .i1⟩
  | 112 => ⟨S4x16x64x576, .f32⟩
  | 113 => ⟨S4x16x64x576, .f32⟩
  | 114 => ⟨S_, .f32⟩
  | 115 => ⟨S4x16x64, .f32⟩
  | 116 => ⟨S_, .f32⟩
  | 117 => ⟨S4x16x64, .f32⟩
  | 118 => ⟨S4x16x64, .f32⟩
  | 119 => ⟨S4x16x64x1, .f32⟩
  | 120 => ⟨S4x16x64x576, .f32⟩
  | 121 => ⟨S4x16x64x576, .f32⟩
  | 122 => ⟨S4x16x64x576, .f32⟩
  | 123 => ⟨S_, .f32⟩
  | 124 => ⟨S4x16x64, .f32⟩
  | 125 => ⟨S4x16x64x1, .f32⟩
  | 126 => ⟨S4x16x64x576, .f32⟩
  | 127 => ⟨S4x16x64x576, .f32⟩
  | _ => ⟨S4x4096x3072, .f32⟩

abbrev hbmTy0_1 (i : Nat) : BufTy := match i % 128 with
  | 0 => ⟨S4x16x64x64, .f32⟩
  | 1 => ⟨S4x64x16x64, .f32⟩
  | 2 => ⟨S1x4x64x16x64, .f32⟩
  | 3 => ⟨S_, .i32⟩
  | 4 => ⟨S_, .i32⟩
  | 5 => ⟨S_, .i32⟩
  | 6 => ⟨S_, .i32⟩
  | 7 => ⟨S64x4x64x16x64, .f32⟩
  | 8 => ⟨S_, .i32⟩
  | 9 => ⟨S_, .i32⟩
  | 10 => ⟨S4x64x64x16x64, .f32⟩
  | 11 => ⟨S4x4096x1024, .f32⟩
  | 12 => ⟨S4x4096x1024, .bf16⟩
  | 13 => ⟨S1x1024x4112, .bf16⟩
  | 14 => ⟨S1x1024x1024, .bf16⟩
  | 15 => ⟨S1x1024x4096, .f32⟩
  | 16 => ⟨S1x1024x4096, .bf16⟩
  | 17 => ⟨S1x4096x1024, .f32⟩
  | 18 => ⟨S1x4096x1024, .bf16⟩
  | _ => ⟨S4x4096x3072, .f32⟩

abbrev hbmTy (i : Nat) : BufTy := match i / 128 with
  | 0 => hbmTy0_0 i
  | 1 => hbmTy0_1 i
  | _ => ⟨S4x4096x3072, .f32⟩

abbrev bufTy : (tb : Table) → Fin (tcTables nBuf tb) → BufTy
  | .hbm, ⟨i, _⟩ => hbmTy i
  | _, _ => ⟨S4x4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_call0_v0 : Ref sig .tc := ⟨.hbm, 14, rfl⟩
abbrev main_v7 : Ref sig .tc := ⟨.hbm, 15, rfl⟩
abbrev main_c_0 : Ref sig .tc := ⟨.hbm, 16, rfl⟩
abbrev main_call1_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_c_3 : Ref sig .tc := ⟨.hbm, 30, rfl⟩
abbrev main_call2_v0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_c_5 : Ref sig .tc := ⟨.hbm, 40, rfl⟩
abbrev main_v21 : Ref sig .tc := ⟨.hbm, 41, rfl⟩
abbrev main_v22 : Ref sig .tc := ⟨.hbm, 42, rfl⟩
abbrev main_c_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst : Ref sig .tc := ⟨.hbm, 50, rfl⟩
abbrev main_v29 : Ref sig .tc := ⟨.hbm, 51, rfl⟩
abbrev main_c_7 : Ref sig .tc := ⟨.hbm, 52, rfl⟩
abbrev main_v30_0 : Ref sig .tc := ⟨.hbm, 53, rfl⟩
abbrev main_v30_1 : Ref sig .tc := ⟨.hbm, 54, rfl⟩
abbrev main_v30_2 : Ref sig .tc := ⟨.hbm, 55, rfl⟩
abbrev main_v30_3 : Ref sig .tc := ⟨.hbm, 56, rfl⟩
abbrev main_v30_4 : Ref sig .tc := ⟨.hbm, 57, rfl⟩
abbrev main_v30_5 : Ref sig .tc := ⟨.hbm, 58, rfl⟩
abbrev main_v30_6 : Ref sig .tc := ⟨.hbm, 59, rfl⟩
abbrev main_while0c_c_14 : Ref sig .tc := ⟨.hbm, 60, rfl⟩
abbrev main_while0c_v40 : Ref sig .tc := ⟨.hbm, 61, rfl⟩
abbrev main_while0b_call3_v0 : Ref sig .tc := ⟨.hbm, 62, rfl⟩
abbrev main_while0b_v40 : Ref sig .tc := ⟨.hbm, 63, rfl⟩
abbrev main_while0b_c_14 : Ref sig .tc := ⟨.hbm, 64, rfl⟩
abbrev main_while0b_v41 : Ref sig .tc := ⟨.hbm, 65, rfl⟩
abbrev main_while0b_c_15 : Ref sig .tc := ⟨.hbm, 66, rfl⟩
abbrev main_while0b_v42 : Ref sig .tc := ⟨.hbm, 67, rfl⟩
abbrev main_while0b_c_16 : Ref sig .tc := ⟨.hbm, 68, rfl⟩
abbrev main_while0b_v43 : Ref sig .tc := ⟨.hbm, 69, rfl⟩
abbrev main_while0b_v44 : Ref sig .tc := ⟨.hbm, 70, rfl⟩
abbrev main_while0b_c_17 : Ref sig .tc := ⟨.hbm, 71, rfl⟩
abbrev main_while0b_c_18 : Ref sig .tc := ⟨.hbm, 72, rfl⟩
abbrev main_while0b_c_19 : Ref sig .tc := ⟨.hbm, 73, rfl⟩
abbrev main_while0b_v45 : Ref sig .tc := ⟨.hbm, 74, rfl⟩
abbrev main_while0b_c_20 : Ref sig .tc := ⟨.hbm, 75, rfl⟩
abbrev main_while0b_v46 : Ref sig .tc := ⟨.hbm, 76, rfl⟩
abbrev main_while0b_c_21 : Ref sig .tc := ⟨.hbm, 77, rfl⟩
abbrev main_while0b_v47 : Ref sig .tc := ⟨.hbm, 78, rfl⟩
abbrev main_while0b_v48 : Ref sig .tc := ⟨.hbm, 79, rfl⟩
abbrev main_while0b_c_22 : Ref sig .tc := ⟨.hbm, 80, rfl⟩
abbrev main_while0b_c_23 : Ref sig .tc := ⟨.hbm, 81, rfl⟩
abbrev main_while0b_c_24 : Ref sig .tc := ⟨.hbm, 82, rfl⟩
abbrev main_while0b_v49 : Ref sig .tc := ⟨.hbm, 83, rfl⟩
abbrev main_while0b_c_25 : Ref sig .tc := ⟨.hbm, 84, rfl⟩
abbrev main_while0b_v50 : Ref sig .tc := ⟨.hbm, 85, rfl⟩
abbrev main_while0b_c_26 : Ref sig .tc := ⟨.hbm, 86, rfl⟩
abbrev main_while0b_v51 : Ref sig .tc := ⟨.hbm, 87, rfl⟩
abbrev main_while0b_v52 : Ref sig .tc := ⟨.hbm, 88, rfl⟩
abbrev main_while0b_c_27 : Ref sig .tc := ⟨.hbm, 89, rfl⟩
abbrev main_while0b_c_28 : Ref sig .tc := ⟨.hbm, 90, rfl⟩
abbrev main_while0b_c_29 : Ref sig .tc := ⟨.hbm, 91, rfl⟩
abbrev main_while0b_v53 : Ref sig .tc := ⟨.hbm, 92, rfl⟩
abbrev main_while0b_v54 : Ref sig .tc := ⟨.hbm, 93, rfl⟩
abbrev main_while0b_cst_30 : Ref sig .tc := ⟨.hbm, 94, rfl⟩
abbrev main_while0b_v55 : Ref sig .tc := ⟨.hbm, 95, rfl⟩
abbrev main_while0b_v56 : Ref sig .tc := ⟨.hbm, 96, rfl⟩
abbrev main_while0b_v57 : Ref sig .tc := ⟨.hbm, 97, rfl⟩
abbrev main_while0b_v58 : Ref sig .tc := ⟨.hbm, 98, rfl⟩
abbrev main_while0b_v59 : Ref sig .tc := ⟨.hbm, 99, rfl⟩
abbrev main_while0b_c_31 : Ref sig .tc := ⟨.hbm, 100, rfl⟩
abbrev main_while0b_v60 : Ref sig .tc := ⟨.hbm, 101, rfl⟩
abbrev main_while0b_v61 : Ref sig .tc := ⟨.hbm, 102, rfl⟩
abbrev main_while0b_v62 : Ref sig .tc := ⟨.hbm, 103, rfl⟩
abbrev main_while0b_v63 : Ref sig .tc := ⟨.hbm, 104, rfl⟩
abbrev main_while0b_c_32 : Ref sig .tc := ⟨.hbm, 105, rfl⟩
abbrev main_while0b_v64 : Ref sig .tc := ⟨.hbm, 106, rfl⟩
abbrev main_while0b_v65 : Ref sig .tc := ⟨.hbm, 107, rfl⟩
abbrev main_while0b_v66 : Ref sig .tc := ⟨.hbm, 108, rfl⟩
abbrev main_while0b_cst_33 : Ref sig .tc := ⟨.hbm, 109, rfl⟩
abbrev main_while0b_call4_v0 : Ref sig .tc := ⟨.hbm, 110, rfl⟩
abbrev main_while0b_call4_v1 : Ref sig .tc := ⟨.hbm, 111, rfl⟩
abbrev main_while0b_call4_v2 : Ref sig .tc := ⟨.hbm, 112, rfl⟩
abbrev main_while0b_v67 : Ref sig .tc := ⟨.hbm, 113, rfl⟩
abbrev main_while0b_cst_34 : Ref sig .tc := ⟨.hbm, 114, rfl⟩
abbrev main_while0b_v68 : Ref sig .tc := ⟨.hbm, 115, rfl⟩
abbrev main_while0b_cst_35 : Ref sig .tc := ⟨.hbm, 116, rfl⟩
abbrev main_while0b_v69 : Ref sig .tc := ⟨.hbm, 117, rfl⟩
abbrev main_while0b_v70 : Ref sig .tc := ⟨.hbm, 118, rfl⟩
abbrev main_while0b_v71 : Ref sig .tc := ⟨.hbm, 119, rfl⟩
abbrev main_while0b_v72 : Ref sig .tc := ⟨.hbm, 120, rfl⟩
abbrev main_while0b_v73 : Ref sig .tc := ⟨.hbm, 121, rfl⟩
abbrev main_while0b_v74 : Ref sig .tc := ⟨.hbm, 122, rfl⟩
abbrev main_while0b_cst_36 : Ref sig .tc := ⟨.hbm, 123, rfl⟩
abbrev main_while0b_v75 : Ref sig .tc := ⟨.hbm, 124, rfl⟩
abbrev main_while0b_v76 : Ref sig .tc := ⟨.hbm, 125, rfl⟩
abbrev main_while0b_v77 : Ref sig .tc := ⟨.hbm, 126, rfl⟩
abbrev main_while0b_v78 : Ref sig .tc := ⟨.hbm, 127, rfl⟩
abbrev main_while0b_v79 : Ref sig .tc := ⟨.hbm, 128, rfl⟩
abbrev main_while0b_v80 : Ref sig .tc := ⟨.hbm, 129, rfl⟩
abbrev main_while0b_call5_v0 : Ref sig .tc := ⟨.hbm, 130, rfl⟩
abbrev main_while0b_call5_c : Ref sig .tc := ⟨.hbm, 131, rfl⟩
abbrev main_while0b_call5_c_0 : Ref sig .tc := ⟨.hbm, 132, rfl⟩
abbrev main_while0b_call5_c_1 : Ref sig .tc := ⟨.hbm, 133, rfl⟩
abbrev main_while0b_call5_c_2 : Ref sig .tc := ⟨.hbm, 134, rfl⟩
abbrev main_while0b_v81 : Ref sig .tc := ⟨.hbm, 135, rfl⟩
abbrev main_while0b_c_37 : Ref sig .tc := ⟨.hbm, 136, rfl⟩
abbrev main_while0b_v82 : Ref sig .tc := ⟨.hbm, 137, rfl⟩
abbrev main_v31 : Ref sig .tc := ⟨.hbm, 138, rfl⟩
abbrev main_v32 : Ref sig .tc := ⟨.hbm, 139, rfl⟩
abbrev main_v33 : Ref sig .tc := ⟨.hbm, 140, rfl⟩
abbrev main_v34 : Ref sig .tc := ⟨.hbm, 141, rfl⟩
abbrev main_v35 : Ref sig .tc := ⟨.hbm, 142, rfl⟩
abbrev main_v36 : Ref sig .tc := ⟨.hbm, 143, rfl⟩
abbrev main_v37 : Ref sig .tc := ⟨.hbm, 144, rfl⟩
abbrev main_v38 : Ref sig .tc := ⟨.hbm, 145, rfl⟩
abbrev main_v39 : Ref sig .tc := ⟨.hbm, 146, rfl⟩

abbrev nD : Nat := 1
abbrev τ : Topo := Topo.v7x

variable {F : FTy → Type} [FloatOps F]

abbrev main_while0_count : Scf.Loop 32 := ⟨0#32, 64#32, 1#32⟩
-- ==== KernelFinal.lean ====
abbrev S4x4096x1024 : Shape := ⟨3, ![4, 4096, 1024]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S16384x1024 : Shape := ⟨2, ![16384, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024x1024 : Shape := ⟨2, ![1024, 1024]⟩
abbrev S1024x4096 : Shape := ⟨2, ![1024, 4096]⟩
abbrev S256x1024 : Shape := ⟨2, ![256, 1024]⟩
abbrev S256 : Shape := ⟨1, ![256]⟩
abbrev S256x1 : Shape := ⟨2, ![256, 1]⟩
abbrev S256x4096 : Shape := ⟨2, ![256, 4096]⟩
abbrev S4096x1024 : Shape := ⟨2, ![4096, 1024]⟩

abbrev nBuf : Space → Nat
  | .hbm => 20
  | .vmem => 12
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S1x1024x1024, .f32⟩
  | .hbm, ⟨3, _⟩ => ⟨S2x1024, .f32⟩
  | .hbm, ⟨4, _⟩ => ⟨S2x1024x4096, .f32⟩
  | .hbm, ⟨5, _⟩ => ⟨S2x4096x1024, .f32⟩
  | .hbm, ⟨6, _⟩ => ⟨S1024, .f32⟩
  | .hbm, ⟨7, _⟩ => ⟨S16384x1024, .f32⟩
  | .hbm, ⟨8, _⟩ => ⟨S16384x1024, .f32⟩
  | .hbm, ⟨9, _⟩ => ⟨S16384x1024, .bf16⟩
  | .hbm, ⟨10, _⟩ => ⟨S1x1024x1024, .bf16⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1x1024x4096, .f32⟩
  | .hbm, ⟨15, _⟩ => ⟨S1x1024x4096, .bf16⟩
  | .hbm, ⟨16, _⟩ => ⟨S1x4096x1024, .f32⟩
  | .hbm, ⟨17, _⟩ => ⟨S1x4096x1024, .bf16⟩
  | .hbm, ⟨18, _⟩ => ⟨S1x1024, .f32⟩
  | .hbm, ⟨19, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .bf16⟩
  | .local _ .vmem, ⟨5, _⟩ => ⟨S1x1024, .f32⟩
  | .local _ .vmem, ⟨6, _⟩ => ⟨S1x1024x4096, .bf16⟩
  | .local _ .vmem, ⟨7, _⟩ => ⟨S1x4096x1024, .bf16⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x4096, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceFinalIdeal.lean ====
abbrev S4x4096x1024 : Shape := ⟨3, ![4, 4096, 1024]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S4x4096x4096 : Shape := ⟨3, ![4, 4096, 4096]⟩
abbrev S16384x1024 : Shape := ⟨2, ![16384, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S1x1024x1024, .f32⟩
  | .hbm, ⟨3, _⟩ => ⟨S2x1024, .f32⟩
  | .hbm, ⟨4, _⟩ => ⟨S2x1024x4096, .f32⟩
  | .hbm, ⟨5, _⟩ => ⟨S2x4096x1024, .f32⟩
  | .hbm, ⟨6, _⟩ => ⟨S1024, .f32⟩
  | .hbm, ⟨7, _⟩ => ⟨S1024x1024, .f32⟩
  | .hbm, ⟨8, _⟩ => ⟨S4x4096x1024, .f32⟩
  | .hbm, ⟨9, _⟩ => ⟨S4x4096x1024, .f32⟩
  | .hbm, ⟨10, _⟩ => ⟨S1x1024, .f32⟩
  | .hbm, ⟨11, _⟩ => ⟨S1024, .f32⟩
  | .hbm, ⟨12, _⟩ => ⟨S4x4096x1024, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S4x4096x1, .f32⟩
  | .hbm, ⟨23, _⟩ => ⟨S4x4096x1024, .f32⟩
  | .hbm, ⟨24, _⟩ => ⟨S4x4096x1024, .f32⟩
  | .hbm, ⟨25, _⟩ => ⟨S1x1x1024, .f32⟩
  | .hbm, ⟨26, _⟩ => ⟨S4x4096x1024, .f32⟩
  | .hbm, ⟨27, _⟩ => ⟨S4x4096x1024, .f32⟩
  | .hbm, ⟨28, _⟩ => ⟨S1x1024x4096, .f32⟩
  | .hbm, ⟨29, _⟩ => ⟨S1024x4096, .f32⟩
  | .hbm, ⟨30, _⟩ => ⟨S1x4096x1024, .f32⟩
  | .hbm, ⟨31, _⟩ => ⟨S4096x1024, .f32⟩
  | .hbm, ⟨32, _⟩ => ⟨S4x4096x4096, .f32⟩
  | .hbm, ⟨33, _⟩ => ⟨S_, .f32⟩
  | .hbm, ⟨34, _⟩ => ⟨S4x4096x4096, .f32⟩
  | .hbm, ⟨35, _⟩ => ⟨S4x4096x4096, .f32⟩
  | .hbm, ⟨36, _⟩ => ⟨S4x4096x4096, .f32⟩
  | .hbm, ⟨37, _⟩ => ⟨S4x4096x1024, .f32⟩
  | .hbm, ⟨38, _⟩ => ⟨S4x4096x1024, .f32⟩
  | .hbm, ⟨39, _⟩ => ⟨S4x4096x1024, .f32⟩
  | .hbm, ⟨40, _⟩ => ⟨S_, .f32⟩
  | .hbm, ⟨41, _⟩ => ⟨S4x4096, .f32⟩
  | .hbm, ⟨42, _⟩ => ⟨S4x4096x1, .f32⟩
  | .hbm, ⟨43, _⟩ => ⟨S_, .f32⟩
  | .hbm, ⟨44, _⟩ => ⟨S4x4096x1, .f32⟩
  | .hbm, ⟨45, _⟩ => ⟨S4x4096x1, .f32⟩
  | .hbm, ⟨46, _⟩ => ⟨S_, .f32⟩
  | .hbm, ⟨47, _⟩ => ⟨S4x4096x1, .f32⟩
  | .hbm, ⟨48, _⟩ => ⟨S4x4096x1, .f32⟩
  | .hbm, ⟨49, _⟩ => ⟨S4x4096x1, .f32⟩
  | .hbm, ⟨50, _⟩ => ⟨S4x4096x1024, .f32⟩
  | .hbm, ⟨51, _⟩ => ⟨S4x4096x1024, .f32⟩
  | .hbm, ⟨52, _⟩ => ⟨S1x1x1024, .f32⟩
  | .hbm, ⟨53, _⟩ => ⟨S4x4096x1024, .f32⟩
  | .hbm, ⟨54, _⟩ => ⟨S4x4096x1024, .f32⟩
  | .hbm, ⟨55, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_cst : Ref sig .tc := ⟨.hbm, 33, rfl⟩
abbrev main_call0_v0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== KernelMid.lean ====
abbrev S4x4096x1024 : Shape := ⟨3, ![4, 4096, 1024]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1x1024 : Shape := ⟨2, ![1, 1024]⟩
abbrev S16384x1024 : Shape := ⟨2, ![16384, 1024]⟩
abbrev S1024 : Shape := ⟨1, ![1024]⟩
abbrev S1x1024x4096 : Shape := ⟨3, ![1, 1024, 4096]⟩
abbrev S1x4096x1024 : Shape := ⟨3, ![1, 4096, 1024]⟩
abbrev S1024x1024 : Shape := ⟨2, ![1024, 1024]⟩
abbrev S1024x4096 : Shape := ⟨2, ![1024, 4096]⟩
abbrev S256x1024 : Shape := ⟨2, ![256, 1024]⟩
abbrev S256 : Shape := ⟨1, ![256]⟩
abbrev S256x1 : Shape := ⟨2, ![256, 1]⟩
abbrev S256x4096 : Shape := ⟨2, ![256, 4096]⟩
abbrev S4096x1024 : Shape := ⟨2, ![4096, 1024]⟩

abbrev nBuf : Space → Nat
  | .hbm => 22
  | .vmem => 14
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S1x1024x1024, .f32⟩
  | .hbm, ⟨3, _⟩ => ⟨S2x1024, .f32⟩
  | .hbm, ⟨4, _⟩ => ⟨S2x1024x4096, .f32⟩
  | .hbm, ⟨5, _⟩ => ⟨S2x4096x1024, .f32⟩
  | .hbm, ⟨6, _⟩ => ⟨S1x1024, .f32⟩
  | .hbm, ⟨7, _⟩ => ⟨S16384x1024, .f32⟩
  | .hbm, ⟨8, _⟩ => ⟨S16384x1024, .f32⟩
  | .hbm, ⟨9, _⟩ => ⟨S16384x1024, .bf16⟩
  | .hbm, ⟨10, _⟩ => ⟨S1x1024x1024, .bf16⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1x1024x4096, .f32⟩
  | .hbm, ⟨15, _⟩ => ⟨S1x1024x4096, .bf16⟩
  | .hbm, ⟨16, _⟩ => ⟨S1x4096x1024, .f32⟩
  | .hbm, ⟨17, _⟩ => ⟨S1x4096x1024, .bf16⟩
  | .hbm, ⟨18, _⟩ => ⟨S1024, .f32⟩
  | .hbm, ⟨19, _⟩ => ⟨S1x1024, .f32⟩
  | .hbm, ⟨20, _⟩ => ⟨S16384x1024, .f32⟩
  | .hbm, ⟨21, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .bf16⟩
  | .local _ .vmem, ⟨5, _⟩ => ⟨S1x1024, .f32⟩
  | .local _ .vmem, ⟨6, _⟩ => ⟨S1x1024x4096, .bf16⟩
  | .local _ .vmem, ⟨7, _⟩ => ⟨S1x4096x1024, .bf16⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x4096, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceMidIdeal.lean ====
abbrev S4x4096x1024 : Shape := ⟨3, ![4, 4096, 1024]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S4x4096x4096 : Shape := ⟨3, ![4, 4096, 4096]⟩
abbrev S16384x1024 : Shape := ⟨2, ![16384, 1024]⟩

abbrev nBuf : Space → Nat
  | .hbm => 59
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S1x1024x1024, .f32⟩
  | .hbm, ⟨3, _⟩ => ⟨S2x1024, .f32⟩
  | .hbm, ⟨4, _⟩ => ⟨S2x1024x4096, .f32⟩
  | .hbm, ⟨5, _⟩ => ⟨S2x4096x1024, .f32⟩
  | .hbm, ⟨6, _⟩ => ⟨S1x1024, .f32⟩
  | .hbm, ⟨7, _⟩ => ⟨S1024x1024, .f32⟩
  | .hbm, ⟨8, _⟩ => ⟨S4x4096x1024, .f32⟩
  | .hbm, ⟨9, _⟩ => ⟨S4x4096x1024, .f32⟩
  | .hbm, ⟨10, _⟩ => ⟨S1x1024, .f32⟩
  | .hbm, ⟨11, _⟩ => ⟨S1024, .f32⟩
  | .hbm, ⟨12, _⟩ => ⟨S4x4096x1024, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S4x4096x1, .f32⟩
  | .hbm, ⟨23, _⟩ => ⟨S4x4096x1024, .f32⟩
  | .hbm, ⟨24, _⟩ => ⟨S4x4096x1024, .f32⟩
  | .hbm, ⟨25, _⟩ => ⟨S1x1x1024, .f32⟩
  | .hbm, ⟨26, _⟩ => ⟨S4x4096x1024, .f32⟩
  | .hbm, ⟨27, _⟩ => ⟨S4x4096x1024, .f32⟩
  | .hbm, ⟨28, _⟩ => ⟨S1x1024x4096, .f32⟩
  | .hbm, ⟨29, _⟩ => ⟨S1024x4096, .f32⟩
  | .hbm, ⟨30, _⟩ => ⟨S1x4096x1024, .f32⟩
  | .hbm, ⟨31, _⟩ => ⟨S4096x1024, .f32⟩
  | .hbm, ⟨32, _⟩ => ⟨S4x4096x4096, .f32⟩
  | .hbm, ⟨33, _⟩ => ⟨S_, .f32⟩
  | .hbm, ⟨34, _⟩ => ⟨S4x4096x4096, .f32⟩
  | .hbm, ⟨35, _⟩ => ⟨S4x4096x4096, .f32⟩
  | .hbm, ⟨36, _⟩ => ⟨S4x4096x4096, .f32⟩
  | .hbm, ⟨37, _⟩ => ⟨S4x4096x1024, .f32⟩
  | .hbm, ⟨38, _⟩ => ⟨S4x4096x1024, .f32⟩
  | .hbm, ⟨39, _⟩ => ⟨S1024, .f32⟩
  | .hbm, ⟨40, _⟩ => ⟨S4x4096x1024, .f32⟩
  | .hbm, ⟨41, _⟩ => ⟨S_, .f32⟩
  | .hbm, ⟨42, _⟩ => ⟨S4x4096, .f32⟩
  | .hbm, ⟨43, _⟩ => ⟨S4x4096x1, .f32⟩
  | .hbm, ⟨44, _⟩ => ⟨S_, .f32⟩
  | .hbm, ⟨45, _⟩ => ⟨S4x4096x1, .f32⟩
  | .hbm, ⟨46, _⟩ => ⟨S4x4096x1, .f32⟩
  | .hbm, ⟨47, _⟩ => ⟨S_, .f32⟩
  | .hbm, ⟨48, _⟩ => ⟨S4x4096x1, .f32⟩
  | .hbm, ⟨49, _⟩ => ⟨S4x4096x1, .f32⟩
  | .hbm, ⟨50, _⟩ => ⟨S4x4096x1, .f32⟩
  | .hbm, ⟨51, _⟩ => ⟨S4x4096x1024, .f32⟩
  | .hbm, ⟨52, _⟩ => ⟨S4x4096x1024, .f32⟩
  | .hbm, ⟨53, _⟩ => ⟨S1x1x1024, .f32⟩
  | .hbm, ⟨54, _⟩ => ⟨S4x4096x1024, .f32⟩
  | .hbm, ⟨55, _⟩ => ⟨S4x4096x1024, .f32⟩
  | .hbm, ⟨56, _⟩ => ⟨S16384x1024, .f32⟩
  | .hbm, ⟨57, _⟩ => ⟨S16384x1024, .f32⟩
  | .hbm, ⟨58, _⟩ => ⟨S16384x1024, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_cst : Ref sig .tc := ⟨.hbm, 33, rfl⟩
abbrev main_call0_v0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== KernelQkv.lean ====
abbrev S4x4096x1024 : Shape := ⟨3, ![4, 4096, 1024]⟩
abbrev S1x1024 : Shape := ⟨2, ![1, 1024]⟩
abbrev S1x1024x3072 : Shape := ⟨3, ![1, 1024, 3072]⟩
abbrev S1x1024x1024 : Shape := ⟨3, ![1, 1024, 1024]⟩
abbrev S2x1024x4096 : Shape := ⟨3, ![2, 1024, 4096]⟩
abbrev S2x4096x1024 : Shape := ⟨3, ![2, 4096, 1024]⟩
abbrev S16384x1024 : Shape := ⟨2, ![16384, 1024]⟩
abbrev S1024 : Shape := ⟨1, ![1024]⟩
abbrev S1024x3072 : Shape := ⟨2, ![1024, 3072]⟩
abbrev S16384x3072 : Shape := ⟨2, ![16384, 3072]⟩
abbrev S1x1024x4096 : Shape := ⟨3, ![1, 1024, 4096]⟩
abbrev S1x4096x1024 : Shape := ⟨3, ![1, 4096, 1024]⟩
abbrev S1024x1024 : Shape := ⟨2, ![1024, 1024]⟩
abbrev S1x64x1024 : Shape := ⟨3, ![1, 64, 1024]⟩
abbrev S1x64x4096 : Shape := ⟨3, ![1, 64, 4096]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩

abbrev nBuf : Space → Nat
  | .hbm => 14
  | .vmem => 19
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x3072, .f32⟩
  | .hbm, ⟨3, _⟩ => ⟨S1x1024x1024, .f32⟩
  | .hbm, ⟨4, _⟩ => ⟨S2x1024x4096, .f32⟩
  | .hbm, ⟨5, _⟩ => ⟨S2x4096x1024, .f32⟩
  | .hbm, ⟨6, _⟩ => ⟨S16384x1024, .f32⟩
  | .hbm, ⟨7, _⟩ => ⟨S1024, .f32⟩
  | .hbm, ⟨8, _⟩ => ⟨S1x1024, .f32⟩
  | .hbm, ⟨9, _⟩ => ⟨S1024x3072, .f32⟩
  | .hbm, ⟨10, _⟩ => ⟨S16384x3072, .bf16⟩
  | .hbm, ⟨11, _⟩ => ⟨S1x1024x1024, .bf16⟩
  | .hbm, ⟨12, _⟩ => ⟨S1x1024x4096, .bf16⟩
  | .hbm, ⟨13, _⟩ => ⟨S1x4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3072, .f32⟩
  | .local _ .vmem, ⟨4, _⟩ => ⟨S1x64x1024, .f32⟩
  | .local _ .vmem, ⟨5, _⟩ => ⟨S1x64x1024, .f32⟩
  | .local _ .vmem, ⟨6, _⟩ => ⟨S1x64x4096, .f32⟩
  | .local _ .vmem, ⟨7, _⟩ => ⟨S1x64x4096, .f32⟩
  | .local _ .vmem, ⟨8, _⟩ => ⟨S1x256x1024, .f32⟩
  | .local _ .vmem, ⟨9, _⟩ => ⟨S1x256x1024, .f32⟩
  | .local _ .vmem, ⟨10, _⟩ => ⟨S1024x3072, .bf16⟩
  | .local _ .vmem, ⟨11, _⟩ => ⟨S1024x3072, .bf16⟩
  | .local _ .vmem, ⟨12, _⟩ => ⟨S1x64x1024, .bf16⟩
  | .local _ .vmem, ⟨13, _⟩ => ⟨S1x64x1024, .bf16⟩
  | .local _ .vmem, ⟨14, _⟩ => ⟨S1x64x4096, .bf16⟩
  | .local _ .vmem, ⟨15, _⟩ => ⟨S1x64x4096, .bf16⟩
  | .local _ .vmem, ⟨16, _⟩ => ⟨S1x256x1024, .bf16⟩
  | .local _ .vmem, ⟨17, _⟩ => ⟨S1x256x1024, .bf16⟩
  | .local _ .vmem, ⟨18, _⟩ => ⟨S1024x3072, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelQkvIdeal.lean ====
variable {F : FTy → Type} [FloatOps F] [Named F]
def κ : String → Option EReal := fun
  | "scale_log2e" => some (((1 / 8) * (Real.log 2)⁻¹ : ℝ) : EReal)
  | _ => none
-- ==== ReferenceQkvIdeal.lean ====
abbrev S4x4096x1024 : Shape := ⟨3, ![4, 4096, 1024]⟩
abbrev S1x1024 : Shape := ⟨2, ![1, 1024]⟩
abbrev S1x1024x3072 : Shape := ⟨3, ![1, 1024, 3072]⟩
abbrev S1x1024x1024 : Shape := ⟨3, ![1, 1024, 1024]⟩
abbrev S2x1024x4096 : Shape := ⟨3, ![2, 1024, 4096]⟩
abbrev S2x4096x1024 : Shape := ⟨3, ![2, 4096, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x3072 : Shape := ⟨2, ![1024, 3072]⟩
abbrev S4x4096x3072 : Shape := ⟨3, ![4, 4096, 3072]⟩
abbrev S4x4096x2048 : Shape := ⟨3, ![4, 4096, 2048]⟩
abbrev S16384x3072 : Shape := ⟨2, ![16384, 3072]⟩
abbrev S1x1024x4096 : Shape := ⟨3, ![1, 1024, 4096]⟩
abbrev S1x4096x1024 : Shape := ⟨3, ![1, 4096, 1024]⟩

abbrev nBuf : Space → Nat
  | .hbm => 42
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x3072, .f32⟩
  | .hbm, ⟨3, _⟩ => ⟨S1x1024x1024, .f32⟩
  | .hbm, ⟨4, _⟩ => ⟨S2x1024x4096, .f32⟩
  | .hbm, ⟨5, _⟩ => ⟨S2x4096x1024, .f32⟩
  | .hbm, ⟨6, _⟩ => ⟨S1024, .f32⟩
  | .hbm, ⟨7, _⟩ => ⟨S4x4096x1024, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x1024, .f32⟩
  | .hbm, ⟨19, _⟩ => ⟨S4x4096x1024, .f32⟩
  | .hbm, ⟨20, _⟩ => ⟨S1x1x1024, .f32⟩
  | .hbm, ⟨21, _⟩ => ⟨S4x4096x1024, .f32⟩
  | .hbm, ⟨22, _⟩ => ⟨S4x4096x1024, .f32⟩
  | .hbm, ⟨23, _⟩ => ⟨S1024x3072, .f32⟩
  | .hbm, ⟨24, _⟩ => ⟨S4x4096x3072, .f32⟩
  | .hbm, ⟨25, _⟩ => ⟨S4x4096x1024, .f32⟩
  | .hbm, ⟨26, _⟩ => ⟨S_, .f32⟩
  | .hbm, ⟨27, _⟩ => ⟨S4x4096x1024, .f32⟩
  | .hbm, ⟨28, _⟩ => ⟨S4x4096x1024, .f32⟩
  | .hbm, ⟨29, _⟩ => ⟨S_, .f32⟩
  | .hbm, ⟨30, _⟩ => ⟨S_, .f32⟩
  | .hbm, ⟨31, _⟩ => ⟨S4x4096x1024, .f32⟩
  | .hbm, ⟨32, _⟩ => ⟨S4x4096x1024, .f32⟩
  | .hbm, ⟨33, _⟩ => ⟨S4x4096x2048, .f32⟩
  | .hbm, ⟨34, _⟩ => ⟨S4x4096x3072, .f32⟩
  | .hbm, ⟨35, _⟩ => ⟨S16384x3072, .f32⟩
  | .hbm, ⟨36, _⟩ => ⟨S16384x3072, .bf16⟩
  | .hbm, ⟨37, _⟩ => ⟨S1x1024x1024, .bf16⟩
  | .hbm, ⟨38, _⟩ => ⟨S1x1024x4096, .f32⟩
  | .hbm, ⟨39, _⟩ => ⟨S1x1024x4096, .bf16⟩
  | .hbm, ⟨40, _⟩ => ⟨S1x4096x1024, .f32⟩
  | .hbm, ⟨41, _⟩ => ⟨S1x4096x1024, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Proof.RefRun.lean ====
/- The run of the reference: after its loop's 64 trips each result is the stated function of the loop's last state.
   The values of one trip are those of the generated Step module, and the statements follow the generated StepRun module,
   whose proof that the carried array steps as stated is replaced here. -/
module

public import proofs.«01_k».proof.Proof.Gen.ReferenceIdeal.Run
public import proofs.«01_k».proof.Proof.Gen.ReferenceIdeal.Step

@[expose] public section

noncomputable section

namespace Cert.ReferenceIdeal.StepRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_6 : V0 (Proc.devRef .tc main_v30_6) = s.main_v30_6
  f_1 : V0 (Proc.devRef .tc main_v30_1) = s.main_v30_1
  f_2 : V0 (Proc.devRef .tc main_v30_2) = s.main_v30_2
  f_3 : V0 (Proc.devRef .tc main_v30_3) = s.main_v30_3
  f_4 : V0 (Proc.devRef .tc main_v30_4) = s.main_v30_4
  n_5 : V0 (Proc.devRef .tc main_v30_5) = constantI S_ 32 (BitVec.ofNat 32 j)
  k_0 : V0 (Proc.devRef .tc main_v30_0) = Cert.ReferenceIdeal.Step.K_main_v28 (F := F)

variable {V0 s j}

set_option maxRecDepth 8192 in
theorem al_0 (h : Holds V0 s j) : (Host.dynamicSlice S1 (V0 (Proc.devRef .tc main_v30_0)) (fun k => (((![V0 (Proc.devRef .tc main_v30_5)] : Fin 1 → (⟨S_, .i32⟩ : BufTy).Contents (Elt F))) k (Shape.Idx.first h_S_)).toInt) sliceFits_S64_S1 : (Proc.devRef .tc main_while0b_call3_v0 : DevRef τ sig).ty.Contents (Elt F)) = Cert.ReferenceIdeal.Step.b0 j s := by
  unfold Cert.ReferenceIdeal.Step.b0
  rw [h.k_0, h.n_5]
  try rfl
set_option maxRecDepth 8192 in
theorem al_1 (h : Holds V0 s j) : (shapeCast S_ (Host.dynamicSlice S1 (V0 (Proc.devRef .tc main_v30_0)) (fun k => (((![V0 (Proc.devRef .tc main_v30_5)] : Fin 1 → (⟨S_, .i32⟩ : BufTy).Contents (Elt F))) k (Shape.Idx.first h_S_)).toInt) sliceFits_S64_S1) shapeCasts_S1_S_ : (Proc.devRef .tc main_while0b_v40 : DevRef τ sig).ty.Contents (Elt F)) = Cert.ReferenceIdeal.Step.b1 j s := by
  unfold Cert.ReferenceIdeal.Step.b1
  rw [← al_0 h]
  try rfl
set_option maxRecDepth 8192 in
theorem al_2 (h : Holds V0 s j) : (constantI S_ 32 64#32 : (Proc.devRef .tc main_while0b_c_14 : DevRef τ sig).ty.Contents (Elt F)) = Cert.ReferenceIdeal.Step.b2 j s := by
  unfold Cert.ReferenceIdeal.Step.b2
  rfl
set_option maxRecDepth 8192 in
theorem al_3 (h : Holds V0 s j) : (res_main_while0b_v41 V0 : (Proc.devRef .tc main_while0b_v41 : DevRef τ sig).ty.Contents (Elt F)) = Cert.ReferenceIdeal.Step.b3 j s := by
  unfold res_main_while0b_v41 Cert.ReferenceIdeal.Step.b3
  rw [← al_1 h, ← al_2 h]
  try rfl
set_option maxRecDepth 8192 in
theorem al_4 (h : Holds V0 s j) : (constantI S_ 32 0#32 : (Proc.devRef .tc main_while0b_c_15 : DevRef τ sig).ty.Contents (Elt F)) = Cert.ReferenceIdeal.Step.b4 j s := by
  unfold Cert.ReferenceIdeal.Step.b4
  rfl
set_option maxRecDepth 8192 in
theorem al_5 (h : Holds V0 s j) : (cmpi .slt (res_main_while0b_v41 V0) (constantI S_ 32 0#32) : (Proc.devRef .tc main_while0b_v42 : DevRef τ sig).ty.Contents (Elt F)) = Cert.ReferenceIdeal.Step.b5 j s := by
  unfold Cert.ReferenceIdeal.Step.b5
  rw [← al_3 h, ← al_4 h]
  try rfl
set_option maxRecDepth 8192 in
theorem al_6 (h : Holds V0 s j) : (constantI S_ 32 4096#32 : (Proc.devRef .tc main_while0b_c_16 : DevRef τ sig).ty.Contents (Elt F)) = Cert.ReferenceIdeal.Step.b6 j s := by
  unfold Cert.ReferenceIdeal.Step.b6
  rfl
set_option maxRecDepth 8192 in
theorem al_7 (h : Holds V0 s j) : (addi (res_main_while0b_v41 V0) (constantI S_ 32 4096#32) : (Proc.devRef .tc main_while0b_v43 : DevRef τ sig).ty.Contents (Elt F)) = Cert.ReferenceIdeal.Step.b7 j s := by
  unfold Cert.ReferenceIdeal.Step.b7
  rw [← al_3 h, ← al_6 h]
  try rfl
set_option maxRecDepth 8192 in
theorem al_8 (h : Holds V0 s j) : (select (cmpi .slt (res_main_while0b_v41 V0) (constantI S_ 32 0#32)) (addi (res_main_while0b_v41 V0) (constantI S_ 32 4096#32)) (res_main_while0b_v41 V0) : (Proc.devRef .tc main_while0b_v44 : DevRef τ sig).ty.Contents (Elt F)) = Cert.ReferenceIdeal.Step.b8 j s := by
  unfold Cert.ReferenceIdeal.Step.b8
  rw [← al_5 h, ← al_7 h, ← al_3 h]
  try rfl
set_option maxRecDepth 8192 in
theorem al_9 (h : Holds V0 s j) : (constantI S_ 32 0#32 : (Proc.devRef .tc main_while0b_c_17 : DevRef τ sig).ty.Contents (Elt F)) = Cert.ReferenceIdeal.Step.b9 j s := by
  unfold Cert.ReferenceIdeal.Step.b9
  rfl
set_option maxRecDepth 8192 in
theorem al_10 (h : Holds V0 s j) : (constantI S_ 32 0#32 : (Proc.devRef .tc main_while0b_c_18 : DevRef τ sig).ty.Contents (Elt F)) = Cert.ReferenceIdeal.Step.b10 j s := by
  unfold Cert.ReferenceIdeal.Step.b10
  rfl
set_option maxRecDepth 8192 in
theorem al_11 (h : Holds V0 s j) : (constantI S_ 32 0#32 : (Proc.devRef .tc main_while0b_c_19 : DevRef τ sig).ty.Contents (Elt F)) = Cert.ReferenceIdeal.Step.b11 j s := by
  unfold Cert.ReferenceIdeal.Step.b11
  rfl
set_option maxRecDepth 8192 in
theorem al_12 (h : Holds V0 s j) : (Host.dynamicSlice S4x64x16x64 (V0 (Proc.devRef .tc main_v30_1)) (fun k => (((![constantI S_ 32 0#32, select (cmpi .slt (res_main_while0b_v41 V0) (constantI S_ 32 0#32)) (addi (res_main_while0b_v41 V0) (constantI S_ 32 4096#32)) (res_main_while0b_v41 V0), constantI S_ 32 0#32, constantI S_ 32 0#32] : Fin 4 → (⟨S_, .i32⟩ : BufTy).Contents (Elt F))) k (Shape.Idx.first h_S_)).toInt) sliceFits_S4x4096x16x64_S4x64x16x64 : (Proc.devRef .tc main_while0b_v45 : DevRef τ sig).ty.Contents (Elt F)) = Cert.ReferenceIdeal.Step.b12 j s := by
  unfold Cert.ReferenceIdeal.Step.b12
  rw [← al_9 h, ← al_8 h, ← al_10 h, ← al_11 h, h.f_1]
  try rfl
set_option maxRecDepth 8192 in
theorem al_13 (h : Holds V0 s j) : (constantI S_ 32 0#32 : (Proc.devRef .tc main_while0b_c_20 : DevRef τ sig).ty.Contents (Elt F)) = Cert.ReferenceIdeal.Step.b13 j s := by
  unfold Cert.ReferenceIdeal.Step.b13
  rfl
set_option maxRecDepth 8192 in
theorem al_14 (h : Holds V0 s j) : (cmpi .slt (res_main_while0b_v41 V0) (constantI S_ 32 0#32) : (Proc.devRef .tc main_while0b_v46 : DevRef τ sig).ty.Contents (Elt F)) = Cert.ReferenceIdeal.Step.b14 j s := by
  unfold Cert.ReferenceIdeal.Step.b14
  rw [← al_3 h, ← al_13 h]
  try rfl
set_option maxRecDepth 8192 in
theorem al_15 (h : Holds V0 s j) : (constantI S_ 32 4608#32 : (Proc.devRef .tc main_while0b_c_21 : DevRef τ sig).ty.Contents (Elt F)) = Cert.ReferenceIdeal.Step.b15 j s := by
  unfold Cert.ReferenceIdeal.Step.b15
  rfl
set_option maxRecDepth 8192 in
theorem al_16 (h : Holds V0 s j) : (addi (res_main_while0b_v41 V0) (constantI S_ 32 4608#32) : (Proc.devRef .tc main_while0b_v47 : DevRef τ sig).ty.Contents (Elt F)) = Cert.ReferenceIdeal.Step.b16 j s := by
  unfold Cert.ReferenceIdeal.Step.b16
  rw [← al_3 h, ← al_15 h]
  try rfl
set_option maxRecDepth 8192 in
theorem al_17 (h : Holds V0 s j) : (select (cmpi .slt (res_main_while0b_v41 V0) (constantI S_ 32 0#32)) (addi (res_main_while0b_v41 V0) (constantI S_ 32 4608#32)) (res_main_while0b_v41 V0) : (Proc.devRef .tc main_while0b_v48 : DevRef τ sig).ty.Contents (Elt F)) = Cert.ReferenceIdeal.Step.b17 j s := by
  unfold Cert.ReferenceIdeal.Step.b17
  rw [← al_14 h, ← al_16 h, ← al_3 h]
  try rfl
set_option maxRecDepth 8192 in
theorem al_18 (h : Holds V0 s j) : (constantI S_ 32 0#32 : (Proc.devRef .tc main_while0b_c_22 : DevRef τ sig).ty.Contents (Elt F)) = Cert.ReferenceIdeal.Step.b18 j s := by
  unfold Cert.ReferenceIdeal.Step.b18
  rfl
set_option maxRecDepth 8192 in
theorem al_19 (h : Holds V0 s j) : (constantI S_ 32 0#32 : (Proc.devRef .tc main_while0b_c_23 : DevRef τ sig).ty.Contents (Elt F)) = Cert.ReferenceIdeal.Step.b19 j s := by
  unfold Cert.ReferenceIdeal.Step.b19
  rfl
set_option maxRecDepth 8192 in
theorem al_20 (h : Holds V0 s j) : (constantI S_ 32 0#32 : (Proc.devRef .tc main_while0b_c_24 : DevRef τ sig).ty.Contents (Elt F)) = Cert.ReferenceIdeal.Step.b20 j s := by
  unfold Cert.ReferenceIdeal.Step.b20
  rfl
set_option maxRecDepth 8192 in
theorem al_21 (h : Holds V0 s j) : (Host.dynamicSlice S4x576x16x64 (V0 (Proc.devRef .tc main_v30_2)) (fun k => (((![constantI S_ 32 0#32, select (cmpi .slt (res_main_while0b_v41 V0) (constantI S_ 32 0#32)) (addi (res_main_while0b_v41 V0) (constantI S_ 32 4608#32)) (res_main_while0b_v41 V0), constantI S_ 32 0#32, constantI S_ 32 0#32] : Fin 4 → (⟨S_, .i32⟩ : BufTy).Contents (Elt F))) k (Shape.Idx.first h_S_)).toInt) sliceFits_S4x4608x16x64_S4x576x16x64 : (Proc.devRef .tc main_while0b_v49 : DevRef τ sig).ty.Contents (Elt F)) = Cert.ReferenceIdeal.Step.b21 j s := by
  unfold Cert.ReferenceIdeal.Step.b21
  rw [← al_18 h, ← al_17 h, ← al_19 h, ← al_20 h, h.f_2]
  try rfl
set_option maxRecDepth 8192 in
theorem al_22 (h : Holds V0 s j) : (constantI S_ 32 0#32 : (Proc.devRef .tc main_while0b_c_25 : DevRef τ sig).ty.Contents (Elt F)) = Cert.ReferenceIdeal.Step.b22 j s := by
  unfold Cert.ReferenceIdeal.Step.b22
  rfl
set_option maxRecDepth 8192 in
theorem al_23 (h : Holds V0 s j) : (cmpi .slt (res_main_while0b_v41 V0) (constantI S_ 32 0#32) : (Proc.devRef .tc main_while0b_v50 : DevRef τ sig).ty.Contents (Elt F)) = Cert.ReferenceIdeal.Step.b23 j s := by
  unfold Cert.ReferenceIdeal.Step.b23
  rw [← al_3 h, ← al_22 h]
  try rfl
set_option maxRecDepth 8192 in
theorem al_24 (h : Holds V0 s j) : (constantI S_ 32 4608#32 : (Proc.devRef .tc main_while0b_c_26 : DevRef τ sig).ty.Contents (Elt F)) = Cert.ReferenceIdeal.Step.b24 j s := by
  unfold Cert.ReferenceIdeal.Step.b24
  rfl
set_option maxRecDepth 8192 in
theorem al_25 (h : Holds V0 s j) : (addi (res_main_while0b_v41 V0) (constantI S_ 32 4608#32) : (Proc.devRef .tc main_while0b_v51 : DevRef τ sig).ty.Contents (Elt F)) = Cert.ReferenceIdeal.Step.b25 j s := by
  unfold Cert.ReferenceIdeal.Step.b25
  rw [← al_3 h, ← al_24 h]
  try rfl
set_option maxRecDepth 8192 in
theorem al_26 (h : Holds V0 s j) : (select (cmpi .slt (res_main_while0b_v41 V0) (constantI S_ 32 0#32)) (addi (res_main_while0b_v41 V0) (constantI S_ 32 4608#32)) (res_main_while0b_v41 V0) : (Proc.devRef .tc main_while0b_v52 : DevRef τ sig).ty.Contents (Elt F)) = Cert.ReferenceIdeal.Step.b26 j s := by
  unfold Cert.ReferenceIdeal.Step.b26
  rw [← al_23 h, ← al_25 h, ← al_3 h]
  try rfl
set_option maxRecDepth 8192 in
theorem al_27 (h : Holds V0 s j) : (constantI S_ 32 0#32 : (Proc.devRef .tc main_while0b_c_27 : DevRef τ sig).ty.Contents (Elt F)) = Cert.ReferenceIdeal.Step.b27 j s := by
  unfold Cert.ReferenceIdeal.Step.b27
  rfl
set_option maxRecDepth 8192 in
theorem al_28 (h : Holds V0 s j) : (constantI S_ 32 0#32 : (Proc.devRef .tc main_while0b_c_28 : DevRef τ sig).ty.Contents (Elt F)) = Cert.ReferenceIdeal.Step.b28 j s := by
  unfold Cert.ReferenceIdeal.Step.b28
  rfl
set_option maxRecDepth 8192 in
theorem al_29 (h : Holds V0 s j) : (constantI S_ 32 0#32 : (Proc.devRef .tc main_while0b_c_29 : DevRef τ sig).ty.Contents (Elt F)) = Cert.ReferenceIdeal.Step.b29 j s := by
  unfold Cert.ReferenceIdeal.Step.b29
  rfl
set_option maxRecDepth 8192 in
theorem al_30 (h : Holds V0 s j) : (Host.dynamicSlice S4x576x16x64 (V0 (Proc.devRef .tc main_v30_3)) (fun k => (((![constantI S_ 32 0#32, select (cmpi .slt (res_main_while0b_v41 V0) (constantI S_ 32 0#32)) (addi (res_main_while0b_v41 V0) (constantI S_ 32 4608#32)) (res_main_while0b_v41 V0), constantI S_ 32 0#32, constantI S_ 32 0#32] : Fin 4 → (⟨S_, .i32⟩ : BufTy).Contents (Elt F))) k (Shape.Idx.first h_S_)).toInt) sliceFits_S4x4608x16x64_S4x576x16x64 : (Proc.devRef .tc main_while0b_v53 : DevRef τ sig).ty.Contents (Elt F)) = Cert.ReferenceIdeal.Step.b30 j s := by
  unfold Cert.ReferenceIdeal.Step.b30
  rw [← al_27 h, ← al_26 h, ← al_28 h, ← al_29 h, h.f_3]
  try rfl
set_option maxRecDepth 8192 in
theorem al_31 (h : Holds V0 s j) : (Host.dotGeneral dot_S4x64x16x64_S4x576x16x64_S4x16x64x576_3_3_1_1_02_02 none (Host.dynamicSlice S4x64x16x64 (V0 (Proc.devRef .tc main_v30_1)) (fun k => (((![constantI S_ 32 0#32, select (cmpi .slt (res_main_while0b_v41 V0) (constantI S_ 32 0#32)) (addi (res_main_while0b_v41 V0) (constantI S_ 32 4096#32)) (res_main_while0b_v41 V0), constantI S_ 32 0#32, constantI S_ 32 0#32] : Fin 4 → (⟨S_, .i32⟩ : BufTy).Contents (Elt F))) k (Shape.Idx.first h_S_)).toInt) sliceFits_S4x4096x16x64_S4x64x16x64) (Host.dynamicSlice S4x576x16x64 (V0 (Proc.devRef .tc main_v30_2)) (fun k => (((![constantI S_ 32 0#32, select (cmpi .slt (res_main_while0b_v41 V0) (constantI S_ 32 0#32)) (addi (res_main_while0b_v41 V0) (constantI S_ 32 4608#32)) (res_main_while0b_v41 V0), constantI S_ 32 0#32, constantI S_ 32 0#32] : Fin 4 → (⟨S_, .i32⟩ : BufTy).Contents (Elt F))) k (Shape.Idx.first h_S_)).toInt) sliceFits_S4x4608x16x64_S4x576x16x64) : (Proc.devRef .tc main_while0b_v54 : DevRef τ sig).ty.Contents (Elt F)) = Cert.ReferenceIdeal.Step.b31 j s := by
  unfold Cert.ReferenceIdeal.Step.b31
  rw [← al_12 h, ← al_21 h]
  try rfl
set_option maxRecDepth 8192 in
theorem al_32 (h : Holds V0 s j) : (constant S_ .f32 0x3E000000#32 : (Proc.devRef .tc main_while0b_cst_30 : DevRef τ sig).ty.Contents (Elt F)) = Cert.ReferenceIdeal.Step.b32 j s := by
  unfold Cert.ReferenceIdeal.Step.b32
  rfl
set_option maxRecDepth 8192 in
theorem al_33 (h : Holds V0 s j) : (broadcastInDim S4x16x64x576 ![] bcast_S_S4x16x64x576 (constant S_ .f32 0x3E000000#32) : (Proc.devRef .tc main_while0b_v55 : DevRef τ sig).ty.Contents (Elt F)) = Cert.ReferenceIdeal.Step.b33 j s := by
  unfold Cert.ReferenceIdeal.Step.b33
  rw [← al_32 h]
  try rfl
set_option maxRecDepth 8192 in
theorem al_34 (h : Holds V0 s j) : (mulf (Host.dotGeneral dot_S4x64x16x64_S4x576x16x64_S4x16x64x576_3_3_1_1_02_02 none (Host.dynamicSlice S4x64x16x64 (V0 (Proc.devRef .tc main_v30_1)) (fun k => (((![constantI S_ 32 0#32, select (cmpi .slt (res_main_while0b_v41 V0) (constantI S_ 32 0#32)) (addi (res_main_while0b_v41 V0) (constantI S_ 32 4096#32)) (res_main_while0b_v41 V0), constantI S_ 32 0#32, constantI S_ 32 0#32] : Fin 4 → (⟨S_, .i32⟩ : BufTy).Contents (Elt F))) k (Shape.Idx.first h_S_)).toInt) sliceFits_S4x4096x16x64_S4x64x16x64) (Host.dynamicSlice S4x576x16x64 (V0 (Proc.devRef .tc main_v30_2)) (fun k => (((![constantI S_ 32 0#32, select (cmpi .slt (res_main_while0b_v41 V0) (constantI S_ 32 0#32)) (addi (res_main_while0b_v41 V0) (constantI S_ 32 4608#32)) (res_main_while0b_v41 V0), constantI S_ 32 0#32, constantI S_ 32 0#32] : Fin 4 → (⟨S_, .i32⟩ : BufTy).Contents (Elt F))) k (Shape.Idx.first h_S_)).toInt) sliceFits_S4x4608x16x64_S4x576x16x64)) (broadcastInDim S4x16x64x576 ![] bcast_S_S4x16x64x576 (constant S_ .f32 0x3E000000#32)) : (Proc.devRef .tc main_while0b_v56 : DevRef τ sig).ty.Contents (Elt F)) = Cert.ReferenceIdeal.Step.b34 j s := by
  unfold Cert.ReferenceIdeal.Step.b34
  rw [← al_31 h, ← al_33 h]
  try rfl
set_option maxRecDepth 8192 in
theorem al_35 (h : Holds V0 s j) : (broadcastInDim S1x16x64x576 ![1, 2, 3] bcast_S16x64x576_S1x16x64x576_1_2_3 (V0 (Proc.devRef .tc main_v30_4)) : (Proc.devRef .tc main_while0b_v57 : DevRef τ sig).ty.Contents (Elt F)) = Cert.ReferenceIdeal.Step.b35 j s := by
  unfold Cert.ReferenceIdeal.Step.b35
  rw [h.f_4]
  try rfl
set_option maxRecDepth 8192 in
theorem al_36 (h : Holds V0 s j) : (broadcastInDim S4x16x64x576 ![0, 1, 2, 3] bcast_S1x16x64x576_S4x16x64x576_0_1_2_3 (broadcastInDim S1x16x64x576 ![1, 2, 3] bcast_S16x64x576_S1x16x64x576_1_2_3 (V0 (Proc.devRef .tc main_v30_4))) : (Proc.devRef .tc main_while0b_v58 : DevRef τ sig).ty.Contents (Elt F)) = Cert.ReferenceIdeal.Step.b36 j s := by
  unfold Cert.ReferenceIdeal.Step.b36
  rw [← al_35 h]
  try rfl
set_option maxRecDepth 8192 in
theorem al_37 (h : Holds V0 s j) : (addf (mulf (Host.dotGeneral dot_S4x64x16x64_S4x576x16x64_S4x16x64x576_3_3_1_1_02_02 none (Host.dynamicSlice S4x64x16x64 (V0 (Proc.devRef .tc main_v30_1)) (fun k => (((![constantI S_ 32 0#32, select (cmpi .slt (res_main_while0b_v41 V0) (constantI S_ 32 0#32)) (addi (res_main_while0b_v41 V0) (constantI S_ 32 4096#32)) (res_main_while0b_v41 V0), constantI S_ 32 0#32, constantI S_ 32 0#32] : Fin 4 → (⟨S_, .i32⟩ : BufTy).Contents (Elt F))) k (Shape.Idx.first h_S_)).toInt) sliceFits_S4x4096x16x64_S4x64x16x64) (Host.dynamicSlice S4x576x16x64 (V0 (Proc.devRef .tc main_v30_2)) (fun k => (((![constantI S_ 32 0#32, select (cmpi .slt (res_main_while0b_v41 V0) (constantI S_ 32 0#32)) (addi (res_main_while0b_v41 V0) (constantI S_ 32 4608#32)) (res_main_while0b_v41 V0), constantI S_ 32 0#32, constantI S_ 32 0#32] : Fin 4 → (⟨S_, .i32⟩ : BufTy).Contents (Elt F))) k (Shape.Idx.first h_S_)).toInt) sliceFits_S4x4608x16x64_S4x576x16x64)) (broadcastInDim S4x16x64x576 ![] bcast_S_S4x16x64x576 (constant S_ .f32 0x3E000000#32))) (broadcastInDim S4x16x64x576 ![0, 1, 2, 3] bcast_S1x16x64x576_S4x16x64x576_0_1_2_3 (broadcastInDim S1x16x64x576 ![1, 2, 3] bcast_S16x64x576_S1x16x64x576_1_2_3 (V0 (Proc.devRef .tc main_v30_4)))) : (Proc.devRef .tc main_while0b_v59 : DevRef τ sig).ty.Contents (Elt F)) = Cert.ReferenceIdeal.Step.b37 j s := by
  unfold Cert.ReferenceIdeal.Step.b37
  rw [← al_34 h, ← al_36 h]
  try rfl
set_option maxRecDepth 8192 in
theorem al_38 (h : Holds V0 s j) : (constantI S_ 32 512#32 : (Proc.devRef .tc main_while0b_c_31 : DevRef τ sig).ty.Contents (Elt F)) = Cert.ReferenceIdeal.Step.b38 j s := by
  unfold Cert.ReferenceIdeal.Step.b38
  rfl
set_option maxRecDepth 8192 in
theorem al_39 (h : Holds V0 s j) : (subi (res_main_while0b_v41 V0) (constantI S_ 32 512#32) : (Proc.devRef .tc main_while0b_v60 : DevRef τ sig).ty.Contents (Elt F)) = Cert.ReferenceIdeal.Step.b39 j s := by
  unfold Cert.ReferenceIdeal.Step.b39
  rw [← al_3 h, ← al_38 h]
  try rfl
set_option maxRecDepth 8192 in
theorem al_40 (h : Holds V0 s j) : (iotaInDim S576 32 0 : (Proc.devRef .tc main_while0b_v61 : DevRef τ sig).ty.Contents (Elt F)) = Cert.ReferenceIdeal.Step.b40 j s := by
  unfold Cert.ReferenceIdeal.Step.b40
  rfl
set_option maxRecDepth 8192 in
theorem al_41 (h : Holds V0 s j) : (broadcastInDim S576 ![] bcast_S_S576 (subi (res_main_while0b_v41 V0) (constantI S_ 32 512#32)) : (Proc.devRef .tc main_while0b_v62 : DevRef τ sig).ty.Contents (Elt F)) = Cert.ReferenceIdeal.Step.b41 j s := by
  unfold Cert.ReferenceIdeal.Step.b41
  rw [← al_39 h]
  try rfl
set_option maxRecDepth 8192 in
theorem al_42 (h : Holds V0 s j) : (addi (broadcastInDim S576 ![] bcast_S_S576 (subi (res_main_while0b_v41 V0) (constantI S_ 32 512#32))) (iotaInDim S576 32 0) : (Proc.devRef .tc main_while0b_v63 : DevRef τ sig).ty.Contents (Elt F)) = Cert.ReferenceIdeal.Step.b42 j s := by
  unfold Cert.ReferenceIdeal.Step.b42
  rw [← al_41 h, ← al_40 h]
  try rfl
set_option maxRecDepth 8192 in
theorem al_43 (h : Holds V0 s j) : (constantI S_ 32 0#32 : (Proc.devRef .tc main_while0b_c_32 : DevRef τ sig).ty.Contents (Elt F)) = Cert.ReferenceIdeal.Step.b43 j s := by
  unfold Cert.ReferenceIdeal.Step.b43
  rfl
set_option maxRecDepth 8192 in
theorem al_44 (h : Holds V0 s j) : (broadcastInDim S576 ![] bcast_S_S576 (constantI S_ 32 0#32) : (Proc.devRef .tc main_while0b_v64 : DevRef τ sig).ty.Contents (Elt F)) = Cert.ReferenceIdeal.Step.b44 j s := by
  unfold Cert.ReferenceIdeal.Step.b44
  rw [← al_43 h]
  try rfl
set_option maxRecDepth 8192 in
theorem al_45 (h : Holds V0 s j) : (cmpi .sge (addi (broadcastInDim S576 ![] bcast_S_S576 (subi (res_main_while0b_v41 V0) (constantI S_ 32 512#32))) (iotaInDim S576 32 0)) (broadcastInDim S576 ![] bcast_S_S576 (constantI S_ 32 0#32)) : (Proc.devRef .tc main_while0b_v65 : DevRef τ sig).ty.Contents (Elt F)) = Cert.ReferenceIdeal.Step.b45 j s := by
  unfold Cert.ReferenceIdeal.Step.b45
  rw [← al_42 h, ← al_44 h]
  try rfl
set_option maxRecDepth 8192 in
theorem al_46 (h : Holds V0 s j) : (broadcastInDim S1x1x1x576 ![3] bcast_S576_S1x1x1x576_3 (cmpi .sge (addi (broadcastInDim S576 ![] bcast_S_S576 (subi (res_main_while0b_v41 V0) (constantI S_ 32 512#32))) (iotaInDim S576 32 0)) (broadcastInDim S576 ![] bcast_S_S576 (constantI S_ 32 0#32))) : (Proc.devRef .tc main_while0b_v66 : DevRef τ sig).ty.Contents (Elt F)) = Cert.ReferenceIdeal.Step.b46 j s := by
  unfold Cert.ReferenceIdeal.Step.b46
  rw [← al_45 h]
  try rfl
set_option maxRecDepth 8192 in
theorem al_47 (h : Holds V0 s j) : (constant S_ .f32 0xFF800000#32 : (Proc.devRef .tc main_while0b_cst_33 : DevRef τ sig).ty.Contents (Elt F)) = Cert.ReferenceIdeal.Step.b47 j s := by
  unfold Cert.ReferenceIdeal.Step.b47
  rfl
set_option maxRecDepth 8192 in
theorem al_48 (h : Holds V0 s j) : (id (constant S_ .f32 0xFF800000#32) : (Proc.devRef .tc main_while0b_call4_v0 : DevRef τ sig).ty.Contents (Elt F)) = Cert.ReferenceIdeal.Step.b48 j s := by
  unfold Cert.ReferenceIdeal.Step.b48
  rw [← al_47 h]
  try rfl
set_option maxRecDepth 8192 in
theorem al_49 (h : Holds V0 s j) : (broadcastInDim S4x16x64x576 ![0, 1, 2, 3] bcast_S1x1x1x576_S4x16x64x576_0_1_2_3 (broadcastInDim S1x1x1x576 ![3] bcast_S576_S1x1x1x576_3 (cmpi .sge (addi (broadcastInDim S576 ![] bcast_S_S576 (subi (res_main_while0b_v41 V0) (constantI S_ 32 512#32))) (iotaInDim S576 32 0)) (broadcastInDim S576 ![] bcast_S_S576 (constantI S_ 32 0#32)))) : (Proc.devRef .tc main_while0b_call4_v1 : DevRef τ sig).ty.Contents (Elt F)) = Cert.ReferenceIdeal.Step.b49 j s := by
  unfold Cert.ReferenceIdeal.Step.b49
  rw [← al_46 h]
  try rfl
set_option maxRecDepth 8192 in
theorem al_50 (h : Holds V0 s j) : (broadcastInDim S4x16x64x576 ![] bcast_S_S4x16x64x576 (id (constant S_ .f32 0xFF800000#32)) : (Proc.devRef .tc main_while0b_call4_v2 : DevRef τ sig).ty.Contents (Elt F)) = Cert.ReferenceIdeal.Step.b50 j s := by
  unfold Cert.ReferenceIdeal.Step.b50
  rw [← al_48 h]
  try rfl
set_option maxRecDepth 8192 in
theorem al_51 (h : Holds V0 s j) : (res_main_while0b_v67 V0 : (Proc.devRef .tc main_while0b_v67 : DevRef τ sig).ty.Contents (Elt F)) = Cert.ReferenceIdeal.Step.b51 j s := by
  unfold res_main_while0b_v67 Cert.ReferenceIdeal.Step.b51
  rw [← al_49 h, ← al_37 h, ← al_50 h]
  try rfl
set_option maxRecDepth 8192 in
theorem al_52 (h : Holds V0 s j) : (constant S_ .f32 0xFF800000#32 : (Proc.devRef .tc main_while0b_cst_34 : DevRef τ sig).ty.Contents (Elt F)) = Cert.ReferenceIdeal.Step.b52 j s := by
  unfold Cert.ReferenceIdeal.Step.b52
  rfl
set_option maxRecDepth 8192 in
theorem al_53 (h : Holds V0 s j) : (Host.reduce FloatOps.maximumf (res_main_while0b_v67 V0) (constant S_ .f32 0xFF800000#32) reducesTo_S4x16x64x576_S4x16x64_d3 h_S_ : (Proc.devRef .tc main_while0b_v68 : DevRef τ sig).ty.Contents (Elt F)) = Cert.ReferenceIdeal.Step.b53 j s := by
  unfold Cert.ReferenceIdeal.Step.b53
  rw [← al_51 h, ← al_52 h]
  try rfl
set_option maxRecDepth 8192 in
theorem al_54 (h : Holds V0 s j) : (constant S_ .f32 0xFF800000#32 : (Proc.devRef .tc main_while0b_cst_35 : DevRef τ sig).ty.Contents (Elt F)) = Cert.ReferenceIdeal.Step.b54 j s := by
  unfold Cert.ReferenceIdeal.Step.b54
  rfl
set_option maxRecDepth 8192 in
theorem al_55 (h : Holds V0 s j) : (broadcastInDim S4x16x64 ![] bcast_S_S4x16x64 (constant S_ .f32 0xFF800000#32) : (Proc.devRef .tc main_while0b_v69 : DevRef τ sig).ty.Contents (Elt F)) = Cert.ReferenceIdeal.Step.b55 j s := by
  unfold Cert.ReferenceIdeal.Step.b55
  rw [← al_54 h]
  try rfl
set_option maxRecDepth 8192 in
theorem al_56 (h : Holds V0 s j) : (maximumf (broadcastInDim S4x16x64 ![] bcast_S_S4x16x64 (constant S_ .f32 0xFF800000#32)) (Host.reduce FloatOps.maximumf (res_main_while0b_v67 V0) (constant S_ .f32 0xFF800000#32) reducesTo_S4x16x64x576_S4x16x64_d3 h_S_) : (Proc.devRef .tc main_while0b_v70 : DevRef τ sig).ty.Contents (Elt F)) = Cert.ReferenceIdeal.Step.b56 j s := by
  unfold Cert.ReferenceIdeal.Step.b56
  rw [← al_55 h, ← al_53 h]
  try rfl
set_option maxRecDepth 8192 in
theorem al_57 (h : Holds V0 s j) : (broadcastInDim S4x16x64x1 ![0, 1, 2] bcast_S4x16x64_S4x16x64x1_0_1_2 (maximumf (broadcastInDim S4x16x64 ![] bcast_S_S4x16x64 (constant S_ .f32 0xFF800000#32)) (Host.reduce FloatOps.maximumf (res_main_while0b_v67 V0) (constant S_ .f32 0xFF800000#32) reducesTo_S4x16x64x576_S4x16x64_d3 h_S_)) : (Proc.devRef .tc main_while0b_v71 : DevRef τ sig).ty.Contents (Elt F)) = Cert.ReferenceIdeal.Step.b57 j s := by
  unfold Cert.ReferenceIdeal.Step.b57
  rw [← al_56 h]
  try rfl
set_option maxRecDepth 8192 in
theorem al_58 (h : Holds V0 s j) : (broadcastInDim S4x16x64x576 ![0, 1, 2, 3] bcast_S4x16x64x1_S4x16x64x576_0_1_2_3 (broadcastInDim S4x16x64x1 ![0, 1, 2] bcast_S4x16x64_S4x16x64x1_0_1_2 (maximumf (broadcastInDim S4x16x64 ![] bcast_S_S4x16x64 (constant S_ .f32 0xFF800000#32)) (Host.reduce FloatOps.maximumf (res_main_while0b_v67 V0) (constant S_ .f32 0xFF800000#32) reducesTo_S4x16x64x576_S4x16x64_d3 h_S_))) : (Proc.devRef .tc main_while0b_v72 : DevRef τ sig).ty.Contents (Elt F)) = Cert.ReferenceIdeal.Step.b58 j s := by
  unfold Cert.ReferenceIdeal.Step.b58
  rw [← al_57 h]
  try rfl
set_option maxRecDepth 8192 in
theorem al_59 (h : Holds V0 s j) : (subf (res_main_while0b_v67 V0) (broadcastInDim S4x16x64x576 ![0, 1, 2, 3] bcast_S4x16x64x1_S4x16x64x576_0_1_2_3 (broadcastInDim S4x16x64x1 ![0, 1, 2] bcast_S4x16x64_S4x16x64x1_0_1_2 (maximumf (broadcastInDim S4x16x64 ![] bcast_S_S4x16x64 (constant S_ .f32 0xFF800000#32)) (Host.reduce FloatOps.maximumf (res_main_while0b_v67 V0) (constant S_ .f32 0xFF800000#32) reducesTo_S4x16x64x576_S4x16x64_d3 h_S_)))) : (Proc.devRef .tc main_while0b_v73 : DevRef τ sig).ty.Contents (Elt F)) = Cert.ReferenceIdeal.Step.b59 j s := by
  unfold Cert.ReferenceIdeal.Step.b59
  rw [← al_51 h, ← al_58 h]
  try rfl
set_option maxRecDepth 8192 in
theorem al_60 (h : Holds V0 s j) : (res_main_while0b_v74 V0 : (Proc.devRef .tc main_while0b_v74 : DevRef τ sig).ty.Contents (Elt F)) = Cert.ReferenceIdeal.Step.b60 j s := by
  unfold res_main_while0b_v74 Cert.ReferenceIdeal.Step.b60
  rw [← al_59 h]
  try rfl
set_option maxRecDepth 8192 in
theorem al_61 (h : Holds V0 s j) : (constant S_ .f32 0x00000000#32 : (Proc.devRef .tc main_while0b_cst_36 : DevRef τ sig).ty.Contents (Elt F)) = Cert.ReferenceIdeal.Step.b61 j s := by
  unfold Cert.ReferenceIdeal.Step.b61
  rfl
set_option maxRecDepth 8192 in
theorem al_62 (h : Holds V0 s j) : (Host.reduceAdd (res_main_while0b_v74 V0) (constant S_ .f32 0x00000000#32) reducesTo_S4x16x64x576_S4x16x64_d3 h_S_ : (Proc.devRef .tc main_while0b_v75 : DevRef τ sig).ty.Contents (Elt F)) = Cert.ReferenceIdeal.Step.b62 j s := by
  unfold Cert.ReferenceIdeal.Step.b62
  rw [← al_60 h, ← al_61 h]
  try rfl
set_option maxRecDepth 8192 in
theorem al_63 (h : Holds V0 s j) : (broadcastInDim S4x16x64x1 ![0, 1, 2] bcast_S4x16x64_S4x16x64x1_0_1_2 (Host.reduceAdd (res_main_while0b_v74 V0) (constant S_ .f32 0x00000000#32) reducesTo_S4x16x64x576_S4x16x64_d3 h_S_) : (Proc.devRef .tc main_while0b_v76 : DevRef τ sig).ty.Contents (Elt F)) = Cert.ReferenceIdeal.Step.b63 j s := by
  unfold Cert.ReferenceIdeal.Step.b63
  rw [← al_62 h]
  try rfl
set_option maxRecDepth 8192 in
theorem al_64 (h : Holds V0 s j) : (broadcastInDim S4x16x64x576 ![0, 1, 2, 3] bcast_S4x16x64x1_S4x16x64x576_0_1_2_3 (broadcastInDim S4x16x64x1 ![0, 1, 2] bcast_S4x16x64_S4x16x64x1_0_1_2 (Host.reduceAdd (res_main_while0b_v74 V0) (constant S_ .f32 0x00000000#32) reducesTo_S4x16x64x576_S4x16x64_d3 h_S_)) : (Proc.devRef .tc main_while0b_v77 : DevRef τ sig).ty.Contents (Elt F)) = Cert.ReferenceIdeal.Step.b64 j s := by
  unfold Cert.ReferenceIdeal.Step.b64
  rw [← al_63 h]
  try rfl
set_option maxRecDepth 8192 in
theorem al_65 (h : Holds V0 s j) : (Host.divf (res_main_while0b_v74 V0) (broadcastInDim S4x16x64x576 ![0, 1, 2, 3] bcast_S4x16x64x1_S4x16x64x576_0_1_2_3 (broadcastInDim S4x16x64x1 ![0, 1, 2] bcast_S4x16x64_S4x16x64x1_0_1_2 (Host.reduceAdd (res_main_while0b_v74 V0) (constant S_ .f32 0x00000000#32) reducesTo_S4x16x64x576_S4x16x64_d3 h_S_))) : (Proc.devRef .tc main_while0b_v78 : DevRef τ sig).ty.Contents (Elt F)) = Cert.ReferenceIdeal.Step.b65 j s := by
  unfold Cert.ReferenceIdeal.Step.b65
  rw [← al_60 h, ← al_64 h]
  try rfl
set_option maxRecDepth 8192 in
theorem al_66 (h : Holds V0 s j) : (Host.dotGeneral dot_S4x576x16x64_S4x16x64x576_S4x16x64x64_1_3_3_2_02_01 none (Host.dynamicSlice S4x576x16x64 (V0 (Proc.devRef .tc main_v30_3)) (fun k => (((![constantI S_ 32 0#32, select (cmpi .slt (res_main_while0b_v41 V0) (constantI S_ 32 0#32)) (addi (res_main_while0b_v41 V0) (constantI S_ 32 4608#32)) (res_main_while0b_v41 V0), constantI S_ 32 0#32, constantI S_ 32 0#32] : Fin 4 → (⟨S_, .i32⟩ : BufTy).Contents (Elt F))) k (Shape.Idx.first h_S_)).toInt) sliceFits_S4x4608x16x64_S4x576x16x64) (Host.divf (res_main_while0b_v74 V0) (broadcastInDim S4x16x64x576 ![0, 1, 2, 3] bcast_S4x16x64x1_S4x16x64x576_0_1_2_3 (broadcastInDim S4x16x64x1 ![0, 1, 2] bcast_S4x16x64_S4x16x64x1_0_1_2 (Host.reduceAdd (res_main_while0b_v74 V0) (constant S_ .f32 0x00000000#32) reducesTo_S4x16x64x576_S4x16x64_d3 h_S_)))) : (Proc.devRef .tc main_while0b_v79 : DevRef τ sig).ty.Contents (Elt F)) = Cert.ReferenceIdeal.Step.b66 j s := by
  unfold Cert.ReferenceIdeal.Step.b66
  rw [← al_30 h, ← al_65 h]
  try rfl
set_option maxRecDepth 8192 in
theorem al_67 (h : Holds V0 s j) : (transpose S4x64x16x64 [0, 3, 1, 2] (Host.dotGeneral dot_S4x576x16x64_S4x16x64x576_S4x16x64x64_1_3_3_2_02_01 none (Host.dynamicSlice S4x576x16x64 (V0 (Proc.devRef .tc main_v30_3)) (fun k => (((![constantI S_ 32 0#32, select (cmpi .slt (res_main_while0b_v41 V0) (constantI S_ 32 0#32)) (addi (res_main_while0b_v41 V0) (constantI S_ 32 4608#32)) (res_main_while0b_v41 V0), constantI S_ 32 0#32, constantI S_ 32 0#32] : Fin 4 → (⟨S_, .i32⟩ : BufTy).Contents (Elt F))) k (Shape.Idx.first h_S_)).toInt) sliceFits_S4x4608x16x64_S4x576x16x64) (Host.divf (res_main_while0b_v74 V0) (broadcastInDim S4x16x64x576 ![0, 1, 2, 3] bcast_S4x16x64x1_S4x16x64x576_0_1_2_3 (broadcastInDim S4x16x64x1 ![0, 1, 2] bcast_S4x16x64_S4x16x64x1_0_1_2 (Host.reduceAdd (res_main_while0b_v74 V0) (constant S_ .f32 0x00000000#32) reducesTo_S4x16x64x576_S4x16x64_d3 h_S_))))) transposes_S4x16x64x64_S4x64x16x64_0_3_1_2 : (Proc.devRef .tc main_while0b_v80 : DevRef τ sig).ty.Contents (Elt F)) = Cert.ReferenceIdeal.Step.b67 j s := by
  unfold Cert.ReferenceIdeal.Step.b67
  rw [← al_66 h]
  try rfl
set_option maxRecDepth 8192 in
theorem al_68 (h : Holds V0 s j) : (broadcastInDim S1x4x64x16x64 ![1, 2, 3, 4] bcast_S4x64x16x64_S1x4x64x16x64_1_2_3_4 (transpose S4x64x16x64 [0, 3, 1, 2] (Host.dotGeneral dot_S4x576x16x64_S4x16x64x576_S4x16x64x64_1_3_3_2_02_01 none (Host.dynamicSlice S4x576x16x64 (V0 (Proc.devRef .tc main_v30_3)) (fun k => (((![constantI S_ 32 0#32, select (cmpi .slt (res_main_while0b_v41 V0) (constantI S_ 32 0#32)) (addi (res_main_while0b_v41 V0) (constantI S_ 32 4608#32)) (res_main_while0b_v41 V0), constantI S_ 32 0#32, constantI S_ 32 0#32] : Fin 4 → (⟨S_, .i32⟩ : BufTy).Contents (Elt F))) k (Shape.Idx.first h_S_)).toInt) sliceFits_S4x4608x16x64_S4x576x16x64) (Host.divf (res_main_while0b_v74 V0) (broadcastInDim S4x16x64x576 ![0, 1, 2, 3] bcast_S4x16x64x1_S4x16x64x576_0_1_2_3 (broadcastInDim S4x16x64x1 ![0, 1, 2] bcast_S4x16x64_S4x16x64x1_0_1_2 (Host.reduceAdd (res_main_while0b_v74 V0) (constant S_ .f32 0x00000000#32) reducesTo_S4x16x64x576_S4x16x64_d3 h_S_))))) transposes_S4x16x64x64_S4x64x16x64_0_3_1_2) : (Proc.devRef .tc main_while0b_call5_v0 : DevRef τ sig).ty.Contents (Elt F)) = Cert.ReferenceIdeal.Step.b68 j s := by
  unfold Cert.ReferenceIdeal.Step.b68
  rw [← al_67 h]
  try rfl
set_option maxRecDepth 8192 in
theorem al_69 (h : Holds V0 s j) : (constantI S_ 32 0#32 : (Proc.devRef .tc main_while0b_call5_c : DevRef τ sig).ty.Contents (Elt F)) = Cert.ReferenceIdeal.Step.b69 j s := by
  unfold Cert.ReferenceIdeal.Step.b69
  rfl
set_option maxRecDepth 8192 in
theorem al_70 (h : Holds V0 s j) : (constantI S_ 32 0#32 : (Proc.devRef .tc main_while0b_call5_c_0 : DevRef τ sig).ty.Contents (Elt F)) = Cert.ReferenceIdeal.Step.b70 j s := by
  unfold Cert.ReferenceIdeal.Step.b70
  rfl
set_option maxRecDepth 8192 in
theorem al_71 (h : Holds V0 s j) : (constantI S_ 32 0#32 : (Proc.devRef .tc main_while0b_call5_c_1 : DevRef τ sig).ty.Contents (Elt F)) = Cert.ReferenceIdeal.Step.b71 j s := by
  unfold Cert.ReferenceIdeal.Step.b71
  rfl
set_option maxRecDepth 8192 in
theorem al_72 (h : Holds V0 s j) : (constantI S_ 32 0#32 : (Proc.devRef .tc main_while0b_call5_c_2 : DevRef τ sig).ty.Contents (Elt F)) = Cert.ReferenceIdeal.Step.b72 j s := by
  unfold Cert.ReferenceIdeal.Step.b72
  rfl
set_option maxRecDepth 8192 in
theorem al_73 (h : Holds V0 s j) : (Host.dynamicUpdateSlice (V0 (Proc.devRef .tc main_v30_6)) (broadcastInDim S1x4x64x16x64 ![1, 2, 3, 4] bcast_S4x64x16x64_S1x4x64x16x64_1_2_3_4 (transpose S4x64x16x64 [0, 3, 1, 2] (Host.dotGeneral dot_S4x576x16x64_S4x16x64x576_S4x16x64x64_1_3_3_2_02_01 none (Host.dynamicSlice S4x576x16x64 (V0 (Proc.devRef .tc main_v30_3)) (fun k => (((![constantI S_ 32 0#32, select (cmpi .slt (res_main_while0b_v41 V0) (constantI S_ 32 0#32)) (addi (res_main_while0b_v41 V0) (constantI S_ 32 4608#32)) (res_main_while0b_v41 V0), constantI S_ 32 0#32, constantI S_ 32 0#32] : Fin 4 → (⟨S_, .i32⟩ : BufTy).Contents (Elt F))) k (Shape.Idx.first h_S_)).toInt) sliceFits_S4x4608x16x64_S4x576x16x64) (Host.divf (res_main_while0b_v74 V0) (broadcastInDim S4x16x64x576 ![0, 1, 2, 3] bcast_S4x16x64x1_S4x16x64x576_0_1_2_3 (broadcastInDim S4x16x64x1 ![0, 1, 2] bcast_S4x16x64_S4x16x64x1_0_1_2 (Host.reduceAdd (res_main_while0b_v74 V0) (constant S_ .f32 0x00000000#32) reducesTo_S4x16x64x576_S4x16x64_d3 h_S_))))) transposes_S4x16x64x64_S4x64x16x64_0_3_1_2)) (fun k => (((![V0 (Proc.devRef .tc main_v30_5), constantI S_ 32 0#32, constantI S_ 32 0#32, constantI S_ 32 0#32, constantI S_ 32 0#32] : Fin 5 → (⟨S_, .i32⟩ : BufTy).Contents (Elt F))) k (Shape.Idx.first h_S_)).toInt) updateFits_S64x4x64x16x64_S1x4x64x16x64 : (Proc.devRef .tc main_while0b_v81 : DevRef τ sig).ty.Contents (Elt F)) = Cert.ReferenceIdeal.Step.b73 j s := by
  unfold Cert.ReferenceIdeal.Step.b73
  rw [← al_68 h, ← al_69 h, ← al_70 h, ← al_71 h, ← al_72 h, h.f_6, h.n_5]
  try rfl

/-! One trip's step of the carried values is `step`, field by field; a counter steps to the next number. -/

set_option maxRecDepth 8192 in
theorem step_6 (h : Holds V0 s j) : step_main_v30_6 V0 = (step j s).main_v30_6 := by
  unfold step_main_v30_6 Cert.ReferenceIdeal.Step.step
  exact al_73 h
theorem step_5 (h : Holds V0 s j) : step_main_v30_5 V0 = constantI S_ 32 (BitVec.ofNat 32 (j + 1)) := by
  unfold step_main_v30_5
  rw [h.n_5]
  funext i
  show BitVec.ofNat 32 j + 1#32 = BitVec.ofNat 32 (j + 1)
  simp only [BitVec.ofNat_add]

set_option maxRecDepth 8192 in
theorem out_main_v33_holds (h : Holds V0 s j) : out_main_v33 V0 = Cert.ReferenceIdeal.Step.R_main_v33 s := by
  unfold out_main_v33 Cert.ReferenceIdeal.Step.R_main_v33
  rw [h.f_6]
  try rfl

set_option maxRecDepth 8192 in
theorem out_main_v34_holds (h : Holds V0 s j) {x_main_arg2 : (⟨S1x1024x4112, .f32⟩ : BufTy).Contents (Elt F)} (h_main_arg2 : V0 (Proc.devRef .tc main_arg2) = x_main_arg2) : out_main_v34 V0 = Cert.ReferenceIdeal.Step.R_main_v34 s x_main_arg2 := by
  unfold out_main_v34 Cert.ReferenceIdeal.Step.R_main_v34
  rw [h_main_arg2]
  try rfl

set_option maxRecDepth 8192 in
theorem out_main_v35_holds (h : Holds V0 s j) {x_main_arg3 : (⟨S1x1024x1024, .f32⟩ : BufTy).Contents (Elt F)} (h_main_arg3 : V0 (Proc.devRef .tc main_arg3) = x_main_arg3) : out_main_v35 V0 = Cert.ReferenceIdeal.Step.R_main_v35 s x_main_arg3 := by
  unfold out_main_v35 Cert.ReferenceIdeal.Step.R_main_v35
  rw [h_main_arg3]
  try rfl

set_option maxRecDepth 8192 in
theorem out_main_v37_holds (h : Holds V0 s j) {x_main_arg4 : (⟨S2x1024x4096, .f32⟩ : BufTy).Contents (Elt F)} (h_main_arg4 : V0 (Proc.devRef .tc main_arg4) = x_main_arg4) : out_main_v37 V0 = Cert.ReferenceIdeal.Step.R_main_v37 s x_main_arg4 := by
  unfold out_main_v37 Cert.ReferenceIdeal.Step.R_main_v37
  rw [h_main_arg4]
  try rfl

set_option maxRecDepth 8192 in
theorem out_main_v39_holds (h : Holds V0 s j) {x_main_arg5 : (⟨S2x4096x1024, .f32⟩ : BufTy).Contents (Elt F)} (h_main_arg5 : V0 (Proc.devRef .tc main_arg5) = x_main_arg5) : out_main_v39 V0 = Cert.ReferenceIdeal.Step.R_main_v39 s x_main_arg5 := by
  unfold out_main_v39 Cert.ReferenceIdeal.Step.R_main_v39
  rw [h_main_arg5]
  try rfl

/-- One trip keeps the valuation holding: `step` of the state, the same set-up values, the next number. -/
theorem holds_step (h : Holds V0 s j) : Holds (STEP V0) (step j s) (j + 1) where
  f_6 := (STEP_main_v30_6 V0).trans (step_6 h)
  n_5 := (STEP_main_v30_5 V0).trans (step_5 h)
  k_0 := (STEP_main_v30_0 V0).trans h.k_0
  f_1 := (STEP_main_v30_1 V0).trans h.f_1
  f_2 := (STEP_main_v30_2 V0).trans h.f_2
  f_3 := (STEP_main_v30_3 V0).trans h.f_3
  f_4 := (STEP_main_v30_4 V0).trans h.f_4

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1))

variable (m : (ℓ : Loc nD τ sig) → Buf (Elt F) ℓ) (c : Dev nD)

set_option maxRecDepth 65536 in
set_option maxHeartbeats 400000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 64 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v33) = Cert.ReferenceIdeal.Step.R_main_v33 (it c 64)
      ∧ r.2.mem ((c.tc : Thread nD τ).loc main_v34) = Cert.ReferenceIdeal.Step.R_main_v34 (it c 64) (m ((c.tc : Thread nD τ).loc main_arg2))
      ∧ r.2.mem ((c.tc : Thread nD τ).loc main_v35) = Cert.ReferenceIdeal.Step.R_main_v35 (it c 64) (m ((c.tc : Thread nD τ).loc main_arg3))
      ∧ r.2.mem ((c.tc : Thread nD τ).loc main_v37) = Cert.ReferenceIdeal.Step.R_main_v37 (it c 64) (m ((c.tc : Thread nD τ).loc main_arg4))
      ∧ r.2.mem ((c.tc : Thread nD τ).loc main_v39) = Cert.ReferenceIdeal.Step.R_main_v39 (it c 64) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    have hk := holds_iter m c (it c) (h0 c) (hs c) 64
    ⟨(h c).1.trans (out_main_v33_holds hk), (h c).2.1.trans (out_main_v34_holds hk (iter_main_arg2 m c 64)), (h c).2.2.1.trans (out_main_v35_holds hk (iter_main_arg3 m c 64)), (h c).2.2.2.1.trans (out_main_v37_holds hk (iter_main_arg4 m c 64)), (h c).2.2.2.2.1.trans (out_main_v39_holds hk (iter_main_arg5 m c 64)), (h c).2.2.2.2.2.1, (h c).2.2.2.2.2.2.1, (h c).2.2.2.2.2.2.2.1, (h c).2.2.2.2.2.2.2.2.1, (h c).2.2.2.2.2.2.2.2.2.1, (h c).2.2.2.2.2.2.2.2.2.2⟩) (Value.run m ρ)

end Cert.ReferenceIdeal.StepRun

end
-- ==== Proof.Frames.lean ====
/- The frames of the three programs and the statement of the named constant. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.RefRun
public import proofs.«01_k».proof.Proof.Gen.Pre_finite_scores
public import Idealize.ShloMosaic.Lib.Quiescent

@[expose] public section

set_option maxRecDepth 16384

noncomputable section

namespace Cert.Attn

open Idealize.ShloMosaic Idealize.SL.Sem

/-- The kernel runs from every memory, leaves its arguments and ends quiescent. -/
theorem frame_p : quiescent_Kernel := fun m ρ _ => Cert.Kernel.Gen.frame m ρ

/-- So does the kernel with its constant named. -/
theorem frame_pi : quiescent_KernelIdeal := fun m ρ _ => Cert.KernelIdeal.Gen.frame m ρ

/-- The same under the precondition of the algebraic claim. -/
theorem frame_pi_pre : quiescent_KernelIdeal_pre_finite_scores := fun m ρ _ => Cert.KernelIdeal.Gen.frame m ρ

/-- The reference runs from every memory, leaves its arguments and ends quiescent: it has no semaphore. -/
theorem frame_ri : quiescent_ReferenceIdeal := fun m ρ _ =>
  (θ_run Cert.ReferenceIdeal.defs _ _).mono
    (fun r h => ⟨fun c => (h c).2.2.2.2.2, Idealize.ShloMosaic.sem_eq_zero_of_no_sems (by decide) r.2⟩)
    (Cert.ReferenceIdeal.StepRun.run_iter m ρ (fun c n => Nat.rec (Cert.ReferenceIdeal.StepRun.initState m c)
      (fun n s => Cert.ReferenceIdeal.Step.step n s) n) (fun _ => rfl) (fun _ _ => rfl))

/-- The same under the precondition of the algebraic claim. -/
theorem frame_ri_pre : quiescent_ReferenceIdeal_pre_finite_scores := fun m ρ _ => frame_ri m ρ trivial

/-- `log2e` is the number the kernel's literal rounds. -/
theorem preserves : preserves_Kernel_KernelIdeal :=
  IdealRules.named_const.statement Cert.KernelIdeal.κ "log2e" .f32 0x3FB8AA3B#32 (((Real.log 2)⁻¹ : ℝ) : EReal) rfl

end Cert.Attn

end
-- ==== Proof.Math.lean ====
/- The mathematics the two programs share: a row of scores, its softmax in base e as the reference takes it, and in
   base 2 over scores multiplied by 1 / log 2, with hidden keys at −∞, as the kernel takes it. -/
module

public import Idealize.ShloMosaic.PureOps.Ideal
public import Idealize.ShloMosaic.Lib.Pointwise

@[expose] public section

noncomputable section

namespace Cert.Attn

open Idealize.ShloMosaic

/-- The greatest entry of a row, −∞ of an empty one. -/
def rowMax {n : ℕ} (f : Fin n → EReal) : EReal := Finset.univ.fold max ⊥ f

theorem rowMax_eq_sup {n : ℕ} (f : Fin n → EReal) : rowMax f = Finset.univ.sup f := by
  unfold rowMax
  rw [Finset.sup_def, Finset.fold]
  rfl

/-- A row with no +∞ and an entry above −∞ has a real greatest entry. -/
theorem rowMax_real {n : ℕ} (f : Fin n → EReal) (ht : ∀ k, f k ≠ ⊤) (hb : ∃ k, f k ≠ ⊥) :
    ∃ a : ℝ, rowMax f = (a : EReal) := by
  obtain ⟨k0, hk0⟩ := hb
  obtain ⟨k1, _, hk1⟩ := Finset.exists_mem_eq_sup Finset.univ ⟨k0, Finset.mem_univ _⟩ f
  have hle : f k0 ≤ f k1 := by rw [← hk1]; exact Finset.le_sup (Finset.mem_univ k0)
  have h1 : f k1 ≠ ⊥ := fun h => hk0 (le_bot_iff.mp (h ▸ hle))
  refine ⟨(f k1).toReal, ?_⟩
  rw [rowMax_eq_sup, hk1, EReal.coe_toReal (ht k1) h1]

/-- The greatest entry of a row every entry of which is real or −∞, multiplied by a positive real. -/
theorem rowMax_scale {n m : ℕ} (f : Fin n → EReal) (g : Fin m → EReal) (L : ℝ) (hL : 0 < L) (a : ℝ)
    (ha : rowMax f = (a : EReal))
    (hle : ∀ j, g j = ⊥ ∨ ∃ k, g j = (L : EReal) * f k) (hge : ∀ k, ∃ j, g j = (L : EReal) * f k) :
    rowMax g = ((L * a : ℝ) : EReal) := by
  rw [rowMax_eq_sup] at ha ⊢
  have hL0 : (0 : EReal) ≤ (L : EReal) := by exact_mod_cast hL.le
  have mono : ∀ x : EReal, x ≤ (a : EReal) → (L : EReal) * x ≤ ((L * a : ℝ) : EReal) := by
    intro x hx
    rw [EReal.coe_mul]
    exact mul_le_mul_of_nonneg_left hx hL0
  apply le_antisymm
  · refine Finset.sup_le fun j _ => ?_
    rcases hle j with h | ⟨k, h⟩
    · rw [h]; exact bot_le
    · rw [h]
      exact mono _ (ha ▸ Finset.le_sup (Finset.mem_univ k))
  · have hne : (Finset.univ : Finset (Fin n)).Nonempty := by
      rw [Finset.nonempty_iff_ne_empty]
      intro he
      rw [he, Finset.sup_empty] at ha
      exact absurd ha.symm (EReal.coe_ne_bot a)
    obtain ⟨k1, _, hk1⟩ := Finset.exists_mem_eq_sup Finset.univ hne f
    obtain ⟨j, hj⟩ := hge k1
    rw [hk1] at ha
    rw [EReal.coe_mul, ← ha, ← hj]
    exact Finset.le_sup (Finset.mem_univ j)

/-- A sum of products with a common nonnegative real factor. -/
theorem sum_mul_real {n : ℕ} (x : Fin n → EReal) (c : ℝ) :
    (∑ k, x k * (c : EReal)) = (∑ k, x k) * (c : EReal) ∨ c < 0 := by
  rcases lt_or_ge c 0 with h | h
  · exact Or.inr h
  · left
    have hc : (0 : EReal) ≤ (c : EReal) := by exact_mod_cast h
    induction n with
    | zero => simp
    | succ n ih =>
      rw [Fin.sum_univ_succ, Fin.sum_univ_succ, ih, EReal.right_distrib_of_nonneg_of_ne_top hc (EReal.coe_ne_top c)]

/-- A sum over 640 entries that vanishes outside 576 consecutive ones. -/
theorem sum_band (off : ℕ) (hoff : off + 576 ≤ 640) (F : Fin 640 → EReal) (G : Fin 576 → EReal)
    (hin : ∀ (k : Fin 576), F ⟨off + k.val, by omega⟩ = G k)
    (hout : ∀ j : Fin 640, j.val < off ∨ off + 576 ≤ j.val → F j = 0) :
    (∑ j, F j) = ∑ k, G k := by
  have hinj : Function.Injective (fun k : Fin 576 => (⟨off + k.val, by omega⟩ : Fin 640)) := by
    intro a b h
    have := Fin.mk.inj_iff.mp h
    exact Fin.ext (by omega)
  rw [← Finset.sum_subset (Finset.subset_univ (Finset.univ.map ⟨_, hinj⟩))]
  · rw [Finset.sum_map]
    exact Finset.sum_congr rfl fun k _ => hin k
  · intro j _ hj
    apply hout
    by_contra hcon
    apply hj
    rw [Finset.mem_map]
    exact ⟨⟨j.val - off, by omega⟩, Finset.mem_univ _, Fin.ext (by show off + (j.val - off) = j.val; omega)⟩

/-- 2 to the power of a score over log 2, less the maximum over log 2, is e to the power of the score less the
    maximum. -/
theorem exp2_scaled (x : EReal) (hx : x ≠ ⊤) (a : ℝ) :
    Ideal.exp2 ((((Real.log 2)⁻¹ : ℝ) : EReal) * x - (((Real.log 2)⁻¹ * a : ℝ) : EReal)) = Ideal.exp (x - (a : EReal)) := by
  have hl : 0 < Real.log 2 := Real.log_pos (by norm_num)
  induction x using EReal.rec with
  | top => exact absurd rfl hx
  | bot =>
    rw [EReal.coe_mul_bot_of_pos (inv_pos.mpr hl), EReal.bot_sub, EReal.bot_sub]
    simp
  | coe r =>
    rw [← EReal.coe_mul, ← EReal.coe_sub, ← EReal.coe_sub, Ideal.exp2_coe, Ideal.exp_coe]
    congr 1
    rw [← mul_sub]
    show (2 : ℝ) ^ ((Real.log 2)⁻¹ * (r - a)) = _
    rw [Real.rpow_def_of_pos (by norm_num), ← mul_assoc, mul_inv_cancel₀ hl.ne', one_mul]

/-- e to the power of a score less the maximum is a nonnegative real. -/
theorem exp_real (x : EReal) (hx : x ≠ ⊤) (a : ℝ) :
    ∃ e : ℝ, 0 ≤ e ∧ Ideal.exp (x - (a : EReal)) = (e : EReal) ∧ (x ≠ ⊥ → 0 < e) := by
  induction x using EReal.rec with
  | top => exact absurd rfl hx
  | bot => exact ⟨0, le_rfl, by rw [EReal.bot_sub]; simp, fun h => absurd rfl h⟩
  | coe r => exact ⟨Real.exp (r - a), (Real.exp_pos _).le, by rw [← EReal.coe_sub, Ideal.exp_coe], fun _ => Real.exp_pos _⟩

theorem coe_sum {n : ℕ} (e : Fin n → ℝ) : (∑ k, ((e k : ℝ) : EReal)) = ((∑ k, e k : ℝ) : EReal) := by
  induction n with
  | zero => simp
  | succ n ih => rw [Fin.sum_univ_succ, Fin.sum_univ_succ, ih, EReal.coe_add]

/-- THE SOFTMAX IDENTITY. Of a row `f` of 576 scores, none +∞ and one above −∞, and of a row `g` of 640 that holds the
    same scores over log 2 at `off …` and −∞ elsewhere: the sum of weights `2 ^ (g j − max g)` times values, divided by
    the sum of the weights, is the sum of the values times the softmax of `f`. -/
theorem softmax_eq (off : ℕ) (hoff : off + 576 ≤ 640) (f : Fin 576 → EReal) (g : Fin 640 → EReal)
    (v : Fin 576 → EReal) (w u : Fin 640 → EReal)
    (ht : ∀ k, f k ≠ ⊤) (hb : ∃ k, f k ≠ ⊥)
    (hin : ∀ k : Fin 576, g ⟨off + k.val, by omega⟩ = (((Real.log 2)⁻¹ : ℝ) : EReal) * f k)
    (hout : ∀ j : Fin 640, j.val < off ∨ off + 576 ≤ j.val → g j = ⊥)
    (hw : ∀ k : Fin 576, w ⟨off + k.val, by omega⟩ = v k ∨ f k = ⊥)
    (hu : ∀ j, u j = 1) :
    Ideal.div (∑ j, Ideal.exp2 (g j - rowMax g) * w j) (∑ j, Ideal.exp2 (g j - rowMax g) * u j)
      = ∑ k, v k * Ideal.div (Ideal.exp (f k - rowMax f)) (∑ k', Ideal.exp (f k' - rowMax f)) := by
  have hl : 0 < (Real.log 2)⁻¹ := inv_pos.mpr (Real.log_pos (by norm_num))
  obtain ⟨a, ha⟩ := rowMax_real f ht hb
  have hg : rowMax g = (((Real.log 2)⁻¹ * a : ℝ) : EReal) := by
    refine rowMax_scale f g _ hl a ha (fun j => ?_) (fun k => ⟨_, hin k⟩)
    rcases Nat.lt_or_ge j.val off with h | h
    · exact Or.inl (hout j (Or.inl h))
    rcases Nat.lt_or_ge j.val (off + 576) with h' | h'
    · refine Or.inr ⟨⟨j.val - off, by omega⟩, ?_⟩
      rw [← hin]
      congr 1
      exact Fin.ext (by show j.val = off + (j.val - off); omega)
    · exact Or.inl (hout j (Or.inr h'))
  choose e he0 hee hepos using fun k => exp_real (f k) (ht k) a
  have hgin : ∀ k : Fin 576, Ideal.exp2 (g ⟨off + k.val, by omega⟩ - rowMax g) = ((e k : ℝ) : EReal) := by
    intro k
    rw [hin, hg, exp2_scaled _ (ht k), hee]
  have hgout : ∀ j : Fin 640, j.val < off ∨ off + 576 ≤ j.val → Ideal.exp2 (g j - rowMax g) = 0 := by
    intro j hj
    rw [hout j hj, EReal.bot_sub, Ideal.exp2_bot]
  have hnum : (∑ j, Ideal.exp2 (g j - rowMax g) * w j) = ∑ k, ((e k : ℝ) : EReal) * v k := by
    refine sum_band off hoff _ _ (fun k => ?_) (fun j hj => by rw [hgout j hj, zero_mul])
    rcases hw k with h | h
    · rw [hgin, h]
    · have h0 : ((e k : ℝ) : EReal) = 0 := by rw [← hee, h, EReal.bot_sub, Ideal.exp_bot]
      rw [hgin, h0, zero_mul, zero_mul]
  have hden : (∑ j, Ideal.exp2 (g j - rowMax g) * u j) = ((∑ k, e k : ℝ) : EReal) := by
    rw [← coe_sum]
    refine sum_band off hoff _ _ (fun k => ?_) (fun j hj => by rw [hgout j hj, zero_mul])
    rw [hgin, hu, mul_one]
  have hD : 0 < ∑ k, e k := by
    obtain ⟨k0, hk0⟩ := hb
    exact Finset.sum_pos' (fun k _ => he0 k) ⟨k0, Finset.mem_univ _, hepos k0 hk0⟩
  have hden' : (∑ k', Ideal.exp (f k' - rowMax f)) = ((∑ k, e k : ℝ) : EReal) := by
    rw [← coe_sum, ha]
    exact Finset.sum_congr rfl fun k _ => hee k
  rw [hnum, hden, hden', Ideal.div_coe hD.ne', ha]
  have hpos : ¬ (1 / ∑ k, e k : ℝ) < 0 := not_lt.mpr (one_div_nonneg.mpr hD.le)
  rw [← (sum_mul_real (fun k => ((e k : ℝ) : EReal) * v k) (1 / ∑ k, e k)).resolve_right hpos]
  refine Finset.sum_congr rfl fun k _ => ?_
  rw [hee, Ideal.div_coe hD.ne', mul_comm ((e k : ℝ) : EReal) (v k), mul_assoc]

end Cert.Attn

end
-- ==== Proof.Consts.lean ====
/- The float literals of the programs at `Ideal`, and the integer words their masks are built from. -/
module

public import Idealize.ShloMosaic.PureOps.Ideal
public import Idealize.ShloMosaic.Lib.Pointwise
public import Idealize.ShloMosaic.Lib.Tactic.WordOmega

@[expose] public section

noncomputable section

namespace Cert.Attn

open Idealize.ShloMosaic

/-- The literal −∞. -/
theorem ofBits_neg_inf : Ideal.ofBits .f32 0xFF800000#32 = (⊥ : EReal) := by
  simp [Ideal.ofBits, Ideal.ieee]

/-- The literal 1/8. -/
theorem ofBits_eighth : Ideal.ofBits .f32 0x3E000000#32 = (((1 / 8 : ℝ)) : EReal) := by
  simp [Ideal.ofBits, Ideal.ieee, -EReal.coe_mul]; norm_num

/-- The literal 2. -/
theorem ofBits_two : Ideal.ofBits .f32 0x40000000#32 = ((2 : ℝ) : EReal) := by
  simp [Ideal.ofBits, Ideal.ieee, -EReal.coe_mul]; norm_num

/-- The literal 1. -/
theorem ofBits_one : Ideal.ofBits .f32 0x3F800000#32 = ((1 : ℝ) : EReal) := by
  simp [Ideal.ofBits, Ideal.ieee, -EReal.coe_mul]; norm_num

/-- The literal +∞. -/
theorem ofBits_inf : Ideal.ofBits .f32 0x7F800000#32 = (⊤ : EReal) := by
  simp [Ideal.ofBits, Ideal.ieee]

/-- The mask of the keys before the sequence: `64 j − 512 + k ≥ 0`, computed on words. -/
theorem select_pad {α : Type} (n k : ℕ) (hn : n < 4096) (hk : k < 576) (a b : α) :
    Scalar.select (IntOp.cmpi CmpIPredicate.sge
      (IntOp.addi (IntOp.subi (BitVec.ofNat 32 n) 512#32) (BitVec.ofNat 32 k)) 0#32) a b
      = if 512 ≤ n + k then a else b := by
  have h : (IntOp.addi (IntOp.subi (BitVec.ofNat 32 n) 512#32) (BitVec.ofNat 32 k)).toInt = ((n + k : ℕ) : ℤ) - 512 := by
    show (BitVec.ofNat 32 n - 512#32 + BitVec.ofNat 32 k).toInt = _
    rw [BitVec.toInt_eq_toNat_cond]
    simp only [BitVec.toNat_add, BitVec.toNat_sub, BitVec.toNat_ofNat]
    split <;> omega
  have h2 : (IntOp.cmpi CmpIPredicate.sge
      (IntOp.addi (IntOp.subi (BitVec.ofNat 32 n) 512#32) (BitVec.ofNat 32 k)) 0#32)
      = if 512 ≤ n + k then 1#1 else 0#1 := by
    generalize IntOp.addi (IntOp.subi (BitVec.ofNat 32 n) 512#32) (BitVec.ofNat 32 k) = x at h
    show BitVec.ofBool ((0#32).sle x) = _
    simp only [BitVec.sle, h, BitVec.toInt_zero]
    split
    · rw [decide_eq_true (by omega)]; rfl
    · rw [decide_eq_false (by omega)]; rfl
  rw [h2]
  unfold Scalar.select
  split <;> simp

/-- A small number as a 32-bit word, read signed. -/
theorem toInt_small (n : ℕ) (hn : n < 65536) : (BitVec.ofNat 32 n).toInt = (n : ℤ) := by
  rw [BitVec.toInt_eq_toNat_cond, BitVec.toNat_ofNat]
  split <;> omega

/-- A select by `n < k` on words of small numbers. -/
theorem select_slt (n k : ℕ) (hn : n < 65536) (hk : k < 65536) (a b : EReal) :
    Scalar.select (IntOp.cmpi CmpIPredicate.slt (BitVec.ofNat 32 n) (BitVec.ofNat 32 k)) a b = if n < k then a else b := by
  have hc : IntOp.cmpi CmpIPredicate.slt (BitVec.ofNat 32 n) (BitVec.ofNat 32 k) = BitVec.ofBool (decide (n < k)) := by
    show BitVec.ofBool ((BitVec.ofNat 32 n).slt (BitVec.ofNat 32 k)) = _
    simp only [BitVec.slt, toInt_small n hn, toInt_small k hk, Nat.cast_lt]
  rw [hc]
  by_cases h : n < k
  · rw [if_pos h, decide_eq_true h]; rfl
  · rw [if_neg h, decide_eq_false h]; rfl

/-- A select by `n ≥ k` on words of small numbers. -/
theorem select_sge (n k : ℕ) (hn : n < 65536) (hk : k < 65536) (a b : EReal) :
    Scalar.select (IntOp.cmpi CmpIPredicate.sge (BitVec.ofNat 32 n) (BitVec.ofNat 32 k)) a b = if k ≤ n then a else b := by
  have hc : IntOp.cmpi CmpIPredicate.sge (BitVec.ofNat 32 n) (BitVec.ofNat 32 k) = BitVec.ofBool (decide (k ≤ n)) := by
    show BitVec.ofBool ((BitVec.ofNat 32 k).sle (BitVec.ofNat 32 n)) = _
    simp only [BitVec.sle, toInt_small n hn, toInt_small k hk, Nat.cast_le]
  rw [hc]
  by_cases h : k ≤ n
  · rw [if_pos h, decide_eq_true h]; rfl
  · rw [if_neg h, decide_eq_false h]; rfl

/-- The column of the bias table for query `q` of a chunk and key `k` of its band, computed on words: their distance
    clipped to 256 each way, plus 256. -/
theorem clip_word (q k : ℕ) (hq : q < 64) (hk : k < 576) :
    Scalar.select
      (IntOp.cmpi CmpIPredicate.slt
        (IntOp.addi
          (IntOp.minsi 256#32
            (IntOp.maxsi 4294967040#32
              (IntOp.subi (BitVec.ofNat 32 q) (IntOp.subi (BitVec.ofNat 32 k) 512#32))))
          256#32)
        0#32)
      (IntOp.addi
        (IntOp.addi
          (IntOp.minsi 256#32
            (IntOp.maxsi 4294967040#32
              (IntOp.subi (BitVec.ofNat 32 q) (IntOp.subi (BitVec.ofNat 32 k) 512#32))))
          256#32)
        513#32)
      (IntOp.addi
        (IntOp.minsi 256#32
          (IntOp.maxsi 4294967040#32
            (IntOp.subi (BitVec.ofNat 32 q) (IntOp.subi (BitVec.ofNat 32 k) 512#32))))
        256#32) =
    BitVec.ofNat 32 (min (q + 768 - k) 512) := by
  have hx : (IntOp.subi (BitVec.ofNat 32 q) (IntOp.subi (BitVec.ofNat 32 k) 512#32)).toInt = (q : ℤ) + 512 - k := by
    show (BitVec.ofNat 32 q - (BitVec.ofNat 32 k - 512#32)).toInt = _
    rw [BitVec.toInt_eq_toNat_cond]
    simp only [BitVec.toNat_sub, BitVec.toNat_ofNat]
    split <;> omega
  generalize IntOp.subi (BitVec.ofNat 32 q) (IntOp.subi (BitVec.ofNat 32 k) 512#32) = x at hx ⊢
  have hy : IntOp.addi (IntOp.minsi 256#32 (IntOp.maxsi 4294967040#32 x)) 256#32
      = BitVec.ofNat 32 (min (q + 768 - k) 512) := by
    have hxn : x = BitVec.ofInt 32 ((q : ℤ) + 512 - k) := by rw [← hx, BitVec.ofInt_toInt]
    have hmax : IntOp.maxsi 4294967040#32 x = x := by
      have h1 : (4294967040#32 : BitVec 32).toInt = -256 := by decide
      unfold IntOp.maxsi
      simp only [BitVec.slt, BitVec.sle, h1, hx]
      split <;> simp_all <;> omega
    rw [hmax]
    have h2 : (256#32 : BitVec 32).toInt = 256 := by decide
    have hmin : IntOp.minsi 256#32 x = if (256 : ℤ) < (q : ℤ) + 512 - k then 256#32 else x := by
      unfold IntOp.minsi
      simp only [BitVec.slt, h2, hx, decide_eq_true_eq]
    rw [hmin]
    apply BitVec.eq_of_toNat_eq
    have hxt : (x.toNat : ℤ) = (q : ℤ) + 512 - k ∨ (x.toNat : ℤ) = (q : ℤ) + 512 - k + 4294967296 := by
      rw [BitVec.toInt_eq_toNat_cond] at hx
      split at hx <;> omega
    show ((if (256 : ℤ) < (q : ℤ) + 512 - k then 256#32 else x) + 256#32).toNat = _
    have hlt := x.isLt
    split
    · simp only [BitVec.toNat_add, BitVec.toNat_ofNat]
      omega
    · simp only [BitVec.toNat_add, BitVec.toNat_ofNat]
      omega
  rw [hy]
  have hs : IntOp.cmpi CmpIPredicate.slt (BitVec.ofNat 32 (min (q + 768 - k) 512)) 0#32 = 0#1 := by
    show BitVec.ofBool ((BitVec.ofNat 32 (min (q + 768 - k) 512)).slt 0#32) = _
    have h3 : (BitVec.ofNat 32 (min (q + 768 - k) 512)).toInt = ((min (q + 768 - k) 512 : ℕ) : ℤ) := by
      rw [BitVec.toInt_eq_toNat_cond, BitVec.toNat_ofNat]
      split <;> omega
    simp only [BitVec.slt, h3, BitVec.toInt_zero]
    rw [decide_eq_false (by omega)]
    rfl
  rw [hs]
  rfl

end Cert.Attn

end
-- ==== Proof.RefTrip.lean ====
/- One trip of the reference's loop, read at an index: what chunk `j` of the queries makes of its band of keys. -/
module

public import proofs.«01_k».proof.Proof.Gen.ReferenceIdeal.Step
public import proofs.«01_k».proof.Proof.Math
public import proofs.«01_k».proof.Proof.Consts
public import Idealize.ShloMosaic.Lib.Pointwise
public import Idealize.ShloMosaic.Lib.DynamicIndex

@[expose] public section

set_option maxRecDepth 16384

noncomputable section

namespace Cert.Attn

open Idealize.ShloMosaic Cert.ReferenceIdeal Cert.ReferenceIdeal.Gen Cert.ReferenceIdeal.Step

/-- A chunk number as a 32-bit word is not negative, read signed. -/
theorem b3_val (j : ℕ) (hj : j < 64) (s : State Ideal) : b3 j s = constantI S_ 32 (BitVec.ofNat 32 (64 * j)) := by
  funext i
  unfold b3 b2 b1 b0 K_main_v28
  pointwise
  rw [Host.clampedStart_of_le _ _ _ j (toInt_ofNat_of_lt (by omega)) (by show j + 1 ≤ 64; omega)]
  show BitVec.ofNat 32 j * BitVec.ofNat 32 64 = BitVec.ofNat 32 (64 * j)
  rw [← BitVec.ofNat_mul, Nat.mul_comm]

/-- The chunk's queries. -/
theorem b12_val (j : ℕ) (hj : j < 64) (s : State Ideal) (b : Fin 4) (q : Fin 64) (h : Fin 16) (d : Fin 64) :
    b12 j s (ix4 b q h d) = s.main_v30_1 (ix4 b ⟨64 * j + q.val, by omega⟩ h d) := by
  unfold b12 b8 b5 b7 b4 b6 b9 b10 b11
  rw [b3_val j hj]
  rw [Host.dynamicSlice_eq_extractStridedSlice (off := ![0, 64 * j, 0, 0])]
  case hoff => exact ⟨rfl, fun a => by fin_cases a <;> simp <;> omega⟩
  case hs =>
    intro a
    fin_cases a
    · rfl
    · exact toInt_wrap_ofNat (64 * j) (by omega)
    · rfl
    · rfl
  pointwise

/-- The chunk's band of keys. -/
theorem b21_val (j : ℕ) (hj : j < 64) (s : State Ideal) (b : Fin 4) (k : Fin 576) (h : Fin 16) (d : Fin 64) :
    b21 j s (ix4 b k h d) = s.main_v30_2 (ix4 b ⟨64 * j + k.val, by omega⟩ h d) := by
  unfold b21 b17 b14 b16 b13 b15 b18 b19 b20
  rw [b3_val j hj]
  rw [Host.dynamicSlice_eq_extractStridedSlice (off := ![0, 64 * j, 0, 0])]
  case hoff => exact ⟨rfl, fun a => by fin_cases a <;> simp <;> omega⟩
  case hs =>
    intro a
    fin_cases a
    · rfl
    · exact toInt_wrap_ofNat (64 * j) (by omega)
    · rfl
    · rfl
  pointwise

/-- The chunk's band of values. -/
theorem b30_val (j : ℕ) (hj : j < 64) (s : State Ideal) (b : Fin 4) (k : Fin 576) (h : Fin 16) (d : Fin 64) :
    b30 j s (ix4 b k h d) = s.main_v30_3 (ix4 b ⟨64 * j + k.val, by omega⟩ h d) := by
  unfold b30 b26 b23 b25 b22 b24 b27 b28 b29
  rw [b3_val j hj]
  rw [Host.dynamicSlice_eq_extractStridedSlice (off := ![0, 64 * j, 0, 0])]
  case hoff => exact ⟨rfl, fun a => by fin_cases a <;> simp <;> omega⟩
  case hs =>
    intro a
    fin_cases a
    · rfl
    · exact toInt_wrap_ofNat (64 * j) (by omega)
    · rfl
    · rfl
  pointwise

/-- The scores of one query of the chunk against its band: −∞ at the keys before the sequence. -/
theorem b51_val (j : ℕ) (hj : j < 64) (s : State Ideal) (b : Fin 4) (q : Fin 64) (h : Fin 16) (k : Fin 576) :
    b51 j s (ix4 b h q k) = if 512 ≤ 64 * j + k.val then
      (∑ d : Fin 64, s.main_v30_1 (ix4 b ⟨64 * j + q.val, by omega⟩ h d)
        * s.main_v30_2 (ix4 b ⟨64 * j + k.val, by omega⟩ h d)) * ((1 / 8 : ℝ) : EReal)
        + s.main_v30_4 (ix3 h q k) else ⊥ := by
  have h31 : b31 j s (ix4 b h q k) = ∑ d : Fin 64, s.main_v30_1 (ix4 b ⟨64 * j + q.val, by omega⟩ h d)
        * s.main_v30_2 (ix4 b ⟨64 * j + k.val, by omega⟩ h d) := by
    unfold b31
    pointwise
    exact Finset.sum_congr rfl fun d _ => by rw [b12_val j hj, b21_val j hj]
  unfold b51 b49 b50 b48 b47 b46 b45 b44 b43 b42 b41 b40 b39 b38 b37 b36 b35 b34 b33 b32
  rw [b3_val j hj]
  pointwise
  rw [select_pad _ _ (by omega) k.isLt, h31, ofBits_eighth, ofBits_neg_inf]

/-- The greatest score of a row. -/
theorem b53_val (j : ℕ) (s : State Ideal) (b : Fin 4) (q : Fin 64) (h : Fin 16) (f : Fin 576 → EReal)
    (hf : ∀ k, b51 j s (ix4 b h q k) = f k) : b53 j s (ix3 b h q) = rowMax f := by
  unfold b53 b52
  pointwise
  simp only [hf, ofBits_neg_inf]
  rfl

/-- The larger of −∞ and an entry is the entry. -/
theorem maximumf_bot (x y : FVec Ideal S4x16x64 .f32) (i : S4x16x64.Idx) (hx : x i = (⊥ : EReal)) :
    maximumf x y i = y i := by
  rw [maximumf_apply, hx]
  exact max_eq_right (bot_le (α := EReal))

/-- The greatest score against the literal −∞ is itself. -/
theorem b56_val (j : ℕ) (s : State Ideal) (b : Fin 4) (q : Fin 64) (h : Fin 16) :
    b56 j s (ix3 b h q) = b53 j s (ix3 b h q) := by
  unfold b56
  refine maximumf_bot _ _ _ ?_
  unfold b55 b54
  exact ofBits_neg_inf

/-- The weight of one key. -/
theorem b60_val (j : ℕ) (s : State Ideal) (b : Fin 4) (q : Fin 64) (h : Fin 16) (k : Fin 576) (f : Fin 576 → EReal)
    (hf : ∀ k, b51 j s (ix4 b h q k) = f k) : b60 j s (ix4 b h q k) = Ideal.exp (f k - rowMax f) := by
  have h58 : b58 j s (ix4 b h q k) = b56 j s (ix3 b h q) := by
    unfold b58 b57
    pointwise
  rw [← b53_val j s b q h f hf, ← b56_val, ← h58, ← hf]
  unfold b60 b59
  pointwise

/-- The sum of the weights. -/
theorem b62_val (j : ℕ) (s : State Ideal) (b : Fin 4) (q : Fin 64) (h : Fin 16) (f : Fin 576 → EReal)
    (hf : ∀ k, b51 j s (ix4 b h q k) = f k) : b62 j s (ix3 b h q) = ∑ k, Ideal.exp (f k - rowMax f) := by
  simp only [← b60_val j s b q h _ f hf]
  unfold b62 b61
  pointwise

/-- The softmax of a row of scores. -/
theorem b65_val (j : ℕ) (s : State Ideal) (b : Fin 4) (q : Fin 64) (h : Fin 16) (k : Fin 576) (f : Fin 576 → EReal)
    (hf : ∀ k, b51 j s (ix4 b h q k) = f k) :
    b65 j s (ix4 b h q k) = Ideal.div (Ideal.exp (f k - rowMax f)) (∑ k', Ideal.exp (f k' - rowMax f)) := by
  have h64 : b64 j s (ix4 b h q k) = b62 j s (ix3 b h q) := by
    unfold b64 b63
    pointwise
  rw [← b62_val j s b q h f hf, ← b60_val j s b q h k f hf, ← h64]
  unfold b65
  pointwise

/-- What the trip writes of one query: the values of its band times the softmax of its scores. -/
theorem b68_val (j : ℕ) (hj : j < 64) (s : State Ideal) (b : Fin 4) (q : Fin 64) (h : Fin 16) (d : Fin 64)
    (f : Fin 576 → EReal) (hf : ∀ k, b51 j s (ix4 b h q k) = f k) :
    b68 j s (ix5 0 b q h d) = ∑ k : Fin 576, s.main_v30_3 (ix4 b ⟨64 * j + k.val, by omega⟩ h d)
      * Ideal.div (Ideal.exp (f k - rowMax f)) (∑ k', Ideal.exp (f k' - rowMax f)) := by
  unfold b68 b67 b66
  pointwise
  exact Finset.sum_congr rfl fun k _ => by rw [b30_val j hj, b65_val j s b q h k f hf]

end Cert.Attn

end
-- ==== Proof.RefVal.lean ====
/- What the reference computes: its attention result at an index, of the arguments. -/
module

public import proofs.«01_k».proof.Proof.RefTrip
public import proofs.«01_k».proof.Proof.Gen.ReferenceIdeal.Step
public import Idealize.ShloMosaic.Lib.Pipeline.Value

@[expose] public section

set_option maxRecDepth 16384

noncomputable section

namespace Cert.Attn

open Idealize.ShloMosaic Cert.ReferenceIdeal Cert.ReferenceIdeal.Gen Cert.ReferenceIdeal.Step

/-- The projected queries, keys and values, and the table of relative biases. -/
abbrev Qkv := (⟨S4x4096x3072, .f32⟩ : BufTy).Contents (Elt Ideal)
abbrev Rel := (⟨S1x16x513, .f32⟩ : BufTy).Contents (Elt Ideal)

/-- The loop's queries are the first third of the projection, by heads. -/
theorem q_val (X : Qkv) (RB : Rel) (b : Fin 4) (t : Fin 4096) (h : Fin 16) (d : Fin 64) :
    (init X RB).main_v30_1 (ix4 b t h d) = X (ix3 b t ⟨h.val * 64 + d.val, by omega⟩) := by
  show A_main_v4 X RB (ix4 b t h d) = _
  unfold A_main_v4 A_main_v1
  pointwise

/-- The integer 0 as a float. -/
theorem pad_zero (i : S_.Idx) : K_main_call0_v0 (F := Ideal) i = (0 : EReal) := by
  unfold K_main_call0_v0 K_main_c
  pointwise
  show (((0#32 : BitVec 32).toInt : ℝ) : EReal) = 0
  simp

/-- The loop's keys are the second third, with 512 rows of zeros before them. -/
theorem k_val (X : Qkv) (RB : Rel) (b : Fin 4) (t : Fin 4608) (h : Fin 16) (d : Fin 64) :
    (init X RB).main_v30_2 (ix4 b t h d) = if h512 : 512 ≤ t.val then
      X (ix3 b ⟨t.val - 512, by omega⟩ ⟨1024 + (h.val * 64 + d.val), by omega⟩) else 0 := by
  show A_main_v7 X RB (ix4 b t h d) = _
  unfold A_main_v7 A_main_v5 A_main_v2
  have hz := pad_zero
  generalize K_main_call0_v0 (F := Ideal) = z at hz ⊢
  pointwise
  by_cases h512 : 512 ≤ t.val
  · rw [dif_pos ⟨h512, by omega⟩, dif_pos h512]
  · rw [dif_neg (fun hh => h512 hh.1), dif_neg h512, hz]

/-- The loop's values are the last third, with 512 rows of zeros before them. -/
theorem v_val (X : Qkv) (RB : Rel) (b : Fin 4) (t : Fin 4608) (h : Fin 16) (d : Fin 64) :
    (init X RB).main_v30_3 (ix4 b t h d) = if h512 : 512 ≤ t.val then
      X (ix3 b ⟨t.val - 512, by omega⟩ ⟨2048 + (h.val * 64 + d.val), by omega⟩) else 0 := by
  show A_main_v8 X RB (ix4 b t h d) = _
  unfold A_main_v8 A_main_v6 A_main_v3
  have hz : ∀ i, K_main_call1_v0 (F := Ideal) i = (0 : EReal) := pad_zero
  generalize K_main_call1_v0 (F := Ideal) = z at hz ⊢
  pointwise
  by_cases h512 : 512 ≤ t.val
  · rw [dif_pos ⟨h512, by omega⟩, dif_pos h512]
  · rw [dif_neg (fun hh => h512 hh.1), dif_neg h512, hz]

/-- A gather of the columns of a table, read at an index. -/
theorem gather_cols (x : FVec Ideal S16x513 .f32) (idx : IVec S64x576x1 32) (h : Fin 16) (q : Fin 64) (k : Fin 576) :
    Host.gather gather_S16x513_S64x576x1_S16x64x576_0_1_n_n_1_2_161 x idx (ix3 h q k)
      = x (ix2 h ⟨min (idx (ix3 q k 0)).toInt.toNat 512, by omega⟩) := by
  unfold Host.gather
  congr 1
  funext a
  refine Fin.ext ?_
  show GatherDims.start _ _ idx a + GatherDims.batchCoord _ _ a + GatherDims.offCoord _ _ a = _
  have h01 : a = 0 ∨ a = 1 := by
    match a with
    | ⟨0, _⟩ => exact Or.inl rfl
    | ⟨1, _⟩ => exact Or.inr rfl
  rw [GatherDims.batchCoord_eq_zero _ _ _ List.not_mem_nil]
  rcases h01 with rfl | rfl
  · unfold GatherDims.start GatherDims.offCoord
    rw [dif_neg (by decide), dif_pos (by decide)]
    exact (Nat.zero_add _).trans rfl
  · rw [GatherDims.offCoord_eq_zero _ _ _ (by decide)]
    unfold GatherDims.start
    rw [dif_pos (by decide)]
    show min (idx _).toInt.toNat 512 = min (idx _).toInt.toNat 512
    congr 4
    funext b
    match b with
    | ⟨0, _⟩ => rfl
    | ⟨1, _⟩ => rfl
    | ⟨2, _⟩ => rfl

/-- The table column of a query and a key of its band: their distance, clipped to 256 each way. -/
theorem dist_val (q : Fin 64) (k : Fin 576) :
    (K_main_v26 (F := Ideal) (ix3 q k 0)) = BitVec.ofNat 32 (min (q.val + 768 - k.val) 512) := by
  unfold K_main_v26 K_main_v25 K_main_v24 K_main_v23 K_main_c_6 K_main_v22 K_main_v21 K_main_c_5 K_main_v20 K_main_v19 K_main_c_4 K_main_v18 K_main_call2_v4 K_main_call2_v3 K_main_c_3 K_main_call2_v2 K_main_call2_v1 K_main_call2_v0 K_main_c_2 K_main_v17 K_main_v16 K_main_v15 K_main_v14 K_main_v13 K_main_c_1 K_main_v12 K_main_v11 K_main_v10 K_main_v9
  pointwise
  exact clip_word q.val k.val q.isLt k.isLt

/-- The bias of a query and a key of its band. -/
theorem bias_val (X : Qkv) (RB : Rel) (h : Fin 16) (q : Fin 64) (k : Fin 576) :
    (init X RB).main_v30_4 (ix3 h q k) = RB (ix3 0 h ⟨min (q.val + 768 - k.val) 512, by omega⟩) := by
  show A_main_v27 X RB (ix3 h q k) = _
  unfold A_main_v27 A_main_v0
  refine (gather_cols _ _ h q k).trans ?_
  have e : (⟨min (K_main_v26 (F := Ideal) (ix3 q k 0)).toInt.toNat 512, by omega⟩ : Fin 513)
      = ⟨min (q.val + 768 - k.val) 512, by omega⟩ := by
    refine Fin.ext ?_
    show min (K_main_v26 (F := Ideal) (ix3 q k 0)).toInt.toNat 512 = min (q.val + 768 - k.val) 512
    rw [dist_val, toInt_ofNat_of_lt (by omega)]
    omega
  rw [e]
  pointwise

/-- The result after the loop: row `t` is query `t mod 64` of chunk `t / 64`, by heads. -/
theorem R33_val (s : State Ideal) (b : Fin 4) (t : Fin 4096) (i : Fin 1024) :
    R_main_v33 s (ix3 b t i) = s.main_v30_6 (ix5 ⟨t.val / 64, by omega⟩ b ⟨t.val % 64, by omega⟩ ⟨i.val / 64, by omega⟩ ⟨i.val % 64, by omega⟩) := by
  unfold R_main_v33
  pointwise

/-- Trip `j` writes chunk `j` and leaves the others. -/
theorem b73_val (j : ℕ) (hj : j < 64) (s : State Ideal) (c : Fin 64) (b : Fin 4) (q : Fin 64) (h : Fin 16) (d : Fin 64) :
    b73 j s (ix5 c b q h d) = if c.val = j then b68 j s (ix5 0 b q h d) else s.main_v30_6 (ix5 c b q h d) := by
  unfold b73 b69 b70 b71 b72
  rw [Host.dynamicUpdateSlice_eq_updateSlice (adj := ![j, 0, 0, 0, 0])]
  case h' => exact ⟨rfl, fun a => by fin_cases a <;> simp <;> omega⟩
  case hadj =>
    intro a
    fin_cases a
    · show (min (max (BitVec.ofNat 32 j).toInt 0) ((64 - 1 : ℕ) : ℤ)).toNat = j
      rw [toInt_ofNat_of_lt (by omega)]
      omega
    · rfl
    · rfl
    · rfl
    · rfl
  pointwise
  by_cases hc : c.val = j
  · rw [dif_pos ⟨by omega, by omega⟩, if_pos hc]
    congr 2
    exact Fin.ext (by show c.val - j = 0; omega)
  · rw [dif_neg (by omega), if_neg hc]

end Cert.Attn

end
-- ==== Proof.RefOut.lean ====
/- The reference's attention result at an index, of its arguments: one query's softmax over its band. -/
module

public import proofs.«01_k».proof.Proof.RefVal
public import proofs.«01_k».proof.Proof.Math

@[expose] public section

set_option maxRecDepth 16384

noncomputable section

namespace Cert.Attn

open Idealize.ShloMosaic Cert.ReferenceIdeal Cert.ReferenceIdeal.Gen Cert.ReferenceIdeal.Step

/-- The states the loop goes through. -/
def states (X : Qkv) (RB : Rel) : ℕ → State Ideal
  | 0 => init X RB
  | n + 1 => step n (states X RB n)

/-- The trips leave the queries, keys, values and biases alone. -/
theorem states_fields (X : Qkv) (RB : Rel) (n : ℕ) :
    (states X RB n).main_v30_1 = (init X RB).main_v30_1 ∧ (states X RB n).main_v30_2 = (init X RB).main_v30_2
      ∧ (states X RB n).main_v30_3 = (init X RB).main_v30_3 ∧ (states X RB n).main_v30_4 = (init X RB).main_v30_4 := by
  induction n with
  | zero => exact ⟨rfl, rfl, rfl, rfl⟩
  | succ n ih => exact ⟨ih.1, ih.2.1, ih.2.2.1, ih.2.2.2⟩

/-- After more than `c` trips the result holds chunk `c` as trip `c` wrote it. -/
theorem states_chunk (X : Qkv) (RB : Rel) (c : Fin 64) (b : Fin 4) (q : Fin 64) (h : Fin 16) (d : Fin 64) (n : ℕ) (hn : c.val < n)
    (hn64 : n ≤ 64) :
    (states X RB n).main_v30_6 (ix5 c b q h d) = b68 c.val (states X RB c.val) (ix5 0 b q h d) := by
  induction n with
  | zero => omega
  | succ n ih =>
    refine (congrFun (step_main_v30_6 n (states X RB n)) _).trans ?_
    rw [b73_val n (by omega)]
    by_cases hc : c.val = n
    · rw [if_pos hc, hc]
    · rw [if_neg hc]
      exact ih (by omega) (by omega)

/-- The scores of query `q` of chunk `j` against the 576 keys of its band: the scaled product plus the bias of their
    distance, and −∞ before the first key. -/
def score (X : Qkv) (RB : Rel) (b : Fin 4) (h : Fin 16) (j : Fin 64) (q : Fin 64) (k : Fin 576) : EReal :=
  if hk : 512 ≤ 64 * j.val + k.val then
    (∑ d : Fin 64, X (ix3 b ⟨64 * j.val + q.val, by omega⟩ ⟨h.val * 64 + d.val, by omega⟩)
      * X (ix3 b ⟨64 * j.val + k.val - 512, by omega⟩ ⟨1024 + (h.val * 64 + d.val), by omega⟩)) * ((1 / 8 : ℝ) : EReal)
    + RB (ix3 0 h ⟨min (q.val + 768 - k.val) 512, by omega⟩)
  else ⊥

/-- The value row of key `k` of the band of chunk `j`: zero before the first. -/
def value (X : Qkv) (b : Fin 4) (h : Fin 16) (d : Fin 64) (j : Fin 64) (k : Fin 576) : EReal :=
  if hk : 512 ≤ 64 * j.val + k.val then
    X (ix3 b ⟨64 * j.val + k.val - 512, by omega⟩ ⟨2048 + (h.val * 64 + d.val), by omega⟩)
  else 0

/-- THE REFERENCE'S ATTENTION at an index: the values of the query's band, weighted by the softmax of its scores. -/
theorem ref_attn (X : Qkv) (RB : Rel) (b : Fin 4) (t : Fin 4096) (i : Fin 1024) :
    R_main_v33 (states X RB 64) (ix3 b t i)
      = ∑ k : Fin 576, value X b ⟨i.val / 64, by omega⟩ ⟨i.val % 64, by omega⟩ ⟨t.val / 64, by omega⟩ k
        * Ideal.div (Ideal.exp (score X RB b ⟨i.val / 64, by omega⟩ ⟨t.val / 64, by omega⟩ ⟨t.val % 64, by omega⟩ k
            - rowMax (score X RB b ⟨i.val / 64, by omega⟩ ⟨t.val / 64, by omega⟩ ⟨t.val % 64, by omega⟩)))
          (∑ k', Ideal.exp (score X RB b ⟨i.val / 64, by omega⟩ ⟨t.val / 64, by omega⟩ ⟨t.val % 64, by omega⟩ k'
            - rowMax (score X RB b ⟨i.val / 64, by omega⟩ ⟨t.val / 64, by omega⟩ ⟨t.val % 64, by omega⟩))) := by
  rw [R33_val]
  generalize hq : (⟨t.val % 64, by omega⟩ : Fin 64) = q
  generalize hj : (⟨t.val / 64, by omega⟩ : Fin 64) = j
  generalize hh : (⟨i.val / 64, by omega⟩ : Fin 16) = h
  generalize hd : (⟨i.val % 64, by omega⟩ : Fin 64) = d
  have hst := states_fields X RB j.val
  rw [states_chunk X RB j b q h d 64 j.isLt le_rfl, b68_val j.val j.isLt _ b q h d (score X RB b h j q) (fun k => ?_)]
  · refine Finset.sum_congr rfl fun k _ => ?_
    rw [hst.2.2.1, v_val]
    rfl
  · rw [b51_val j.val j.isLt, hst.1, hst.2.1, hst.2.2.2, bias_val]
    unfold score
    by_cases hk : 512 ≤ 64 * j.val + k.val
    · rw [if_pos hk, dif_pos hk]
      congr 2
      refine Finset.sum_congr rfl fun d' _ => ?_
      rw [q_val, k_val, dif_pos hk]
    · rw [if_neg hk, dif_neg hk]

end Cert.Attn

end
-- ==== Proof.Tile.lean ====
/- What one tile of 128 query rows computes: two heads' softmax over a band of 640 keys, with the row sums taken from
   the lanes of ones beside the values. -/
module

public import proofs.«01_k».proof.Proof.Gen.KernelIdeal.Skeleton
public import proofs.«01_k».proof.Proof.Consts
public import proofs.«01_k».proof.Proof.Math
public import Idealize.ShloMosaic.Lib.Pointwise

@[expose] public section

set_option maxRecDepth 16384

noncomputable section

namespace Cert.Attn

open Idealize.ShloMosaic Cert.KernelIdeal Cert.KernelIdeal.Gen

/-- The lanes of the first head. -/
def laneMask : IVec S128x128 1 :=
  cmpi .slt (iota .tc S128x128 32 [1] iota_S128x128_d1_w32) (broadcast S128x128 64#32)

/-- The tile's queries, one copy per head with the other head's lanes zeroed. -/
def tQs (q2 : FVec Ideal S1x128x128 .bf16) : FVec Ideal S256x128 .bf16 :=
  concatenate S256x128 0
    [⟨S128x128, select laneMask (shapeCast S128x128 q2 shapeCasts_S1x128x128_S128x128)
        (broadcast S128x128 (Scalar.ofBits .bf16 0x0000#16))⟩,
     ⟨S128x128, select laneMask (broadcast S128x128 (Scalar.ofBits .bf16 0x0000#16))
        (shapeCast S128x128 q2 shapeCasts_S1x128x128_S128x128)⟩] concatenates_S128x128_S128x128_S256x128_d0

/-- The tile's scores, with the bias. -/
def tScore (q2 : FVec Ideal S1x128x128 .bf16) (kp : FVec Ideal S640x128 .bf16) (B : FVec Ideal S256x640 .f32) :
    FVec Ideal S256x640 .f32 :=
  addf (matmul dot_S256x128_S640x128_S256x640_1_1_0_0_n_n none (tQs q2) kp (constant S256x640 .f32 0x00000000#32)) B

/-- The scores with the first `lim` keys of the band masked. -/
def tMask (lim : BitVec 32) (s : FVec Ideal S256x640 .f32) : FVec Ideal S256x640 .f32 :=
  select (cmpi .sge (iota .tc S256x640 32 [1] iota_S256x640_d1_w32) (broadcast S256x640 lim)) s
    (broadcast S256x640 (Scalar.ofBits .f32 0xFF800000#32))

/-- The powers of two of the scores less each row's greatest. -/
def tProb (s : FVec Ideal S256x640 .f32) : FVec Ideal S256x640 .bf16 :=
  exp2 (truncf .bf16 (subf s (broadcastTo S256x640 (shapeCast S256x1
    (multiReduction .maximumf [1] S256 s 0xFF800000#32 reduces_S256x640_S256 (.inl rfl) rfl) shapeCasts_S256_S256x1)
    broadcasts_S256x1_S256x640)) bitsLt_bf16_f32)

/-- The first head's rows against its values and ones. -/
def tResA (p : FVec Ideal S256x640 .bf16) (va : FVec Ideal S1x640x128 .bf16) : FVec Ideal S128x128 .f32 :=
  matmul dot_S128x640_S640x128_S128x128_1_0_0_1_n_n none
    (extractStridedSlice S128x640 ![0, 0] p slices_S256x640_o0_0_S128x640)
    (shapeCast S640x128 va shapeCasts_S1x640x128_S640x128) (constant S128x128 .f32 0x00000000#32)

/-- The second head's rows against its values and ones. -/
def tResB (p : FVec Ideal S256x640 .bf16) (vb : FVec Ideal S1x640x128 .bf16) : FVec Ideal S128x128 .f32 :=
  matmul dot_S128x640_S640x128_S128x128_1_0_0_1_n_n none
    (extractStridedSlice S128x640 ![128, 0] p slices_S256x640_o128_0_S128x640)
    (shapeCast S640x128 vb shapeCasts_S1x640x128_S640x128) (constant S128x128 .f32 0x00000000#32)

/-- The tile's output: weighted values over the row sums, rotated by half the lanes. -/
def tOut (p : FVec Ideal S256x640 .bf16) (va vb : FVec Ideal S1x640x128 .bf16) : FVec Ideal S1x128x128 .bf16 :=
  shapeCast S1x128x128 (truncf .bf16 (divf (select laneMask (tResA p va) (tResB p vb))
    (dynamicRotate 1 64#32 none (select laneMask (tResB p vb) (tResA p va)) rotates_S128x128_d1)) bitsLt_bf16_f32)
    shapeCasts_S128x128_S1x128x128

/-- A lane is the first head's when it is below 64. -/
theorem laneMask_val (i l : Fin 128) (a b : EReal) :
    Scalar.select (laneMask (ix2 i l)) a b = if l.val < 64 then a else b := by
  unfold laneMask
  pointwise
  exact select_slt l.val 64 (by omega) (by omega) a b

/-- The stacked queries: row `e·128 + i` is row `i` in head `e`'s lanes and zero in the others. -/
theorem tQs_val (q2 : FVec Ideal S1x128x128 .bf16) (e : Fin 2) (i l : Fin 128) :
    tQs q2 (ix2 (⟨e.val * 128 + i.val, by omega⟩ : Fin 256) l) = if l.val / 64 = e.val then q2 (ix3 0 i l) else (0 : EReal) := by
  unfold tQs
  have hM := laneMask_val
  generalize laneMask = M at hM ⊢
  pointwise
  by_cases he : e.val = 0
  · refine (dif_pos (show e.val * 128 + i.val < 128 by omega)).trans ((hM _ _ _ _).trans ?_)
    have hi : (⟨e.val * 128 + i.val, by omega⟩ : Fin 128) = i := Fin.ext (by show e.val * 128 + i.val = i.val; omega)
    rw [hi]
    by_cases hl : l.val < 64
    · rw [if_pos hl, if_pos (by omega)]
    · rw [if_neg hl, if_neg (by omega)]
  · refine (dif_neg (show ¬ e.val * 128 + i.val < 128 by omega)).trans ((hM _ _ _ _).trans ?_)
    have hi : (⟨e.val * 128 + i.val - 128, by omega⟩ : Fin 128) = i :=
      Fin.ext (by show e.val * 128 + i.val - 128 = i.val; omega)
    rw [hi]
    by_cases hl : l.val < 64
    · rw [if_pos hl, if_neg (by omega)]
    · rw [if_neg hl, if_pos (by omega)]

theorem tScore_val (q2 : FVec Ideal S1x128x128 .bf16) (kp : FVec Ideal S640x128 .bf16) (B : FVec Ideal S256x640 .f32)
    (r : Fin 256) (j : Fin 640) :
    tScore q2 kp B (ix2 r j) = (∑ l : Fin 128, tQs q2 (ix2 r l) * kp (ix2 j l)) + B (ix2 r j) := by
  unfold tScore
  generalize tQs q2 = Q
  pointwise

theorem tMask_val (lim : ℕ) (hlim : lim ≤ 640) (s : FVec Ideal S256x640 .f32) (r : Fin 256) (j : Fin 640) :
    tMask (BitVec.ofNat 32 lim) s (ix2 r j) = if lim ≤ j.val then s (ix2 r j) else (⊥ : EReal) := by
  unfold tMask
  pointwise
  rw [ofBits_neg_inf]
  exact select_sge j.val lim (by omega) (by omega) _ _

theorem tProb_val (s : FVec Ideal S256x640 .f32) (r : Fin 256) (j : Fin 640) (f : Fin 640 → EReal) (hf : ∀ j, s (ix2 r j) = f j) :
    tProb s (ix2 r j) = Ideal.exp2 (f j - rowMax f) := by
  unfold tProb
  pointwise
  rw [ofBits_neg_inf]
  simp only [hf]
  rfl

theorem tResA_val (p : FVec Ideal S256x640 .bf16) (va : FVec Ideal S1x640x128 .bf16) (i l : Fin 128) :
    tResA p va (ix2 i l) = ∑ j : Fin 640, p (ix2 (⟨i.val, by omega⟩ : Fin 256) j) * va (ix3 0 j l) := by
  unfold tResA
  pointwise

theorem tResB_val (p : FVec Ideal S256x640 .bf16) (vb : FVec Ideal S1x640x128 .bf16) (i l : Fin 128) :
    tResB p vb (ix2 i l) = ∑ j : Fin 640, p (ix2 (⟨128 + i.val, by omega⟩ : Fin 256) j) * vb (ix3 0 j l) := by
  unfold tResB
  pointwise

theorem tOut_val (p : FVec Ideal S256x640 .bf16) (va vb : FVec Ideal S1x640x128 .bf16) (i l : Fin 128) :
    tOut p va vb (ix3 0 i l) =
      if l.val < 64 then Ideal.div (tResA p va (ix2 i l)) (tResA p va (ix2 i ⟨(l.val + 64) % 128, Nat.mod_lt _ (by decide)⟩))
      else Ideal.div (tResB p vb (ix2 i l)) (tResB p vb (ix2 i ⟨(l.val + 64) % 128, Nat.mod_lt _ (by decide)⟩)) := by
  unfold tOut
  generalize tResA p va = ra
  generalize tResB p vb = rb
  have hM := laneMask_val
  generalize laneMask = M at hM ⊢
  pointwise
  rw [hM, hM]
  have e : ∀ h h', (⟨(l.val + 128 - 64) % 128, h⟩ : Fin 128) = ⟨(l.val + 64) % 128, h'⟩ := fun _ _ => Fin.ext (by show _ % _ = _ % _; omega)
  rw [e]
  by_cases hl : l.val < 64
  · rw [if_pos hl, if_pos hl, if_neg (by show ¬ (_ % _ < _); omega)]
  · rw [if_neg hl, if_neg hl, if_pos (by show _ % _ < _; omega)]

end Cert.Attn

end
-- ==== Proof.TileAt.lean ====
/- One tile's output at an index of the block it is stored in, of the point's queries, keys, values and biases. -/
module

public import proofs.«01_k».proof.Proof.Tile

@[expose] public section

set_option maxRecDepth 16384

noncomputable section

namespace Cert.Attn

open Idealize.ShloMosaic Cert.KernelIdeal Cert.KernelIdeal.Gen

/-- The padded keys: 512 rows of zeros, then the point's keys. -/
def kpad (k : FVec Ideal S1x4096x128 .bf16) (n : Fin 4608) (l : Fin 128) : EReal :=
  if h : 512 ≤ n.val then k (ix3 0 ⟨n.val - 512, by omega⟩ l) else 0

/-- The padded values of head `e`: the point's values in the head's lanes, ones everywhere else. -/
def vpad (v : FVec Ideal S1x4096x128 .bf16) (e : Fin 2) (n : Fin 4608) (l : Fin 128) : EReal :=
  if h : 512 ≤ n.val ∧ l.val / 64 = e.val then v (ix3 0 ⟨n.val - 512, by omega⟩ l) else 1

/-- The scores of row `i` of tile `g` in head `e` against the tile's 640 keys; the keys before the sequence masked. -/
def kScore (q k : FVec Ideal S1x4096x128 .bf16) (B : Fin 256 → Fin 640 → EReal) (g : Fin 32) (e : Fin 2) (i : Fin 128)
    (j : Fin 640) : EReal :=
  if 512 - 128 * g.val ≤ j.val then
    (∑ l : Fin 128, (if l.val / 64 = e.val then q (ix3 0 ⟨128 * g.val + i.val, by omega⟩ l) else 0)
      * kpad k ⟨128 * g.val + j.val, by omega⟩ l) + B ⟨e.val * 128 + i.val, by omega⟩ j
  else ⊥

/-- The tile's output at row `i`, lane `l`: the weighted sum of that lane over the one of the lane half a tile away. -/
def kAttn (q k v : FVec Ideal S1x4096x128 .bf16) (B : Fin 256 → Fin 640 → EReal) (g : Fin 32) (i l : Fin 128) : EReal :=
  let e : Fin 2 := ⟨l.val / 64, by omega⟩
  let s := kScore q k B g e i
  Ideal.div (∑ j : Fin 640, Ideal.exp2 (s j - rowMax s) * vpad v e ⟨128 * g.val + j.val, by omega⟩ l)
    (∑ j : Fin 640, Ideal.exp2 (s j - rowMax s)
      * vpad v e ⟨128 * g.val + j.val, by omega⟩ ⟨(l.val + 64) % 128, Nat.mod_lt _ (by decide)⟩)

/-- A tile's output from scores that read as `kScore`. -/
theorem tile_val (q k v : FVec Ideal S1x4096x128 .bf16) (B : Fin 256 → Fin 640 → EReal) (g : Fin 32) (i l : Fin 128)
    (s : FVec Ideal S256x640 .f32) (va vb : FVec Ideal S1x640x128 .bf16)
    (hs : ∀ (e : Fin 2) (i : Fin 128) (j : Fin 640), s (ix2 (⟨e.val * 128 + i.val, by omega⟩ : Fin 256) j) = kScore q k B g e i j)
    (ha : ∀ j l, va (ix3 0 j l) = vpad v 0 ⟨128 * g.val + j.val, by omega⟩ l)
    (hb : ∀ j l, vb (ix3 0 j l) = vpad v 1 ⟨128 * g.val + j.val, by omega⟩ l) :
    tOut (tProb s) va vb (ix3 0 i l) = kAttn q k v B g i l := by
  have hA : ∀ l', tResA (tProb s) va (ix2 i l') = ∑ j : Fin 640, Ideal.exp2 (kScore q k B g 0 i j - rowMax (kScore q k B g 0 i))
      * vpad v 0 ⟨128 * g.val + j.val, by omega⟩ l' := by
    intro l'
    rw [tResA_val]
    refine Finset.sum_congr rfl fun j _ => ?_
    rw [ha]
    refine congrArg (· * _) (tProb_val s _ j _ fun j => ?_)
    rw [← hs 0 i j]
    exact congrArg (fun r => s (ix2 r j)) (Fin.ext (by show i.val = 0 * 128 + i.val; omega))
  have hB : ∀ l', tResB (tProb s) vb (ix2 i l') = ∑ j : Fin 640, Ideal.exp2 (kScore q k B g 1 i j - rowMax (kScore q k B g 1 i))
      * vpad v 1 ⟨128 * g.val + j.val, by omega⟩ l' := by
    intro l'
    rw [tResB_val]
    refine Finset.sum_congr rfl fun j _ => ?_
    rw [hb]
    refine congrArg (· * _) (tProb_val s _ j _ fun j => ?_)
    rw [← hs 1 i j]
    exact congrArg (fun r => s (ix2 r j)) (Fin.ext (by show 128 + i.val = 1 * 128 + i.val; omega))
  rw [tOut_val, hA, hA, hB, hB]
  unfold kAttn
  by_cases hl : l.val < 64
  · rw [if_pos hl]
    have he : (⟨l.val / 64, by omega⟩ : Fin 2) = 0 := Fin.ext (by show l.val / 64 = 0; omega)
    rw [he]
  · rw [if_neg hl]
    have he : (⟨l.val / 64, by omega⟩ : Fin 2) = 1 := Fin.ext (by show l.val / 64 = 1; omega)
    rw [he]

/-- The block's output at an index. -/
def kAt (q k v : FVec Ideal S1x4096x128 .bf16) (B : Fin 256 → Fin 640 → EReal) (y : S1x4096x128.Idx) : EReal :=
  kAttn q k v B ⟨(y 1).val / 128, by have := (y 1).isLt; change (y 1).val < 4096 at this; omega⟩
    ⟨(y 1).val % 128, Nat.mod_lt _ (by decide)⟩ ⟨(y 2).val, (y 2).isLt⟩

/-- The unmasked tile `g` at a local index is the block's output where the tile is stored. -/
theorem tileU_at (q k v : FVec Ideal S1x4096x128 .bf16) (B : Fin 256 → Fin 640 → EReal) (y : S1x4096x128.Idx) (x : S1x128x128.Idx)
    (g : Fin 32) (hg : 4 ≤ g.val) (h1 : (y 1).val = 128 * g.val + (x 1).val) (h2 : (y 2).val = (x 2).val)
    (q2 : FVec Ideal S1x128x128 .bf16) (kp : FVec Ideal S640x128 .bf16) (va vb : FVec Ideal S1x640x128 .bf16)
    (Bv : FVec Ideal S256x640 .f32)
    (hq : ∀ i l, q2 (ix3 0 i l) = q (ix3 0 ⟨128 * g.val + i.val, by omega⟩ l))
    (hk : ∀ j l, kp (ix2 j l) = kpad k ⟨128 * g.val + j.val, by omega⟩ l)
    (ha : ∀ j l, va (ix3 0 j l) = vpad v 0 ⟨128 * g.val + j.val, by omega⟩ l)
    (hb : ∀ j l, vb (ix3 0 j l) = vpad v 1 ⟨128 * g.val + j.val, by omega⟩ l)
    (hB : ∀ r j, Bv (ix2 r j) = B r j) :
    tOut (tProb (tScore q2 kp Bv)) va vb x = kAt q k v B y := by
  obtain ⟨i, l, rfl⟩ : ∃ i l, x = ix3 0 i l := ⟨x 1, x 2, by idx_vars x; rw [Subsingleton.elim x0 0]⟩
  refine (tile_val q k v B g i l _ va vb ?_ ha hb).trans ?_
  · intro e i j
    rw [tScore_val, hB]
    unfold kScore
    rw [if_pos (by omega)]
    refine congrArg (· + _) (Finset.sum_congr rfl fun l _ => ?_)
    rw [tQs_val, hq, hk]
  · change (y 1).val = 128 * g.val + i.val at h1
    change (y 2).val = l.val at h2
    unfold kAt
    congr 1 <;> exact Fin.ext (by simp only [h1, h2] <;> omega)

/-- The tile `g` whose first `512 − 128 g` keys are masked, likewise. -/
theorem tileM_at (q k v : FVec Ideal S1x4096x128 .bf16) (B : Fin 256 → Fin 640 → EReal) (y : S1x4096x128.Idx) (x : S1x128x128.Idx)
    (g : Fin 32) (lim : BitVec 32) (hlim : lim = BitVec.ofNat 32 (512 - 128 * g.val)) (h1 : (y 1).val = 128 * g.val + (x 1).val) (h2 : (y 2).val = (x 2).val)
    (q2 : FVec Ideal S1x128x128 .bf16) (kp : FVec Ideal S640x128 .bf16) (va vb : FVec Ideal S1x640x128 .bf16)
    (Bv : FVec Ideal S256x640 .f32)
    (hq : ∀ i l, q2 (ix3 0 i l) = q (ix3 0 ⟨128 * g.val + i.val, by omega⟩ l))
    (hk : ∀ j l, kp (ix2 j l) = kpad k ⟨128 * g.val + j.val, by omega⟩ l)
    (ha : ∀ j l, va (ix3 0 j l) = vpad v 0 ⟨128 * g.val + j.val, by omega⟩ l)
    (hb : ∀ j l, vb (ix3 0 j l) = vpad v 1 ⟨128 * g.val + j.val, by omega⟩ l)
    (hB : ∀ r j, Bv (ix2 r j) = B r j) :
    tOut (tProb (tMask lim (tScore q2 kp Bv))) va vb x = kAt q k v B y := by
  subst hlim
  obtain ⟨i, l, rfl⟩ : ∃ i l, x = ix3 0 i l := ⟨x 1, x 2, by idx_vars x; rw [Subsingleton.elim x0 0]⟩
  refine (tile_val q k v B g i l _ va vb ?_ ha hb).trans ?_
  · intro e i j
    rw [tMask_val _ (by omega), tScore_val, hB]
    unfold kScore
    by_cases hj : 512 - 128 * g.val ≤ j.val
    · rw [if_pos hj, if_pos hj]
      refine congrArg (· + _) (Finset.sum_congr rfl fun l _ => ?_)
      rw [tQs_val, hq, hk]
    · rw [if_neg hj, if_neg hj]
  · change (y 1).val = 128 * g.val + i.val at h1
    change (y 2).val = l.val at h2
    unfold kAt
    congr 1 <;> exact Fin.ext (by simp only [h1, h2] <;> omega)

end Cert.Attn

end
-- ==== Proof.Pads.lean ====
/- The padded key and value scratches of a grid point, read back at an index. -/
module

public import proofs.«01_k».proof.Proof.TileAt
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.Attn

open Idealize.ShloMosaic Cert.KernelIdeal Cert.KernelIdeal.Gen Idealize.ShloMosaic.TcCoe

/-- The key scratch, written in two pieces, read at an index. -/
theorem kpad_val (k : FVec Ideal S1x4096x128 .bf16) (i1) (i2) (h1) (h2) (z : S4608x128.Idx) (n : Fin 4608) (l : Fin 128)
    (hn : (z 0).val = n.val) (hl : (z 1).val = l.val) :
    View.canon (Val := Elt Ideal) (s := S4608x128) (e := .bf16)
      [⟨Rect.unit ![512, 0] ![4096, 128] i1, shapeCast S4096x128 (shapeCast S4096x128 k h1) h2⟩,
       ⟨Rect.unit ![0, 0] ![512, 128] i2, k0_pay12 (F := Ideal)⟩] z = kpad k n l := by
  canon_tiles x h using (View.cover_of_tiledBy _ ![512, 128] (by sl_kernel_rfl) z)
  · unfold kpad
    rw [dif_pos (by omega)]
    idx_vars x
    change (z 0).val = 512 + x0.val at h0
    change (z 1).val = x1.val at h1
    pointwise
    congr 1
    refine congrArg₂ (ix3 0) (Fin.ext ?_) (Fin.ext ?_)
    · show x0.val = n.val - 512; omega
    · show x1.val = l.val; omega
  · unfold kpad
    rw [dif_neg (by omega)]
    idx_vars x
    unfold k0_pay12
    pointwise

/-- The value scratch, written in three pieces, read at an index. -/
theorem vpad_val (v : FVec Ideal S1x4096x128 .bf16) (i1) (i2) (i3) (h1) (h2) (h3) (h4) (hi) (z : S2x4608x128.Idx)
    (e : Fin 2) (n : Fin 4608) (l : Fin 128) (he : (z 0).val = e.val) (hn : (z 1).val = n.val) (hl : (z 2).val = l.val) :
    View.canon (Val := Elt Ideal) (s := S2x4608x128) (e := .bf16)
      [⟨Rect.unit ![1, 512, 0] ![1, 4096, 128] i1, shapeCast S1x4096x128
          (select (cmpi CmpIPredicate.slt (iota Kind.tc S4096x128 32 [1] hi) (broadcast S4096x128 64#32))
            (broadcast S4096x128 (FloatOps.ofBits (F := Ideal) FTy.bf16 16256#16)) (shapeCast S4096x128 v h1)) h2⟩,
       ⟨Rect.unit ![0, 512, 0] ![1, 4096, 128] i2, shapeCast S1x4096x128
          (select (cmpi CmpIPredicate.slt (iota Kind.tc S4096x128 32 [1] hi) (broadcast S4096x128 64#32))
            (shapeCast S4096x128 v h1) (broadcast S4096x128 (FloatOps.ofBits (F := Ideal) FTy.bf16 16256#16))) h3⟩,
       ⟨Rect.unit ![0, 0, 0] ![2, 512, 128] i3, shapeCast S2x512x128
          (broadcast S2x512x128 (FloatOps.ofBits (F := Ideal) FTy.bf16 16256#16)) h4⟩] z = vpad v e n l := by
  canon_tiles x h using (View.cover_of_tiledBy _ ![1, 512, 128] (by sl_kernel_rfl) z)
  · unfold vpad
    idx_vars x
    change (z 0).val = 1 + x0.val at h0
    change (z 1).val = 512 + x1.val at h1
    change (z 2).val = x2.val at h2
    pointwise
    refine (select_slt x2.val 64 (by omega) (by omega) _ _).trans ?_
    by_cases hx : x2.val < 64
    · rw [if_pos hx, dif_neg (by omega)]
    · rw [if_neg hx, dif_pos ⟨by omega, by omega⟩]
      congr 1
      refine congrArg₂ (ix3 0) (Fin.ext ?_) (Fin.ext ?_)
      · show x1.val = n.val - 512; omega
      · show x2.val = l.val; omega
  · unfold vpad
    idx_vars x
    change (z 0).val = x0.val at h0
    change (z 1).val = 512 + x1.val at h1
    change (z 2).val = x2.val at h2
    pointwise
    refine (select_slt x2.val 64 (by omega) (by omega) _ _).trans ?_
    by_cases hx : x2.val < 64
    · rw [if_pos hx, dif_pos ⟨by omega, by omega⟩]
      congr 1
      refine congrArg₂ (ix3 0) (Fin.ext ?_) (Fin.ext ?_)
      · show x1.val = n.val - 512; omega
      · show x2.val = l.val; omega
    · rw [if_neg hx, dif_neg (by omega)]
  · unfold vpad
    idx_vars x
    pointwise
    rw [dif_neg (by omega)]

end Cert.Attn

end
-- ==== Proof.Pieces.lean ====
/- What a grid point leaves in the attention's output block: the 32 stored tiles, read back at an index. -/
module

public import proofs.«01_k».proof.Proof.Pads
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.Attn

open Idealize.ShloMosaic Cert.KernelIdeal Cert.KernelIdeal.Gen Idealize.ShloMosaic.TcCoe

variable (m : (ℓ : Loc nD τ sig) → Buf (Elt Ideal) ℓ)

/-- An index of the whole bias scratch, read through the load's rectangle. -/
theorem idx_bias (inb) (r : Fin 256) (j : Fin 640) :
    (Rect.unit (s := S256x640) ![0, 0] ![256, 640] inb).idx (ix2 r j) = ix2 r j :=
  funext fun a => Fin.ext ((Rect.idx_unit_val _ _ _ _ _).trans (by
    match a with
    | ⟨0, _⟩ => exact Nat.zero_add _
    | ⟨1, _⟩ => exact Nat.zero_add _))

/-- What a point that holds its bias scratch leaves in the output block, over the scratch carried in. -/
theorem outB (c : Dev nD) (t : Fin cfg0.N) (h : ¬ t.val % 4 = 0) (y : S1x4096x128.Idx) :
    (outsAt0 m c t.val t.isLt).1 y = kAt (iblk m c 0 t) (iblk m c 1 t) (iblk m c 2 t)
      (fun r j => (outsAt0 m c (t.val - 1) (by omega)).2.2.2.2.2 (ix2 r j)) y := by
  rw [Gen.outsAt0_B m c t h]
  frame_open
  frame_out
  simp only [View.readCov_eq_canon', read_unread_whole]
  canon_tiles x h
  case piece0 =>
    refine tileU_at _ _ _ _ y x 31 (by decide) h1 h2 _ _ _ _ _ (fun i l => ?_) (fun j l => ?_) (fun j l => ?_) (fun j l => ?_) (fun j l => ?_)
    · exact (View.ld_unit_apply_of _ _ _ _ _ (ix3 0 _ l) (fun a => by match a with | ⟨0, _⟩ => rfl | ⟨1, _⟩ => rfl | ⟨2, _⟩ => exact (Nat.zero_add _).symm)).trans (congrFun (Memref.IsWhole.read_unread _ _) _)
    · exact kpad_val _ _ _ _ _ _ _ _ (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · rfl
  case piece1 =>
    refine tileU_at _ _ _ _ y x 30 (by decide) h1 h2 _ _ _ _ _ (fun i l => ?_) (fun j l => ?_) (fun j l => ?_) (fun j l => ?_) (fun j l => ?_)
    · exact (View.ld_unit_apply_of _ _ _ _ _ (ix3 0 _ l) (fun a => by match a with | ⟨0, _⟩ => rfl | ⟨1, _⟩ => rfl | ⟨2, _⟩ => exact (Nat.zero_add _).symm)).trans (congrFun (Memref.IsWhole.read_unread _ _) _)
    · exact kpad_val _ _ _ _ _ _ _ _ (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · rfl
  case piece2 =>
    refine tileU_at _ _ _ _ y x 29 (by decide) h1 h2 _ _ _ _ _ (fun i l => ?_) (fun j l => ?_) (fun j l => ?_) (fun j l => ?_) (fun j l => ?_)
    · exact (View.ld_unit_apply_of _ _ _ _ _ (ix3 0 _ l) (fun a => by match a with | ⟨0, _⟩ => rfl | ⟨1, _⟩ => rfl | ⟨2, _⟩ => exact (Nat.zero_add _).symm)).trans (congrFun (Memref.IsWhole.read_unread _ _) _)
    · exact kpad_val _ _ _ _ _ _ _ _ (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · rfl
  case piece3 =>
    refine tileU_at _ _ _ _ y x 28 (by decide) h1 h2 _ _ _ _ _ (fun i l => ?_) (fun j l => ?_) (fun j l => ?_) (fun j l => ?_) (fun j l => ?_)
    · exact (View.ld_unit_apply_of _ _ _ _ _ (ix3 0 _ l) (fun a => by match a with | ⟨0, _⟩ => rfl | ⟨1, _⟩ => rfl | ⟨2, _⟩ => exact (Nat.zero_add _).symm)).trans (congrFun (Memref.IsWhole.read_unread _ _) _)
    · exact kpad_val _ _ _ _ _ _ _ _ (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · rfl
  case piece4 =>
    refine tileU_at _ _ _ _ y x 27 (by decide) h1 h2 _ _ _ _ _ (fun i l => ?_) (fun j l => ?_) (fun j l => ?_) (fun j l => ?_) (fun j l => ?_)
    · exact (View.ld_unit_apply_of _ _ _ _ _ (ix3 0 _ l) (fun a => by match a with | ⟨0, _⟩ => rfl | ⟨1, _⟩ => rfl | ⟨2, _⟩ => exact (Nat.zero_add _).symm)).trans (congrFun (Memref.IsWhole.read_unread _ _) _)
    · exact kpad_val _ _ _ _ _ _ _ _ (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · rfl
  case piece5 =>
    refine tileU_at _ _ _ _ y x 26 (by decide) h1 h2 _ _ _ _ _ (fun i l => ?_) (fun j l => ?_) (fun j l => ?_) (fun j l => ?_) (fun j l => ?_)
    · exact (View.ld_unit_apply_of _ _ _ _ _ (ix3 0 _ l) (fun a => by match a with | ⟨0, _⟩ => rfl | ⟨1, _⟩ => rfl | ⟨2, _⟩ => exact (Nat.zero_add _).symm)).trans (congrFun (Memref.IsWhole.read_unread _ _) _)
    · exact kpad_val _ _ _ _ _ _ _ _ (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · rfl
  case piece6 =>
    refine tileU_at _ _ _ _ y x 25 (by decide) h1 h2 _ _ _ _ _ (fun i l => ?_) (fun j l => ?_) (fun j l => ?_) (fun j l => ?_) (fun j l => ?_)
    · exact (View.ld_unit_apply_of _ _ _ _ _ (ix3 0 _ l) (fun a => by match a with | ⟨0, _⟩ => rfl | ⟨1, _⟩ => rfl | ⟨2, _⟩ => exact (Nat.zero_add _).symm)).trans (congrFun (Memref.IsWhole.read_unread _ _) _)
    · exact kpad_val _ _ _ _ _ _ _ _ (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · rfl
  case piece7 =>
    refine tileU_at _ _ _ _ y x 24 (by decide) h1 h2 _ _ _ _ _ (fun i l => ?_) (fun j l => ?_) (fun j l => ?_) (fun j l => ?_) (fun j l => ?_)
    · exact (View.ld_unit_apply_of _ _ _ _ _ (ix3 0 _ l) (fun a => by match a with | ⟨0, _⟩ => rfl | ⟨1, _⟩ => rfl | ⟨2, _⟩ => exact (Nat.zero_add _).symm)).trans (congrFun (Memref.IsWhole.read_unread _ _) _)
    · exact kpad_val _ _ _ _ _ _ _ _ (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · rfl
  case piece8 =>
    refine tileU_at _ _ _ _ y x 23 (by decide) h1 h2 _ _ _ _ _ (fun i l => ?_) (fun j l => ?_) (fun j l => ?_) (fun j l => ?_) (fun j l => ?_)
    · exact (View.ld_unit_apply_of _ _ _ _ _ (ix3 0 _ l) (fun a => by match a with | ⟨0, _⟩ => rfl | ⟨1, _⟩ => rfl | ⟨2, _⟩ => exact (Nat.zero_add _).symm)).trans (congrFun (Memref.IsWhole.read_unread _ _) _)
    · exact kpad_val _ _ _ _ _ _ _ _ (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · rfl
  case piece9 =>
    refine tileU_at _ _ _ _ y x 22 (by decide) h1 h2 _ _ _ _ _ (fun i l => ?_) (fun j l => ?_) (fun j l => ?_) (fun j l => ?_) (fun j l => ?_)
    · exact (View.ld_unit_apply_of _ _ _ _ _ (ix3 0 _ l) (fun a => by match a with | ⟨0, _⟩ => rfl | ⟨1, _⟩ => rfl | ⟨2, _⟩ => exact (Nat.zero_add _).symm)).trans (congrFun (Memref.IsWhole.read_unread _ _) _)
    · exact kpad_val _ _ _ _ _ _ _ _ (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · rfl
  case piece10 =>
    refine tileU_at _ _ _ _ y x 21 (by decide) h1 h2 _ _ _ _ _ (fun i l => ?_) (fun j l => ?_) (fun j l => ?_) (fun j l => ?_) (fun j l => ?_)
    · exact (View.ld_unit_apply_of _ _ _ _ _ (ix3 0 _ l) (fun a => by match a with | ⟨0, _⟩ => rfl | ⟨1, _⟩ => rfl | ⟨2, _⟩ => exact (Nat.zero_add _).symm)).trans (congrFun (Memref.IsWhole.read_unread _ _) _)
    · exact kpad_val _ _ _ _ _ _ _ _ (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · rfl
  case piece11 =>
    refine tileU_at _ _ _ _ y x 20 (by decide) h1 h2 _ _ _ _ _ (fun i l => ?_) (fun j l => ?_) (fun j l => ?_) (fun j l => ?_) (fun j l => ?_)
    · exact (View.ld_unit_apply_of _ _ _ _ _ (ix3 0 _ l) (fun a => by match a with | ⟨0, _⟩ => rfl | ⟨1, _⟩ => rfl | ⟨2, _⟩ => exact (Nat.zero_add _).symm)).trans (congrFun (Memref.IsWhole.read_unread _ _) _)
    · exact kpad_val _ _ _ _ _ _ _ _ (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · rfl
  case piece12 =>
    refine tileU_at _ _ _ _ y x 19 (by decide) h1 h2 _ _ _ _ _ (fun i l => ?_) (fun j l => ?_) (fun j l => ?_) (fun j l => ?_) (fun j l => ?_)
    · exact (View.ld_unit_apply_of _ _ _ _ _ (ix3 0 _ l) (fun a => by match a with | ⟨0, _⟩ => rfl | ⟨1, _⟩ => rfl | ⟨2, _⟩ => exact (Nat.zero_add _).symm)).trans (congrFun (Memref.IsWhole.read_unread _ _) _)
    · exact kpad_val _ _ _ _ _ _ _ _ (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · rfl
  case piece13 =>
    refine tileU_at _ _ _ _ y x 18 (by decide) h1 h2 _ _ _ _ _ (fun i l => ?_) (fun j l => ?_) (fun j l => ?_) (fun j l => ?_) (fun j l => ?_)
    · exact (View.ld_unit_apply_of _ _ _ _ _ (ix3 0 _ l) (fun a => by match a with | ⟨0, _⟩ => rfl | ⟨1, _⟩ => rfl | ⟨2, _⟩ => exact (Nat.zero_add _).symm)).trans (congrFun (Memref.IsWhole.read_unread _ _) _)
    · exact kpad_val _ _ _ _ _ _ _ _ (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · rfl
  case piece14 =>
    refine tileU_at _ _ _ _ y x 17 (by decide) h1 h2 _ _ _ _ _ (fun i l => ?_) (fun j l => ?_) (fun j l => ?_) (fun j l => ?_) (fun j l => ?_)
    · exact (View.ld_unit_apply_of _ _ _ _ _ (ix3 0 _ l) (fun a => by match a with | ⟨0, _⟩ => rfl | ⟨1, _⟩ => rfl | ⟨2, _⟩ => exact (Nat.zero_add _).symm)).trans (congrFun (Memref.IsWhole.read_unread _ _) _)
    · exact kpad_val _ _ _ _ _ _ _ _ (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · rfl
  case piece15 =>
    refine tileU_at _ _ _ _ y x 16 (by decide) h1 h2 _ _ _ _ _ (fun i l => ?_) (fun j l => ?_) (fun j l => ?_) (fun j l => ?_) (fun j l => ?_)
    · exact (View.ld_unit_apply_of _ _ _ _ _ (ix3 0 _ l) (fun a => by match a with | ⟨0, _⟩ => rfl | ⟨1, _⟩ => rfl | ⟨2, _⟩ => exact (Nat.zero_add _).symm)).trans (congrFun (Memref.IsWhole.read_unread _ _) _)
    · exact kpad_val _ _ _ _ _ _ _ _ (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · rfl
  case piece16 =>
    refine tileU_at _ _ _ _ y x 15 (by decide) h1 h2 _ _ _ _ _ (fun i l => ?_) (fun j l => ?_) (fun j l => ?_) (fun j l => ?_) (fun j l => ?_)
    · exact (View.ld_unit_apply_of _ _ _ _ _ (ix3 0 _ l) (fun a => by match a with | ⟨0, _⟩ => rfl | ⟨1, _⟩ => rfl | ⟨2, _⟩ => exact (Nat.zero_add _).symm)).trans (congrFun (Memref.IsWhole.read_unread _ _) _)
    · exact kpad_val _ _ _ _ _ _ _ _ (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · rfl
  case piece17 =>
    refine tileU_at _ _ _ _ y x 14 (by decide) h1 h2 _ _ _ _ _ (fun i l => ?_) (fun j l => ?_) (fun j l => ?_) (fun j l => ?_) (fun j l => ?_)
    · exact (View.ld_unit_apply_of _ _ _ _ _ (ix3 0 _ l) (fun a => by match a with | ⟨0, _⟩ => rfl | ⟨1, _⟩ => rfl | ⟨2, _⟩ => exact (Nat.zero_add _).symm)).trans (congrFun (Memref.IsWhole.read_unread _ _) _)
    · exact kpad_val _ _ _ _ _ _ _ _ (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · rfl
  case piece18 =>
    refine tileU_at _ _ _ _ y x 13 (by decide) h1 h2 _ _ _ _ _ (fun i l => ?_) (fun j l => ?_) (fun j l => ?_) (fun j l => ?_) (fun j l => ?_)
    · exact (View.ld_unit_apply_of _ _ _ _ _ (ix3 0 _ l) (fun a => by match a with | ⟨0, _⟩ => rfl | ⟨1, _⟩ => rfl | ⟨2, _⟩ => exact (Nat.zero_add _).symm)).trans (congrFun (Memref.IsWhole.read_unread _ _) _)
    · exact kpad_val _ _ _ _ _ _ _ _ (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · rfl
  case piece19 =>
    refine tileU_at _ _ _ _ y x 12 (by decide) h1 h2 _ _ _ _ _ (fun i l => ?_) (fun j l => ?_) (fun j l => ?_) (fun j l => ?_) (fun j l => ?_)
    · exact (View.ld_unit_apply_of _ _ _ _ _ (ix3 0 _ l) (fun a => by match a with | ⟨0, _⟩ => rfl | ⟨1, _⟩ => rfl | ⟨2, _⟩ => exact (Nat.zero_add _).symm)).trans (congrFun (Memref.IsWhole.read_unread _ _) _)
    · exact kpad_val _ _ _ _ _ _ _ _ (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · rfl
  case piece20 =>
    refine tileU_at _ _ _ _ y x 11 (by decide) h1 h2 _ _ _ _ _ (fun i l => ?_) (fun j l => ?_) (fun j l => ?_) (fun j l => ?_) (fun j l => ?_)
    · exact (View.ld_unit_apply_of _ _ _ _ _ (ix3 0 _ l) (fun a => by match a with | ⟨0, _⟩ => rfl | ⟨1, _⟩ => rfl | ⟨2, _⟩ => exact (Nat.zero_add _).symm)).trans (congrFun (Memref.IsWhole.read_unread _ _) _)
    · exact kpad_val _ _ _ _ _ _ _ _ (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · rfl
  case piece21 =>
    refine tileU_at _ _ _ _ y x 10 (by decide) h1 h2 _ _ _ _ _ (fun i l => ?_) (fun j l => ?_) (fun j l => ?_) (fun j l => ?_) (fun j l => ?_)
    · exact (View.ld_unit_apply_of _ _ _ _ _ (ix3 0 _ l) (fun a => by match a with | ⟨0, _⟩ => rfl | ⟨1, _⟩ => rfl | ⟨2, _⟩ => exact (Nat.zero_add _).symm)).trans (congrFun (Memref.IsWhole.read_unread _ _) _)
    · exact kpad_val _ _ _ _ _ _ _ _ (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · rfl
  case piece22 =>
    refine tileU_at _ _ _ _ y x 9 (by decide) h1 h2 _ _ _ _ _ (fun i l => ?_) (fun j l => ?_) (fun j l => ?_) (fun j l => ?_) (fun j l => ?_)
    · exact (View.ld_unit_apply_of _ _ _ _ _ (ix3 0 _ l) (fun a => by match a with | ⟨0, _⟩ => rfl | ⟨1, _⟩ => rfl | ⟨2, _⟩ => exact (Nat.zero_add _).symm)).trans (congrFun (Memref.IsWhole.read_unread _ _) _)
    · exact kpad_val _ _ _ _ _ _ _ _ (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · rfl
  case piece23 =>
    refine tileU_at _ _ _ _ y x 8 (by decide) h1 h2 _ _ _ _ _ (fun i l => ?_) (fun j l => ?_) (fun j l => ?_) (fun j l => ?_) (fun j l => ?_)
    · exact (View.ld_unit_apply_of _ _ _ _ _ (ix3 0 _ l) (fun a => by match a with | ⟨0, _⟩ => rfl | ⟨1, _⟩ => rfl | ⟨2, _⟩ => exact (Nat.zero_add _).symm)).trans (congrFun (Memref.IsWhole.read_unread _ _) _)
    · exact kpad_val _ _ _ _ _ _ _ _ (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · rfl
  case piece24 =>
    refine tileU_at _ _ _ _ y x 7 (by decide) h1 h2 _ _ _ _ _ (fun i l => ?_) (fun j l => ?_) (fun j l => ?_) (fun j l => ?_) (fun j l => ?_)
    · exact (View.ld_unit_apply_of _ _ _ _ _ (ix3 0 _ l) (fun a => by match a with | ⟨0, _⟩ => rfl | ⟨1, _⟩ => rfl | ⟨2, _⟩ => exact (Nat.zero_add _).symm)).trans (congrFun (Memref.IsWhole.read_unread _ _) _)
    · exact kpad_val _ _ _ _ _ _ _ _ (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · rfl
  case piece25 =>
    refine tileU_at _ _ _ _ y x 6 (by decide) h1 h2 _ _ _ _ _ (fun i l => ?_) (fun j l => ?_) (fun j l => ?_) (fun j l => ?_) (fun j l => ?_)
    · exact (View.ld_unit_apply_of _ _ _ _ _ (ix3 0 _ l) (fun a => by match a with | ⟨0, _⟩ => rfl | ⟨1, _⟩ => rfl | ⟨2, _⟩ => exact (Nat.zero_add _).symm)).trans (congrFun (Memref.IsWhole.read_unread _ _) _)
    · exact kpad_val _ _ _ _ _ _ _ _ (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · rfl
  case piece26 =>
    refine tileU_at _ _ _ _ y x 5 (by decide) h1 h2 _ _ _ _ _ (fun i l => ?_) (fun j l => ?_) (fun j l => ?_) (fun j l => ?_) (fun j l => ?_)
    · exact (View.ld_unit_apply_of _ _ _ _ _ (ix3 0 _ l) (fun a => by match a with | ⟨0, _⟩ => rfl | ⟨1, _⟩ => rfl | ⟨2, _⟩ => exact (Nat.zero_add _).symm)).trans (congrFun (Memref.IsWhole.read_unread _ _) _)
    · exact kpad_val _ _ _ _ _ _ _ _ (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · rfl
  case piece27 =>
    refine tileU_at _ _ _ _ y x 4 (by decide) h1 h2 _ _ _ _ _ (fun i l => ?_) (fun j l => ?_) (fun j l => ?_) (fun j l => ?_) (fun j l => ?_)
    · exact (View.ld_unit_apply_of _ _ _ _ _ (ix3 0 _ l) (fun a => by match a with | ⟨0, _⟩ => rfl | ⟨1, _⟩ => rfl | ⟨2, _⟩ => exact (Nat.zero_add _).symm)).trans (congrFun (Memref.IsWhole.read_unread _ _) _)
    · exact kpad_val _ _ _ _ _ _ _ _ (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · rfl
  case piece28 =>
    have h1' : (y 1).val = 128 * 3 + (x 1).val := by omega
    refine tileM_at _ _ _ _ y x 3 128#32 (by decide) h1' h2 _ _ _ _ _ (fun i l => ?_) (fun j l => ?_) (fun j l => ?_) (fun j l => ?_) (fun j l => ?_)
    · exact (View.ld_unit_apply_of _ _ _ _ _ (ix3 0 _ l) (fun a => by match a with | ⟨0, _⟩ => rfl | ⟨1, _⟩ => rfl | ⟨2, _⟩ => exact (Nat.zero_add _).symm)).trans (congrFun (Memref.IsWhole.read_unread _ _) _)
    · exact kpad_val _ _ _ _ _ _ _ _ (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · rfl
  case piece29 =>
    have h1' : (y 1).val = 128 * 2 + (x 1).val := by omega
    refine tileM_at _ _ _ _ y x 2 256#32 (by decide) h1' h2 _ _ _ _ _ (fun i l => ?_) (fun j l => ?_) (fun j l => ?_) (fun j l => ?_) (fun j l => ?_)
    · exact (View.ld_unit_apply_of _ _ _ _ _ (ix3 0 _ l) (fun a => by match a with | ⟨0, _⟩ => rfl | ⟨1, _⟩ => rfl | ⟨2, _⟩ => exact (Nat.zero_add _).symm)).trans (congrFun (Memref.IsWhole.read_unread _ _) _)
    · exact kpad_val _ _ _ _ _ _ _ _ (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · rfl
  case piece30 =>
    have h1' : (y 1).val = 128 * 1 + (x 1).val := by omega
    refine tileM_at _ _ _ _ y x 1 384#32 (by decide) h1' h2 _ _ _ _ _ (fun i l => ?_) (fun j l => ?_) (fun j l => ?_) (fun j l => ?_) (fun j l => ?_)
    · exact (View.ld_unit_apply_of _ _ _ _ _ (ix3 0 _ l) (fun a => by match a with | ⟨0, _⟩ => rfl | ⟨1, _⟩ => rfl | ⟨2, _⟩ => exact (Nat.zero_add _).symm)).trans (congrFun (Memref.IsWhole.read_unread _ _) _)
    · exact kpad_val _ _ _ _ _ _ _ _ (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · rfl
  case piece31 =>
    have h1' : (y 1).val = 128 * 0 + (x 1).val := by omega
    refine tileM_at _ _ _ _ y x 0 512#32 (by decide) h1' h2 _ _ _ _ _ (fun i l => ?_) (fun j l => ?_) (fun j l => ?_) (fun j l => ?_) (fun j l => ?_)
    · exact (View.ld_unit_apply_of _ _ _ _ _ (ix3 0 _ l) (fun a => by match a with | ⟨0, _⟩ => rfl | ⟨1, _⟩ => rfl | ⟨2, _⟩ => exact (Nat.zero_add _).symm)).trans (congrFun (Memref.IsWhole.read_unread _ _) _)
    · exact kpad_val _ _ _ _ _ _ _ _ (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · rfl

/-- What a point whose bias scratch is computed first leaves in the output block, over that scratch. -/
theorem outA (c : Dev nD) (t : Fin cfg0.N) (h : t.val % 4 = 0) (y : S1x4096x128.Idx) :
    (outsAt0 m c t.val t.isLt).1 y = kAt (iblk m c 0 t) (iblk m c 1 t) (iblk m c 2 t)
      (fun r j => (outsAt0 m c t.val t.isLt).2.2.2.2.2 (ix2 r j)) y := by
  rw [Gen.outsAt0_A m c t h]
  frame_open
  frame_out
  simp only [View.readCov_eq_canon', read_unread_whole]
  canon_tiles x h
  case piece0 =>
    refine tileU_at _ _ _ _ y x 31 (by decide) h1 h2 _ _ _ _ _ (fun i l => ?_) (fun j l => ?_) (fun j l => ?_) (fun j l => ?_) (fun j l => ?_)
    · exact (View.ld_unit_apply_of _ _ _ _ _ (ix3 0 _ l) (fun a => by match a with | ⟨0, _⟩ => rfl | ⟨1, _⟩ => rfl | ⟨2, _⟩ => exact (Nat.zero_add _).symm)).trans (congrFun (Memref.IsWhole.read_unread _ _) _)
    · exact kpad_val _ _ _ _ _ _ _ _ (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact congrArg (View.canon _) (idx_bias _ j l)
  case piece1 =>
    refine tileU_at _ _ _ _ y x 30 (by decide) h1 h2 _ _ _ _ _ (fun i l => ?_) (fun j l => ?_) (fun j l => ?_) (fun j l => ?_) (fun j l => ?_)
    · exact (View.ld_unit_apply_of _ _ _ _ _ (ix3 0 _ l) (fun a => by match a with | ⟨0, _⟩ => rfl | ⟨1, _⟩ => rfl | ⟨2, _⟩ => exact (Nat.zero_add _).symm)).trans (congrFun (Memref.IsWhole.read_unread _ _) _)
    · exact kpad_val _ _ _ _ _ _ _ _ (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact congrArg (View.canon _) (idx_bias _ j l)
  case piece2 =>
    refine tileU_at _ _ _ _ y x 29 (by decide) h1 h2 _ _ _ _ _ (fun i l => ?_) (fun j l => ?_) (fun j l => ?_) (fun j l => ?_) (fun j l => ?_)
    · exact (View.ld_unit_apply_of _ _ _ _ _ (ix3 0 _ l) (fun a => by match a with | ⟨0, _⟩ => rfl | ⟨1, _⟩ => rfl | ⟨2, _⟩ => exact (Nat.zero_add _).symm)).trans (congrFun (Memref.IsWhole.read_unread _ _) _)
    · exact kpad_val _ _ _ _ _ _ _ _ (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact congrArg (View.canon _) (idx_bias _ j l)
  case piece3 =>
    refine tileU_at _ _ _ _ y x 28 (by decide) h1 h2 _ _ _ _ _ (fun i l => ?_) (fun j l => ?_) (fun j l => ?_) (fun j l => ?_) (fun j l => ?_)
    · exact (View.ld_unit_apply_of _ _ _ _ _ (ix3 0 _ l) (fun a => by match a with | ⟨0, _⟩ => rfl | ⟨1, _⟩ => rfl | ⟨2, _⟩ => exact (Nat.zero_add _).symm)).trans (congrFun (Memref.IsWhole.read_unread _ _) _)
    · exact kpad_val _ _ _ _ _ _ _ _ (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact congrArg (View.canon _) (idx_bias _ j l)
  case piece4 =>
    refine tileU_at _ _ _ _ y x 27 (by decide) h1 h2 _ _ _ _ _ (fun i l => ?_) (fun j l => ?_) (fun j l => ?_) (fun j l => ?_) (fun j l => ?_)
    · exact (View.ld_unit_apply_of _ _ _ _ _ (ix3 0 _ l) (fun a => by match a with | ⟨0, _⟩ => rfl | ⟨1, _⟩ => rfl | ⟨2, _⟩ => exact (Nat.zero_add _).symm)).trans (congrFun (Memref.IsWhole.read_unread _ _) _)
    · exact kpad_val _ _ _ _ _ _ _ _ (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact congrArg (View.canon _) (idx_bias _ j l)
  case piece5 =>
    refine tileU_at _ _ _ _ y x 26 (by decide) h1 h2 _ _ _ _ _ (fun i l => ?_) (fun j l => ?_) (fun j l => ?_) (fun j l => ?_) (fun j l => ?_)
    · exact (View.ld_unit_apply_of _ _ _ _ _ (ix3 0 _ l) (fun a => by match a with | ⟨0, _⟩ => rfl | ⟨1, _⟩ => rfl | ⟨2, _⟩ => exact (Nat.zero_add _).symm)).trans (congrFun (Memref.IsWhole.read_unread _ _) _)
    · exact kpad_val _ _ _ _ _ _ _ _ (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact congrArg (View.canon _) (idx_bias _ j l)
  case piece6 =>
    refine tileU_at _ _ _ _ y x 25 (by decide) h1 h2 _ _ _ _ _ (fun i l => ?_) (fun j l => ?_) (fun j l => ?_) (fun j l => ?_) (fun j l => ?_)
    · exact (View.ld_unit_apply_of _ _ _ _ _ (ix3 0 _ l) (fun a => by match a with | ⟨0, _⟩ => rfl | ⟨1, _⟩ => rfl | ⟨2, _⟩ => exact (Nat.zero_add _).symm)).trans (congrFun (Memref.IsWhole.read_unread _ _) _)
    · exact kpad_val _ _ _ _ _ _ _ _ (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact congrArg (View.canon _) (idx_bias _ j l)
  case piece7 =>
    refine tileU_at _ _ _ _ y x 24 (by decide) h1 h2 _ _ _ _ _ (fun i l => ?_) (fun j l => ?_) (fun j l => ?_) (fun j l => ?_) (fun j l => ?_)
    · exact (View.ld_unit_apply_of _ _ _ _ _ (ix3 0 _ l) (fun a => by match a with | ⟨0, _⟩ => rfl | ⟨1, _⟩ => rfl | ⟨2, _⟩ => exact (Nat.zero_add _).symm)).trans (congrFun (Memref.IsWhole.read_unread _ _) _)
    · exact kpad_val _ _ _ _ _ _ _ _ (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact congrArg (View.canon _) (idx_bias _ j l)
  case piece8 =>
    refine tileU_at _ _ _ _ y x 23 (by decide) h1 h2 _ _ _ _ _ (fun i l => ?_) (fun j l => ?_) (fun j l => ?_) (fun j l => ?_) (fun j l => ?_)
    · exact (View.ld_unit_apply_of _ _ _ _ _ (ix3 0 _ l) (fun a => by match a with | ⟨0, _⟩ => rfl | ⟨1, _⟩ => rfl | ⟨2, _⟩ => exact (Nat.zero_add _).symm)).trans (congrFun (Memref.IsWhole.read_unread _ _) _)
    · exact kpad_val _ _ _ _ _ _ _ _ (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact congrArg (View.canon _) (idx_bias _ j l)
  case piece9 =>
    refine tileU_at _ _ _ _ y x 22 (by decide) h1 h2 _ _ _ _ _ (fun i l => ?_) (fun j l => ?_) (fun j l => ?_) (fun j l => ?_) (fun j l => ?_)
    · exact (View.ld_unit_apply_of _ _ _ _ _ (ix3 0 _ l) (fun a => by match a with | ⟨0, _⟩ => rfl | ⟨1, _⟩ => rfl | ⟨2, _⟩ => exact (Nat.zero_add _).symm)).trans (congrFun (Memref.IsWhole.read_unread _ _) _)
    · exact kpad_val _ _ _ _ _ _ _ _ (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact congrArg (View.canon _) (idx_bias _ j l)
  case piece10 =>
    refine tileU_at _ _ _ _ y x 21 (by decide) h1 h2 _ _ _ _ _ (fun i l => ?_) (fun j l => ?_) (fun j l => ?_) (fun j l => ?_) (fun j l => ?_)
    · exact (View.ld_unit_apply_of _ _ _ _ _ (ix3 0 _ l) (fun a => by match a with | ⟨0, _⟩ => rfl | ⟨1, _⟩ => rfl | ⟨2, _⟩ => exact (Nat.zero_add _).symm)).trans (congrFun (Memref.IsWhole.read_unread _ _) _)
    · exact kpad_val _ _ _ _ _ _ _ _ (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact congrArg (View.canon _) (idx_bias _ j l)
  case piece11 =>
    refine tileU_at _ _ _ _ y x 20 (by decide) h1 h2 _ _ _ _ _ (fun i l => ?_) (fun j l => ?_) (fun j l => ?_) (fun j l => ?_) (fun j l => ?_)
    · exact (View.ld_unit_apply_of _ _ _ _ _ (ix3 0 _ l) (fun a => by match a with | ⟨0, _⟩ => rfl | ⟨1, _⟩ => rfl | ⟨2, _⟩ => exact (Nat.zero_add _).symm)).trans (congrFun (Memref.IsWhole.read_unread _ _) _)
    · exact kpad_val _ _ _ _ _ _ _ _ (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact congrArg (View.canon _) (idx_bias _ j l)
  case piece12 =>
    refine tileU_at _ _ _ _ y x 19 (by decide) h1 h2 _ _ _ _ _ (fun i l => ?_) (fun j l => ?_) (fun j l => ?_) (fun j l => ?_) (fun j l => ?_)
    · exact (View.ld_unit_apply_of _ _ _ _ _ (ix3 0 _ l) (fun a => by match a with | ⟨0, _⟩ => rfl | ⟨1, _⟩ => rfl | ⟨2, _⟩ => exact (Nat.zero_add _).symm)).trans (congrFun (Memref.IsWhole.read_unread _ _) _)
    · exact kpad_val _ _ _ _ _ _ _ _ (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact congrArg (View.canon _) (idx_bias _ j l)
  case piece13 =>
    refine tileU_at _ _ _ _ y x 18 (by decide) h1 h2 _ _ _ _ _ (fun i l => ?_) (fun j l => ?_) (fun j l => ?_) (fun j l => ?_) (fun j l => ?_)
    · exact (View.ld_unit_apply_of _ _ _ _ _ (ix3 0 _ l) (fun a => by match a with | ⟨0, _⟩ => rfl | ⟨1, _⟩ => rfl | ⟨2, _⟩ => exact (Nat.zero_add _).symm)).trans (congrFun (Memref.IsWhole.read_unread _ _) _)
    · exact kpad_val _ _ _ _ _ _ _ _ (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact congrArg (View.canon _) (idx_bias _ j l)
  case piece14 =>
    refine tileU_at _ _ _ _ y x 17 (by decide) h1 h2 _ _ _ _ _ (fun i l => ?_) (fun j l => ?_) (fun j l => ?_) (fun j l => ?_) (fun j l => ?_)
    · exact (View.ld_unit_apply_of _ _ _ _ _ (ix3 0 _ l) (fun a => by match a with | ⟨0, _⟩ => rfl | ⟨1, _⟩ => rfl | ⟨2, _⟩ => exact (Nat.zero_add _).symm)).trans (congrFun (Memref.IsWhole.read_unread _ _) _)
    · exact kpad_val _ _ _ _ _ _ _ _ (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact congrArg (View.canon _) (idx_bias _ j l)
  case piece15 =>
    refine tileU_at _ _ _ _ y x 16 (by decide) h1 h2 _ _ _ _ _ (fun i l => ?_) (fun j l => ?_) (fun j l => ?_) (fun j l => ?_) (fun j l => ?_)
    · exact (View.ld_unit_apply_of _ _ _ _ _ (ix3 0 _ l) (fun a => by match a with | ⟨0, _⟩ => rfl | ⟨1, _⟩ => rfl | ⟨2, _⟩ => exact (Nat.zero_add _).symm)).trans (congrFun (Memref.IsWhole.read_unread _ _) _)
    · exact kpad_val _ _ _ _ _ _ _ _ (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact congrArg (View.canon _) (idx_bias _ j l)
  case piece16 =>
    refine tileU_at _ _ _ _ y x 15 (by decide) h1 h2 _ _ _ _ _ (fun i l => ?_) (fun j l => ?_) (fun j l => ?_) (fun j l => ?_) (fun j l => ?_)
    · exact (View.ld_unit_apply_of _ _ _ _ _ (ix3 0 _ l) (fun a => by match a with | ⟨0, _⟩ => rfl | ⟨1, _⟩ => rfl | ⟨2, _⟩ => exact (Nat.zero_add _).symm)).trans (congrFun (Memref.IsWhole.read_unread _ _) _)
    · exact kpad_val _ _ _ _ _ _ _ _ (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact congrArg (View.canon _) (idx_bias _ j l)
  case piece17 =>
    refine tileU_at _ _ _ _ y x 14 (by decide) h1 h2 _ _ _ _ _ (fun i l => ?_) (fun j l => ?_) (fun j l => ?_) (fun j l => ?_) (fun j l => ?_)
    · exact (View.ld_unit_apply_of _ _ _ _ _ (ix3 0 _ l) (fun a => by match a with | ⟨0, _⟩ => rfl | ⟨1, _⟩ => rfl | ⟨2, _⟩ => exact (Nat.zero_add _).symm)).trans (congrFun (Memref.IsWhole.read_unread _ _) _)
    · exact kpad_val _ _ _ _ _ _ _ _ (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact congrArg (View.canon _) (idx_bias _ j l)
  case piece18 =>
    refine tileU_at _ _ _ _ y x 13 (by decide) h1 h2 _ _ _ _ _ (fun i l => ?_) (fun j l => ?_) (fun j l => ?_) (fun j l => ?_) (fun j l => ?_)
    · exact (View.ld_unit_apply_of _ _ _ _ _ (ix3 0 _ l) (fun a => by match a with | ⟨0, _⟩ => rfl | ⟨1, _⟩ => rfl | ⟨2, _⟩ => exact (Nat.zero_add _).symm)).trans (congrFun (Memref.IsWhole.read_unread _ _) _)
    · exact kpad_val _ _ _ _ _ _ _ _ (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact congrArg (View.canon _) (idx_bias _ j l)
  case piece19 =>
    refine tileU_at _ _ _ _ y x 12 (by decide) h1 h2 _ _ _ _ _ (fun i l => ?_) (fun j l => ?_) (fun j l => ?_) (fun j l => ?_) (fun j l => ?_)
    · exact (View.ld_unit_apply_of _ _ _ _ _ (ix3 0 _ l) (fun a => by match a with | ⟨0, _⟩ => rfl | ⟨1, _⟩ => rfl | ⟨2, _⟩ => exact (Nat.zero_add _).symm)).trans (congrFun (Memref.IsWhole.read_unread _ _) _)
    · exact kpad_val _ _ _ _ _ _ _ _ (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact congrArg (View.canon _) (idx_bias _ j l)
  case piece20 =>
    refine tileU_at _ _ _ _ y x 11 (by decide) h1 h2 _ _ _ _ _ (fun i l => ?_) (fun j l => ?_) (fun j l => ?_) (fun j l => ?_) (fun j l => ?_)
    · exact (View.ld_unit_apply_of _ _ _ _ _ (ix3 0 _ l) (fun a => by match a with | ⟨0, _⟩ => rfl | ⟨1, _⟩ => rfl | ⟨2, _⟩ => exact (Nat.zero_add _).symm)).trans (congrFun (Memref.IsWhole.read_unread _ _) _)
    · exact kpad_val _ _ _ _ _ _ _ _ (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact congrArg (View.canon _) (idx_bias _ j l)
  case piece21 =>
    refine tileU_at _ _ _ _ y x 10 (by decide) h1 h2 _ _ _ _ _ (fun i l => ?_) (fun j l => ?_) (fun j l => ?_) (fun j l => ?_) (fun j l => ?_)
    · exact (View.ld_unit_apply_of _ _ _ _ _ (ix3 0 _ l) (fun a => by match a with | ⟨0, _⟩ => rfl | ⟨1, _⟩ => rfl | ⟨2, _⟩ => exact (Nat.zero_add _).symm)).trans (congrFun (Memref.IsWhole.read_unread _ _) _)
    · exact kpad_val _ _ _ _ _ _ _ _ (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact congrArg (View.canon _) (idx_bias _ j l)
  case piece22 =>
    refine tileU_at _ _ _ _ y x 9 (by decide) h1 h2 _ _ _ _ _ (fun i l => ?_) (fun j l => ?_) (fun j l => ?_) (fun j l => ?_) (fun j l => ?_)
    · exact (View.ld_unit_apply_of _ _ _ _ _ (ix3 0 _ l) (fun a => by match a with | ⟨0, _⟩ => rfl | ⟨1, _⟩ => rfl | ⟨2, _⟩ => exact (Nat.zero_add _).symm)).trans (congrFun (Memref.IsWhole.read_unread _ _) _)
    · exact kpad_val _ _ _ _ _ _ _ _ (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact congrArg (View.canon _) (idx_bias _ j l)
  case piece23 =>
    refine tileU_at _ _ _ _ y x 8 (by decide) h1 h2 _ _ _ _ _ (fun i l => ?_) (fun j l => ?_) (fun j l => ?_) (fun j l => ?_) (fun j l => ?_)
    · exact (View.ld_unit_apply_of _ _ _ _ _ (ix3 0 _ l) (fun a => by match a with | ⟨0, _⟩ => rfl | ⟨1, _⟩ => rfl | ⟨2, _⟩ => exact (Nat.zero_add _).symm)).trans (congrFun (Memref.IsWhole.read_unread _ _) _)
    · exact kpad_val _ _ _ _ _ _ _ _ (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact congrArg (View.canon _) (idx_bias _ j l)
  case piece24 =>
    refine tileU_at _ _ _ _ y x 7 (by decide) h1 h2 _ _ _ _ _ (fun i l => ?_) (fun j l => ?_) (fun j l => ?_) (fun j l => ?_) (fun j l => ?_)
    · exact (View.ld_unit_apply_of _ _ _ _ _ (ix3 0 _ l) (fun a => by match a with | ⟨0, _⟩ => rfl | ⟨1, _⟩ => rfl | ⟨2, _⟩ => exact (Nat.zero_add _).symm)).trans (congrFun (Memref.IsWhole.read_unread _ _) _)
    · exact kpad_val _ _ _ _ _ _ _ _ (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact congrArg (View.canon _) (idx_bias _ j l)
  case piece25 =>
    refine tileU_at _ _ _ _ y x 6 (by decide) h1 h2 _ _ _ _ _ (fun i l => ?_) (fun j l => ?_) (fun j l => ?_) (fun j l => ?_) (fun j l => ?_)
    · exact (View.ld_unit_apply_of _ _ _ _ _ (ix3 0 _ l) (fun a => by match a with | ⟨0, _⟩ => rfl | ⟨1, _⟩ => rfl | ⟨2, _⟩ => exact (Nat.zero_add _).symm)).trans (congrFun (Memref.IsWhole.read_unread _ _) _)
    · exact kpad_val _ _ _ _ _ _ _ _ (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact congrArg (View.canon _) (idx_bias _ j l)
  case piece26 =>
    refine tileU_at _ _ _ _ y x 5 (by decide) h1 h2 _ _ _ _ _ (fun i l => ?_) (fun j l => ?_) (fun j l => ?_) (fun j l => ?_) (fun j l => ?_)
    · exact (View.ld_unit_apply_of _ _ _ _ _ (ix3 0 _ l) (fun a => by match a with | ⟨0, _⟩ => rfl | ⟨1, _⟩ => rfl | ⟨2, _⟩ => exact (Nat.zero_add _).symm)).trans (congrFun (Memref.IsWhole.read_unread _ _) _)
    · exact kpad_val _ _ _ _ _ _ _ _ (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact congrArg (View.canon _) (idx_bias _ j l)
  case piece27 =>
    refine tileU_at _ _ _ _ y x 4 (by decide) h1 h2 _ _ _ _ _ (fun i l => ?_) (fun j l => ?_) (fun j l => ?_) (fun j l => ?_) (fun j l => ?_)
    · exact (View.ld_unit_apply_of _ _ _ _ _ (ix3 0 _ l) (fun a => by match a with | ⟨0, _⟩ => rfl | ⟨1, _⟩ => rfl | ⟨2, _⟩ => exact (Nat.zero_add _).symm)).trans (congrFun (Memref.IsWhole.read_unread _ _) _)
    · exact kpad_val _ _ _ _ _ _ _ _ (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact congrArg (View.canon _) (idx_bias _ j l)
  case piece28 =>
    have h1' : (y 1).val = 128 * 3 + (x 1).val := by omega
    refine tileM_at _ _ _ _ y x 3 128#32 (by decide) h1' h2 _ _ _ _ _ (fun i l => ?_) (fun j l => ?_) (fun j l => ?_) (fun j l => ?_) (fun j l => ?_)
    · exact (View.ld_unit_apply_of _ _ _ _ _ (ix3 0 _ l) (fun a => by match a with | ⟨0, _⟩ => rfl | ⟨1, _⟩ => rfl | ⟨2, _⟩ => exact (Nat.zero_add _).symm)).trans (congrFun (Memref.IsWhole.read_unread _ _) _)
    · exact kpad_val _ _ _ _ _ _ _ _ (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact congrArg (View.canon _) (idx_bias _ j l)
  case piece29 =>
    have h1' : (y 1).val = 128 * 2 + (x 1).val := by omega
    refine tileM_at _ _ _ _ y x 2 256#32 (by decide) h1' h2 _ _ _ _ _ (fun i l => ?_) (fun j l => ?_) (fun j l => ?_) (fun j l => ?_) (fun j l => ?_)
    · exact (View.ld_unit_apply_of _ _ _ _ _ (ix3 0 _ l) (fun a => by match a with | ⟨0, _⟩ => rfl | ⟨1, _⟩ => rfl | ⟨2, _⟩ => exact (Nat.zero_add _).symm)).trans (congrFun (Memref.IsWhole.read_unread _ _) _)
    · exact kpad_val _ _ _ _ _ _ _ _ (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact congrArg (View.canon _) (idx_bias _ j l)
  case piece30 =>
    have h1' : (y 1).val = 128 * 1 + (x 1).val := by omega
    refine tileM_at _ _ _ _ y x 1 384#32 (by decide) h1' h2 _ _ _ _ _ (fun i l => ?_) (fun j l => ?_) (fun j l => ?_) (fun j l => ?_) (fun j l => ?_)
    · exact (View.ld_unit_apply_of _ _ _ _ _ (ix3 0 _ l) (fun a => by match a with | ⟨0, _⟩ => rfl | ⟨1, _⟩ => rfl | ⟨2, _⟩ => exact (Nat.zero_add _).symm)).trans (congrFun (Memref.IsWhole.read_unread _ _) _)
    · exact kpad_val _ _ _ _ _ _ _ _ (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact congrArg (View.canon _) (idx_bias _ j l)
  case piece31 =>
    have h1' : (y 1).val = 128 * 0 + (x 1).val := by omega
    refine tileM_at _ _ _ _ y x 0 512#32 (by decide) h1' h2 _ _ _ _ _ (fun i l => ?_) (fun j l => ?_) (fun j l => ?_) (fun j l => ?_) (fun j l => ?_)
    · exact (View.ld_unit_apply_of _ _ _ _ _ (ix3 0 _ l) (fun a => by match a with | ⟨0, _⟩ => rfl | ⟨1, _⟩ => rfl | ⟨2, _⟩ => exact (Nat.zero_add _).symm)).trans (congrFun (Memref.IsWhole.read_unread _ _) _)
    · exact kpad_val _ _ _ _ _ _ _ _ (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact vpad_val _ _ _ _ _ _ _ _ _ _ _ _ _ (Rect.idx_unit_val _ _ _ _ _) (Rect.idx_unit_val _ _ _ _ _) ((Rect.idx_unit_val _ _ _ _ _).trans (Nat.zero_add _))
    · exact congrArg (View.canon _) (idx_bias _ j l)

end Cert.Attn

end
-- ==== Proof.Bias.lean ====
/- The bias scratch: the visible part of the relative-position biases, times log₂ e. -/
module

public import proofs.«01_k».proof.Proof.Pieces

@[expose] public section

set_option maxRecDepth 16384

noncomputable section

namespace Cert.Attn

open Idealize.ShloMosaic Cert.KernelIdeal Cert.KernelIdeal.Gen Idealize.ShloMosaic.TcCoe

/-- The lane of the relative-position row that row `i` of a tile reads for key `j`. -/
def relLane (i : Fin 128) (j : Fin 640) : Fin 768 :=
  ⟨if i.val ≤ j.val then j.val - i.val else 768 + j.val - i.val, by split <;> omega⟩

/-- The floor of a small word over 64, as the kernel computes it. -/
theorem floor64 (n : Fin 640) :
    Scalar.select (IntOp.andi
      (IntOp.cmpi CmpIPredicate.ne
        (IntOp.subi (BitVec.setWidth 32 (IntOp.cmpi CmpIPredicate.sgt (BitVec.ofNat 32 n.val) 0#32))
          (BitVec.setWidth 32 (IntOp.cmpi CmpIPredicate.slt (BitVec.ofNat 32 n.val) 0#32))) 1#32)
      (IntOp.cmpi CmpIPredicate.ne (IntOp.remsi ArithUnit.vector (BitVec.ofNat 32 n.val) 64#32) 0#32))
      (IntOp.subi (IntOp.divsi ArithUnit.vector (BitVec.ofNat 32 n.val) 64#32) 1#32)
      (IntOp.divsi ArithUnit.vector (BitVec.ofNat 32 n.val) 64#32) = BitVec.ofNat 32 (n.val / 64) := by
  revert n
  decide +kernel

/-- The mask of the visible band on words: `0 ≤ b − a ≤ 8`. -/
theorem select_band (a b : ℕ) (ha : a < 64) (hb : b < 64) (x y : EReal) :
    Scalar.select (IntOp.andi
      (IntOp.cmpi CmpIPredicate.sge (IntOp.subi (BitVec.ofNat 32 b) (BitVec.ofNat 32 a)) 0#32)
      (IntOp.cmpi CmpIPredicate.sle (IntOp.subi (BitVec.ofNat 32 b) (BitVec.ofNat 32 a)) 8#32)) x y
      = if a ≤ b ∧ b ≤ a + 8 then x else y := by
  have h : (IntOp.subi (BitVec.ofNat 32 b) (BitVec.ofNat 32 a)).toInt = (b : ℤ) - a := by
    show (BitVec.ofNat 32 b - BitVec.ofNat 32 a).toInt = _
    rw [BitVec.toInt_eq_toNat_cond]
    simp only [BitVec.toNat_sub, BitVec.toNat_ofNat]
    split <;> omega
  generalize IntOp.subi (BitVec.ofNat 32 b) (BitVec.ofNat 32 a) = w at h
  have h1 : IntOp.cmpi CmpIPredicate.sge w 0#32 = BitVec.ofBool (decide (a ≤ b)) := by
    show BitVec.ofBool ((0#32).sle w) = _
    simp only [BitVec.sle, h, BitVec.toInt_zero]
    exact congrArg _ (decide_eq_decide.mpr (by omega))
  have h2 : IntOp.cmpi CmpIPredicate.sle w 8#32 = BitVec.ofBool (decide (b ≤ a + 8)) := by
    show BitVec.ofBool (w.sle 8#32) = _
    have h8 : (8#32).toInt = 8 := by decide
    simp only [BitVec.sle, h, h8]
    exact congrArg _ (decide_eq_decide.mpr (by omega))
  rw [h1, h2]
  by_cases p : a ≤ b <;> by_cases q : b ≤ a + 8 <;> simp only [p, q, decide_true, decide_false, and_self, and_true, and_false, false_and, if_true, if_false] <;> rfl

/-- The lane of the rolled row, wrapped at 1024 and read from 768 lanes, is `relLane`. -/
theorem bias_row (R : Fin 768 → EReal) (i : Fin 128) (j : Fin 640) :
    (if h : (j.val + 1024 - i.val % 1024) % 1024 < 768 then R ⟨(j.val + 1024 - i.val % 1024) % 1024, h⟩
      else R ⟨512 + ((j.val + 1024 - i.val % 1024) % 1024 - 768), by omega⟩) = R (relLane i j) := by
  unfold relLane
  split
  · refine congrArg R (Fin.ext ?_)
    show (j.val + 1024 - i.val % 1024) % 1024 = if i.val ≤ j.val then j.val - i.val else 768 + j.val - i.val
    split <;> omega
  · refine congrArg R (Fin.ext ?_)
    show 512 + ((j.val + 1024 - i.val % 1024) % 1024 - 768) = if i.val ≤ j.val then j.val - i.val else 768 + j.val - i.val
    split <;> omega

/-- The first head's half of the bias scratch. -/
theorem pay6_val (A B : IVec S128x640 32) (C : IVec S128x640 1) (R : Vec Ideal S1x1x768 .f32) (i : Fin 128) (j : Fin 640)
    (hA : A (ix2 i j) = BitVec.ofNat 32 (j.val / 64))
    (hB : Scalar.select (C (ix2 i j)) (IntOp.subi (B (ix2 i j)) 1#32) (B (ix2 i j)) = BitVec.ofNat 32 (i.val / 64)) :
    k0_pay6 (F := Ideal) A B C R (ix2 i j)
      = if i.val / 64 ≤ j.val / 64 ∧ j.val / 64 ≤ i.val / 64 + 8 then R (ix3 0 0 (relLane i j)) * (((Real.log 2)⁻¹ : ℝ) : EReal) else ⊥ := by
  unfold k0_pay6 k0_pay5
  pointwise
  rw [hB, hA]
  refine (select_band _ _ (by omega) (by omega) _ _).trans ?_
  rw [ofBits_neg_inf]
  exact if_congr Iff.rfl (congrArg (· * _) (bias_row (fun n => R (ix3 0 0 n)) i j)) rfl

/-- The second head's half of the bias scratch. -/
theorem pay7_val (A B : IVec S128x640 32) (C : IVec S128x640 1) (R : Vec Ideal S1x1x768 .f32) (i : Fin 128) (j : Fin 640)
    (hA : A (ix2 i j) = BitVec.ofNat 32 (j.val / 64))
    (hB : Scalar.select (C (ix2 i j)) (IntOp.subi (B (ix2 i j)) 1#32) (B (ix2 i j)) = BitVec.ofNat 32 (i.val / 64)) :
    k0_pay7 (F := Ideal) A B C R (ix2 i j)
      = if i.val / 64 ≤ j.val / 64 ∧ j.val / 64 ≤ i.val / 64 + 8 then R (ix3 0 0 (relLane i j)) * (((Real.log 2)⁻¹ : ℝ) : EReal) else ⊥ := by
  unfold k0_pay7 k0_pay5
  pointwise
  rw [hB, hA]
  refine (select_band _ _ (by omega) (by omega) _ _).trans ?_
  rw [ofBits_neg_inf]
  exact if_congr Iff.rfl (congrArg (· * _) (bias_row (fun n => R (ix3 0 0 n)) i j)) rfl

variable (m : (ℓ : Loc nD τ sig) → Buf (Elt Ideal) ℓ)

/-- The relative-position rows of a grid point's two heads. -/
def relBlk (c : Dev nD) (t : Fin cfg0.N) : S1x2x768.Idx → EReal := iblk m c 3 t

/-- The bias scratch after a point that computes it. -/
theorem biasA (c : Dev nD) (t : Fin cfg0.N) (h : t.val % 4 = 0) (y : S256x640.Idx) (e : Fin 2) (i : Fin 128) (j : Fin 640)
    (hy : (y 0).val = e.val * 128 + i.val) (hj : (y 1).val = j.val) :
    (outsAt0 m c t.val t.isLt).2.2.2.2.2 y
      = if i.val / 64 ≤ j.val / 64 ∧ j.val / 64 ≤ i.val / 64 + 8 then
          relBlk m c t (ix3 0 e (relLane i j)) * (((Real.log 2)⁻¹ : ℝ) : EReal) else ⊥ := by
  rw [Gen.outsAt0_A m c t h]
  frame_open
  frame_out
  canon_tiles x h
  · idx_vars x
    change (y 0).val = 128 + x0.val at h0
    change (y 1).val = x1.val at h1
    obtain rfl : x1 = j := Fin.ext (by omega)
    obtain rfl : x0 = i := Fin.ext (by omega)
    obtain rfl : e = 1 := Fin.ext (by show e.val = 1; omega)
    refine (pay7_val _ _ _ _ _ _ ?_ ?_).trans ?_
    · pointwise
      exact floor64 _
    · pointwise
      exact floor64 ⟨x0.val, by omega⟩
    · refine if_congr Iff.rfl (congrArg (· * _) ?_) rfl
      exact View.ld_unit_apply_of _ _ _ _ _ _ (fun a => by match a with | ⟨0, _⟩ => rfl | ⟨1, _⟩ => rfl | ⟨2, _⟩ => exact (Nat.zero_add _).symm)
  · idx_vars x
    change (y 0).val = x0.val at h0
    change (y 1).val = x1.val at h1
    obtain rfl : x1 = j := Fin.ext (by omega)
    obtain rfl : x0 = i := Fin.ext (by omega)
    obtain rfl : e = 0 := Fin.ext (by show e.val = 0; omega)
    refine (pay6_val _ _ _ _ _ _ ?_ ?_).trans ?_
    · pointwise
      exact floor64 _
    · pointwise
      exact floor64 ⟨x0.val, by omega⟩
    · refine if_congr Iff.rfl (congrArg (· * _) ?_) rfl
      exact View.ld_unit_apply_of _ _ _ _ _ _ (fun a => by match a with | ⟨0, _⟩ => rfl | ⟨1, _⟩ => rfl | ⟨2, _⟩ => exact (Nat.zero_add _).symm)

end Cert.Attn

end
-- ==== Proof.Hold.lean ====
/- The bias scratch held over a run of four grid points, and the output block of every point over it. -/
module

public import proofs.«01_k».proof.Proof.Bias

@[expose] public section

set_option maxRecDepth 16384

noncomputable section

namespace Cert.Attn

open Idealize.ShloMosaic Cert.KernelIdeal Cert.KernelIdeal.Gen Idealize.ShloMosaic.TcCoe

variable (m : (ℓ : Loc nD τ sig) → Buf (Elt Ideal) ℓ)

/-- The bias scratch after a point. -/
def biasAt (c : Dev nD) (n : ℕ) (h : n < cfg0.N) : Fin 256 → Fin 640 → EReal :=
  fun r j => (outsAt0 m c n h).2.2.2.2.2 (ix2 r j)

/-- A point that does not compute the bias scratch leaves it as it was. -/
theorem biasB (c : Dev nD) (n : ℕ) (h : n < cfg0.N) (hn : ¬ n % 4 = 0) :
    biasAt m c n h = biasAt m c (n - 1) (by omega) := by
  unfold biasAt
  rw [Gen.outsAt0_B m c ⟨n, h⟩ hn]
  dsimp only
  unfold sout0_B_2
  rfl

/-- The bias scratch holds over the four points that share it. -/
theorem bias_hold (c : Dev nD) (hp r : ℕ) (hr : r < 4) : ∀ (n : ℕ) (h : n < cfg0.N) (e : n = 4 * hp + r),
    biasAt m c n h = biasAt m c (4 * hp) (by omega) := by
  induction r with
  | zero => intro n h e; subst e; rfl
  | succ r ih => intro n h e; exact (biasB m c n h (by omega)).trans (ih (by omega) _ _ (by omega))

/-- What every grid point leaves in the output block, over the bias of its own run of four points. -/
theorem out_val (c : Dev nD) (hp r : ℕ) (hr : r < 4) (t : Fin cfg0.N) (ht : t.val = 4 * hp + r) (y : S1x4096x128.Idx) :
    (outsAt0 m c t.val t.isLt).1 y
      = kAt (iblk m c 0 t) (iblk m c 1 t) (iblk m c 2 t) (biasAt m c (4 * hp) (by have := t.isLt; omega)) y := by
  by_cases hz : t.val % 4 = 0
  · refine (outA m c t hz y).trans ?_
    exact congrArg (fun f => kAt _ _ _ f y) (bias_hold m c hp r hr _ _ ht)
  · refine (outB m c t hz y).trans ?_
    exact congrArg (fun f => kAt _ _ _ f y) (bias_hold m c hp (r - 1) (by omega) _ _ (by omega))

end Cert.Attn

end
-- ==== Proof.Host.lean ====
/- The kernel's operands as the host prepares them: scaled queries, keys, values and relative-position rows. -/
module

public import proofs.«01_k».proof.Proof.Consts
public import proofs.«01_k».proof.Proof.Gen.KernelIdeal.Value
public import Idealize.ShloMosaic.Lib.Pipeline.ValueKit
public import Idealize.ShloMosaic.Lib.StableHlo.ReadAt

@[expose] public section

set_option maxRecDepth 16384

noncomputable section

namespace Cert.Attn

open Idealize.ShloMosaic Cert.KernelIdeal Cert.KernelIdeal.Gen Idealize.ShloMosaic.TcCoe

variable (m : (ℓ : Loc nD τ sig) → Buf (Elt Ideal) ℓ)

/-- The queries, keys and values a device is given. -/
def Xk (c : Dev nD) : S4x4096x3072.Idx → EReal := m ((c : Thread nD τ).loc main_arg0)

/-- The table of relative-position biases a device is given. -/
def Tk (c : Dev nD) : S1x16x513.Idx → EReal := m ((c : Thread nD τ).loc main_arg1)

/-- The prepared queries, keys and values. -/
def Xp (c : Dev nD) : S4x4096x3072.Idx → EReal := V m c main_v8

/-- The prepared relative-position rows. -/
def Rp (c : Dev nD) : S8x2x768.Idx → EReal := V m c main_v16

/-- The factor on the queries. -/
def qfac : EReal := (((1 / 8 * (Real.log 2)⁻¹ : ℝ)) : EReal)

/-- The prepared array, off the given one: the queries scaled, the rest as it is. -/
theorem Xp_val (c : Dev nD) (b : Fin 4) (n : Fin 4096) (l : Fin 3072) :
    Xp m c (ix3 b n l) = if l.val < 1024 then Xk m c (ix3 b n l) * qfac else Xk m c (ix3 b n l) := by
  unfold Xp
  entry_read
  pointwise
  have e : Ideal.ofBits FTy.f32 1040187392#32 * Ideal.div 1 (Ideal.log (Ideal.ofBits FTy.f32 1073741824#32)) = qfac := by
    rw [ofBits_eighth, ofBits_two, Ideal.log_coe, if_neg (by norm_num), Ideal.div_coe (Real.log_pos (by norm_num)).ne', one_mul,
      ← EReal.coe_mul, one_div (Real.log 2)]
    rfl
  split
  · rw [e]; rfl
  · refine congrArg (fun z => Xk m c (ix3 b n z)) (Fin.ext ?_)
    show 1024 + (l.val - 1024) = l.val
    omega

/-- The bias column of lane `w` of a relative-position row. -/
def relCol (w : Fin 768) : Fin 513 :=
  ⟨if w.val < 257 then 512 else if w.val < 640 then 768 - w.val else 512, by split <;> (try split) <;> omega⟩

/-- The prepared relative-position rows, off the table. -/
theorem Rp_val (c : Dev nD) (p : Fin 8) (e : Fin 2) (w : Fin 768) :
    Rp m c (ix3 p e w) = Tk m c (ix3 0 ⟨p.val * 2 + e.val, by omega⟩ (relCol w)) := by
  unfold Rp V
  after_reads_at
  after_reads_at
  have key : ∀ n : Fin 513, n.val = (relCol w).val →
      m (c, Proc.tc.devRef main_arg1) (ix3 0 ⟨p.val * 2 + e.val, by omega⟩ n)
        = Tk m c (ix3 0 ⟨p.val * 2 + e.val, by omega⟩ (relCol w)) := by
    intro n hn
    rw [show n = relCol w from Fin.ext hn]
    rfl
  have hc : (relCol w).val = if w.val < 257 then 512 else if w.val < 640 then 768 - w.val else 512 := rfl
  split
  · next h => exact key _ (by rw [hc, if_pos h]; rfl)
  · next h =>
    split
    · next h2 =>
      refine key _ ?_
      show 129 + (383 - (w.val - 257 + 1)) = _
      rw [hc, if_neg h, if_pos (by omega)]
      omega
    · next h2 => exact key _ (by rw [hc, if_neg h, if_neg (by omega)]; rfl)

/-- The block of queries, of keys, of values and of relative-position rows that a point is given. -/
theorem idx0 : ∀ t : Fin cfg0.N, win0_0.index t = ![t.val % 4, 0, t.val / 4] := by decide +kernel
theorem idx1 : ∀ t : Fin cfg0.N, win0_1.index t = ![t.val % 4, 0, 8 + t.val / 4] := by decide +kernel
theorem idx2 : ∀ t : Fin cfg0.N, win0_2.index t = ![t.val % 4, 0, 16 + t.val / 4] := by decide +kernel
theorem idx3 : ∀ t : Fin cfg0.N, win0_3.index t = ![t.val / 4, 0, 0] := by decide +kernel

/-- The point of head pair `p` and batch row `b`. -/
def pt (p : Fin 8) (b : Fin 4) : Fin cfg0.N := ⟨4 * p.val + b.val, by have : cfg0.N = 32 := N_0; omega⟩

theorem pt_div (p : Fin 8) (b : Fin 4) : (pt p b).val / 4 = p.val := by show (4 * p.val + b.val) / 4 = p.val; omega
theorem pt_mod (p : Fin 8) (b : Fin 4) : (pt p b).val % 4 = b.val := by show (4 * p.val + b.val) % 4 = b.val; omega

/-- A point's queries. -/
def Qb (c : Dev nD) (p : Fin 8) (b : Fin 4) : S1x4096x128.Idx → EReal := iblk m c 0 (pt p b)
/-- A point's keys. -/
def Kb (c : Dev nD) (p : Fin 8) (b : Fin 4) : S1x4096x128.Idx → EReal := iblk m c 1 (pt p b)
/-- A point's values. -/
def Vb (c : Dev nD) (p : Fin 8) (b : Fin 4) : S1x4096x128.Idx → EReal := iblk m c 2 (pt p b)
/-- A point's relative-position rows. -/
def Rb (c : Dev nD) (p : Fin 8) (b : Fin 4) : S1x2x768.Idx → EReal := iblk m c 3 (pt p b)

/-- A point's queries, off the prepared array. -/
theorem Qb_arr (c : Dev nD) (p : Fin 8) (b : Fin 4) (n : Fin 4096) (l : Fin 128) :
    Qb m c p b (ix3 0 n l) = Xp m c (ix3 b n ⟨p.val * 128 + l.val, by omega⟩) := by
  have h0 := pt_div p b
  have h1 := pt_mod p b
  unfold Qb Xp iblk
  blk_ext [idx0 (pt p b)]

/-- A point's keys, off the prepared array. -/
theorem Kb_arr (c : Dev nD) (p : Fin 8) (b : Fin 4) (n : Fin 4096) (l : Fin 128) :
    Kb m c p b (ix3 0 n l) = Xp m c (ix3 b n ⟨1024 + (p.val * 128 + l.val), by omega⟩) := by
  have h0 := pt_div p b
  have h1 := pt_mod p b
  unfold Kb Xp iblk
  blk_ext [idx1 (pt p b)]

/-- A point's values, off the prepared array. -/
theorem Vb_arr (c : Dev nD) (p : Fin 8) (b : Fin 4) (n : Fin 4096) (l : Fin 128) :
    Vb m c p b (ix3 0 n l) = Xp m c (ix3 b n ⟨2048 + (p.val * 128 + l.val), by omega⟩) := by
  have h0 := pt_div p b
  have h1 := pt_mod p b
  unfold Vb Xp iblk
  blk_ext [idx2 (pt p b)]

/-- A point's relative-position rows, off the prepared array. -/
theorem Rb_arr (c : Dev nD) (p : Fin 8) (b : Fin 4) (e : Fin 2) (w : Fin 768) :
    Rb m c p b (ix3 0 e w) = Rp m c (ix3 p e w) := by
  have h0 := pt_div p b
  have h1 := pt_mod p b
  unfold Rb Rp iblk
  blk_ext [idx3 (pt p b)]

/-- A point's queries, off the given array. -/
theorem Qb_val (c : Dev nD) (p : Fin 8) (b : Fin 4) (n : Fin 4096) (l : Fin 128) :
    Qb m c p b (ix3 0 n l) = Xk m c (ix3 b n ⟨p.val * 128 + l.val, by omega⟩) * qfac := by
  rw [Qb_arr, Xp_val, if_pos (by show p.val * 128 + l.val < 1024; omega)]

/-- A point's keys, off the given array. -/
theorem Kb_val (c : Dev nD) (p : Fin 8) (b : Fin 4) (n : Fin 4096) (l : Fin 128) :
    Kb m c p b (ix3 0 n l) = Xk m c (ix3 b n ⟨1024 + (p.val * 128 + l.val), by omega⟩) := by
  rw [Kb_arr, Xp_val, if_neg (by show ¬ 1024 + (p.val * 128 + l.val) < 1024; omega)]

/-- A point's values, off the given array. -/
theorem Vb_val (c : Dev nD) (p : Fin 8) (b : Fin 4) (n : Fin 4096) (l : Fin 128) :
    Vb m c p b (ix3 0 n l) = Xk m c (ix3 b n ⟨2048 + (p.val * 128 + l.val), by omega⟩) := by
  rw [Vb_arr, Xp_val, if_neg (by show ¬ 2048 + (p.val * 128 + l.val) < 1024; omega)]

end Cert.Attn

end
-- ==== Proof.Scores.lean ====
/- The kernel's scores of a row against the reference's of the same query: log₂ e times them in the band, −∞ outside. -/
module

public import proofs.«01_k».proof.Proof.RefOut
public import proofs.«01_k».proof.Proof.Hold
public import proofs.«01_k».proof.Proof.Host

@[expose] public section

set_option maxRecDepth 16384
set_option backward.proofsInPublic true

noncomputable section

namespace Cert.Attn

open Idealize.ShloMosaic Cert.KernelIdeal Cert.KernelIdeal.Gen

/-- A sum over 128 lanes of what is zero outside one half. -/
theorem half_sum (e : Fin 2) (F : Fin 128 → EReal) (h : ∀ l : Fin 128, l.val / 64 ≠ e.val → F l = 0) :
    (∑ l, F l) = ∑ d : Fin 64, F ⟨64 * e.val + d.val, by omega⟩ := by
  have hs := Fin.sum_univ_add (a := 64) (b := 64) F
  refine hs.trans ?_
  match e with
  | ⟨0, _⟩ =>
    rw [Finset.sum_eq_zero (s := Finset.univ) (f := fun i : Fin 64 => F (Fin.natAdd 64 i))
      (fun d _ => h _ (by show (64 + d.val) / 64 ≠ 0; omega)), add_zero]
    exact Finset.sum_congr rfl fun d _ => congrArg F (Fin.ext (by show d.val = 64 * 0 + d.val; omega))
  | ⟨1, _⟩ =>
    rw [Finset.sum_eq_zero (s := Finset.univ) (f := fun i : Fin 64 => F (Fin.castAdd 64 i))
      (fun d _ => h _ (by show d.val / 64 ≠ 1; omega)), zero_add]
    exact Finset.sum_congr rfl fun d _ => congrArg F (Fin.ext (by show 64 + d.val = 64 * 1 + d.val; omega))

/-- The scale and the bias distributed: over reals, log₂ e times the score is the sum of products with the scaled query
    plus the scaled bias. -/
theorem scale_score {n : ℕ} (x y : Fin n → EReal) (r : EReal) (hx : ∀ d, ∃ a : ℝ, x d = a) (hy : ∀ d, ∃ a : ℝ, y d = a)
    (hr : ∃ a : ℝ, r = a) :
    (∑ d, x d * qfac * y d) + r * (((Real.log 2)⁻¹ : ℝ) : EReal)
      = (((Real.log 2)⁻¹ : ℝ) : EReal) * ((∑ d, x d * y d) * ((1 / 8 : ℝ) : EReal) + r) := by
  choose a ha using hx
  choose b hb using hy
  obtain ⟨s, rfl⟩ := hr
  unfold qfac
  simp only [ha, hb, ← EReal.coe_mul, coe_sum, ← EReal.coe_add]
  refine congrArg _ ?_
  rw [mul_add, Finset.sum_mul, Finset.mul_sum]
  refine congrArg₂ (· + ·) (Finset.sum_congr rfl fun d _ => by ring) (by ring)

/-- The bias column of key `off + k` for row `i` of a tile is the one of their distance. -/
theorem relCol_val (i : Fin 128) (j : Fin 640) (k : Fin 576) (hj : j.val = i.val / 64 * 64 + k.val) :
    relCol (relLane i j) = ⟨min (i.val % 64 + 768 - k.val) 512, by omega⟩ := by
  have hL : (relLane i j).val = if i.val ≤ j.val then j.val - i.val else 768 + j.val - i.val := rfl
  refine Fin.ext ?_
  show (if (relLane i j).val < 257 then 512 else if (relLane i j).val < 640 then 768 - (relLane i j).val else 512)
    = min (i.val % 64 + 768 - k.val) 512
  rw [hL]
  split_ifs <;> omega

variable (X : Qkv) (T : Rel) (b : Fin 4) (p : Fin 8) (e : Fin 2)
  (q k : FVec Ideal S1x4096x128 .bf16) (B : Fin 256 → Fin 640 → EReal)
  (hX : ∀ (b : Fin 4) (n : Fin 4096) (l : Fin 3072), l.val < 2048 → ∃ a : ℝ, X (ix3 b n l) = (a : EReal))
  (hT : ∀ (h : Fin 16) (w : Fin 513), ∃ a : ℝ, T (ix3 0 h w) = (a : EReal))
  (hq : ∀ n (l : Fin 128), q (ix3 0 n l) = X (ix3 b n ⟨p.val * 128 + l.val, by omega⟩) * qfac)
  (hk : ∀ n (l : Fin 128), k (ix3 0 n l) = X (ix3 b n ⟨1024 + (p.val * 128 + l.val), by omega⟩))
  (hB : ∀ (i : Fin 128) (j : Fin 640), B ⟨e.val * 128 + i.val, by omega⟩ j
    = if i.val / 64 ≤ j.val / 64 ∧ j.val / 64 ≤ i.val / 64 + 8 then
        T (ix3 0 ⟨p.val * 2 + e.val, by omega⟩ (relCol (relLane i j))) * (((Real.log 2)⁻¹ : ℝ) : EReal) else ⊥)

include hB in
/-- Outside the band the kernel's score is −∞. -/
theorem kScore_out (g : Fin 32) (i : Fin 128) (j : Fin 640)
    (hj : j.val < i.val / 64 * 64 ∨ i.val / 64 * 64 + 576 ≤ j.val) : kScore q k B g e i j = ⊥ := by
  unfold kScore
  split
  · rw [hB, if_neg (by omega), EReal.add_bot]
  · rfl

include hX hT hq hk hB in
/-- In the band the kernel's score is log₂ e times the reference's. -/
theorem kScore_in (g : Fin 32) (i : Fin 128) (j : Fin 640) (n : Fin 576) (hj : j.val = i.val / 64 * 64 + n.val) :
    kScore q k B g e i j = (((Real.log 2)⁻¹ : ℝ) : EReal)
      * score X T b ⟨p.val * 2 + e.val, by omega⟩ ⟨2 * g.val + i.val / 64, by omega⟩ ⟨i.val % 64, by omega⟩ n := by
  unfold kScore score
  by_cases hn : 512 ≤ 64 * (2 * g.val + i.val / 64) + n.val
  · rw [if_pos (by omega), dif_pos hn, half_sum e _ (fun l hl => by rw [if_neg hl, zero_mul]), hB, if_pos (by omega),
      relCol_val i j n hj]
    rw [← scale_score _ _ _ (fun d => hX _ _ _ (by show (p.val * 2 + e.val) * 64 + d.val < 2048; omega)) (fun d => hX _ _ _ (by show 1024 + ((p.val * 2 + e.val) * 64 + d.val) < 2048; omega)) (hT _ _)]
    refine congrArg (· + _) (Finset.sum_congr rfl fun d _ => ?_)
    have hd : (64 * e.val + d.val) / 64 = e.val := by omega
    rw [if_pos hd, hq]
    unfold kpad
    rw [dif_pos (by show 512 ≤ 128 * g.val + j.val; omega), hk]
    refine congrArg₂ (· * ·) (congrArg (· * qfac) (congrArg X (congrArg₂ (ix3 b) (Fin.ext ?_) (Fin.ext ?_)))) (congrArg X (congrArg₂ (ix3 b) (Fin.ext ?_) (Fin.ext ?_)))
    · show 128 * g.val + i.val = 64 * (2 * g.val + i.val / 64) + i.val % 64; omega
    · show p.val * 128 + (64 * e.val + d.val) = (p.val * 2 + e.val) * 64 + d.val; omega
    · show 128 * g.val + j.val - 512 = 64 * (2 * g.val + i.val / 64) + n.val - 512; omega
    · show 1024 + (p.val * 128 + (64 * e.val + d.val)) = 1024 + ((p.val * 2 + e.val) * 64 + d.val); omega
  · rw [if_neg (by omega), dif_neg hn, EReal.coe_mul_bot_of_pos (inv_pos.mpr (Real.log_pos (by norm_num)))]

include hX hT in
/-- A score is never +∞; it is real from the first key on. -/
theorem score_real (h : Fin 16) (j q : Fin 64) (n : Fin 576) :
    (512 ≤ 64 * j.val + n.val → ∃ a : ℝ, score X T b h j q n = (a : EReal)) ∧ score X T b h j q n ≠ ⊤ := by
  have key : 512 ≤ 64 * j.val + n.val → ∃ a : ℝ, score X T b h j q n = (a : EReal) := by
    intro hn
    unfold score
    rw [dif_pos hn]
    have h1 : ∀ d : Fin 64, ∃ a : ℝ, X (ix3 b ⟨64 * j.val + q.val, by omega⟩ ⟨h.val * 64 + d.val, by omega⟩) = (a : EReal) :=
      fun d => hX _ _ _ (by show h.val * 64 + d.val < 2048; omega)
    have h2 : ∀ d : Fin 64, ∃ a : ℝ, X (ix3 b ⟨64 * j.val + n.val - 512, by omega⟩ ⟨1024 + (h.val * 64 + d.val), by omega⟩) = (a : EReal) :=
      fun d => hX _ _ _ (by show 1024 + (h.val * 64 + d.val) < 2048; omega)
    choose a ha using h1
    choose c hc using h2
    obtain ⟨r, hr⟩ := hT h ⟨min (q.val + 768 - n.val) 512, by omega⟩
    simp only [ha, hc, hr, ← EReal.coe_mul, coe_sum, ← EReal.coe_add]
    exact ⟨_, rfl⟩
  refine ⟨key, ?_⟩
  by_cases hn : 512 ≤ 64 * j.val + n.val
  · obtain ⟨a, ha⟩ := key hn
    rw [ha]
    exact EReal.coe_ne_top a
  · unfold score
    rw [dif_neg hn]
    exact bot_ne_top

end Cert.Attn

end
-- ==== Proof.Attend.lean ====
/- The kernel's attention output at an index is the reference's. -/
module

public import proofs.«01_k».proof.Proof.Scores

@[expose] public section

set_option maxRecDepth 16384

noncomputable section

namespace Cert.Attn

open Idealize.ShloMosaic Cert.KernelIdeal Cert.KernelIdeal.Gen Idealize.ShloMosaic.TcCoe

/-- THE BAND: a row's output in the kernel, off the given arrays, is the softmax-weighted sum of the reference. -/
theorem kAttn_ref (X : Qkv) (T : Rel) (b : Fin 4) (p : Fin 8)
    (q k v : FVec Ideal S1x4096x128 .bf16) (B : Fin 256 → Fin 640 → EReal)
    (hX : ∀ (b : Fin 4) (n : Fin 4096) (l : Fin 3072), l.val < 2048 → ∃ a : ℝ, X (ix3 b n l) = (a : EReal))
    (hT : ∀ (h : Fin 16) (w : Fin 513), ∃ a : ℝ, T (ix3 0 h w) = (a : EReal))
    (hq : ∀ n (l : Fin 128), q (ix3 0 n l) = X (ix3 b n ⟨p.val * 128 + l.val, by omega⟩) * qfac)
    (hk : ∀ n (l : Fin 128), k (ix3 0 n l) = X (ix3 b n ⟨1024 + (p.val * 128 + l.val), by omega⟩))
    (hv : ∀ n (l : Fin 128), v (ix3 0 n l) = X (ix3 b n ⟨2048 + (p.val * 128 + l.val), by omega⟩))
    (hB : ∀ (e : Fin 2) (i : Fin 128) (j : Fin 640), B ⟨e.val * 128 + i.val, by omega⟩ j
      = if i.val / 64 ≤ j.val / 64 ∧ j.val / 64 ≤ i.val / 64 + 8 then
          T (ix3 0 ⟨p.val * 2 + e.val, by omega⟩ (relCol (relLane i j))) * (((Real.log 2)⁻¹ : ℝ) : EReal) else ⊥)
    (g : Fin 32) (i l : Fin 128) (h : Fin 16) (d c r : Fin 64) (hh : h.val = p.val * 2 + l.val / 64) (hd : d.val = l.val % 64)
    (hc : c.val = 2 * g.val + i.val / 64) (hr : r.val = i.val % 64) :
    kAttn q k v B g i l = ∑ n : Fin 576, value X b h d c n
      * Ideal.div (Ideal.exp (score X T b h c r n - rowMax (score X T b h c r)))
          (∑ n', Ideal.exp (score X T b h c r n' - rowMax (score X T b h c r))) := by
  obtain ⟨h, hlt⟩ := h
  obtain ⟨c, clt⟩ := c
  obtain ⟨r, rlt⟩ := r
  change h = p.val * 2 + l.val / 64 at hh
  change c = 2 * g.val + i.val / 64 at hc
  change r = i.val % 64 at hr
  subst hh hc hr
  unfold kAttn
  refine softmax_eq (i.val / 64 * 64) (by omega) _ _ _ _ _ (fun n => (score_real X T b hX hT _ _ _ n).2) ⟨⟨512, by omega⟩, ?_⟩
    (fun n => kScore_in X T b p _ q k B hX hT hq hk (hB _) g i _ n rfl) (fun j hj => kScore_out T p _ q k B (hB _) g i j hj) (fun n => ?_) (fun j => ?_)
  · obtain ⟨a, ha⟩ := (score_real X T b hX hT ⟨p.val * 2 + l.val / 64, hlt⟩ ⟨2 * g.val + i.val / 64, clt⟩ ⟨i.val % 64, rlt⟩
      ⟨512, by omega⟩).1 (by show 512 ≤ 64 * (2 * g.val + i.val / 64) + 512; omega)
    rw [ha]
    exact EReal.coe_ne_bot a
  · by_cases hn : 512 ≤ 64 * (2 * g.val + i.val / 64) + n.val
    · left
      unfold vpad value
      rw [dif_pos hn, dif_pos ⟨by show 512 ≤ 128 * g.val + (i.val / 64 * 64 + n.val); omega, rfl⟩, hv]
      refine congrArg X (congrArg₂ (ix3 b) (Fin.ext ?_) (Fin.ext ?_))
      · show 128 * g.val + (i.val / 64 * 64 + n.val) - 512 = 64 * (2 * g.val + i.val / 64) + n.val - 512; omega
      · show 2048 + (p.val * 128 + l.val) = 2048 + ((p.val * 2 + l.val / 64) * 64 + d.val); omega
    · right
      unfold score
      rw [dif_neg hn]
  · unfold vpad
    rw [dif_neg ?_]
    rintro ⟨_, h2⟩
    change (l.val + 64) % 128 / 64 = l.val / 64 at h2
    omega

variable (m : (ℓ : Loc nD τ sig) → Buf (Elt Ideal) ℓ)

/-- The bias scratch of the run of head pair `p`, off the table of biases. -/
theorem bias_scratch (c : Dev nD) (p : Fin 8) (e : Fin 2) (i : Fin 128) (j : Fin 640) :
    biasAt m c (4 * p.val) (pt p 0).isLt ⟨e.val * 128 + i.val, by omega⟩ j
      = if i.val / 64 ≤ j.val / 64 ∧ j.val / 64 ≤ i.val / 64 + 8 then
          Tk m c (ix3 0 ⟨p.val * 2 + e.val, by omega⟩ (relCol (relLane i j))) * (((Real.log 2)⁻¹ : ℝ) : EReal) else ⊥ := by
  refine (biasA m c (pt p 0) (by rw [pt_mod]; rfl) _ e i j rfl rfl).trans ?_
  refine if_congr Iff.rfl (congrArg (· * _) ?_) rfl
  exact (Rb_arr m c p 0 e (relLane i j)).trans (Rp_val m c p e (relLane i j))

/-- The kernel's first result is the reference's, at every index, of finite queries, keys and biases. -/
theorem G8_val (c : Dev nD) (b : Fin 4) (t : Fin 4096) (i : Fin 1024)
    (hX : ∀ (b : Fin 4) (n : Fin 4096) (l : Fin 3072), l.val < 2048 → ∃ a : ℝ, Xk m c (ix3 b n l) = (a : EReal))
    (hT : ∀ (h : Fin 16) (w : Fin 513), ∃ a : ℝ, Tk m c (ix3 0 h w) = (a : EReal)) :
    Value.G8 m c (ix3 b t i) = Cert.ReferenceIdeal.Step.R_main_v33 (states (Xk m c) (Tk m c) 64) (ix3 b t i) := by
  rw [ref_attn]
  have hp : Value.pt8Of (ix3 b t i) = (pt ⟨i.val / 128, by omega⟩ b).val := by
    show 1 * (b.val / 1 - 0) + 4 * (t.val / 4096 - 0) + 4 * (i.val / 128 - 0) = 4 * (i.val / 128) + b.val
    omega
  have key : ∀ (P : Fin 8) (n : ℕ) (h : n < cfg0.N), n = (pt P b).val → ∀ y,
      (Pipeline.accAt (fun n h => Value.stAt0 m c n h Value.junk0) (Value.stAt0 m c) 0 n ((Nat.zero_add n).symm ▸ h)).1 y
        = kAt (Qb m c P b) (Kb m c P b) (Vb m c P b) (biasAt m c (4 * P.val) (pt P 0).isLt) y := by
    intro P n h e y
    subst e
    rw [← Value.outsAt0_sweep m c _ h]
    exact out_val m c P.val b.val b.isLt (pt P b) rfl y
  unfold Value.G8
  rw [dif_pos (hp ▸ (pt ⟨i.val / 128, by omega⟩ b).isLt)]
  refine (key ⟨i.val / 128, by omega⟩ _ (hp ▸ (pt ⟨i.val / 128, by omega⟩ b).isLt) hp _).trans ?_
  unfold kAt
  exact kAttn_ref (Xk m c) (Tk m c) b ⟨i.val / 128, by omega⟩ _ _ _ _ hX hT (Qb_val m c _ b) (Kb_val m c _ b) (Vb_val m c _ b)
    (bias_scratch m c ⟨i.val / 128, by omega⟩) _ _ _ _ _ _ _
    (by show i.val / 64 = i.val / 128 * 2 + i.val % 128 / 64; omega) (by show i.val % 64 = i.val % 128 % 64; omega)
    (by show t.val / 64 = 2 * (t.val % 4096 / 128) + t.val % 4096 % 128 / 64; omega) (by show t.val % 64 = t.val % 4096 % 128 % 64; omega)

end Cert.Attn

end
-- ==== Proof.Casts.lean ====
/- The weights' blocks: the other results of the call, the given weights in the narrow format. -/
module

public import proofs.«01_k».proof.Proof.Host
public import proofs.«01_k».proof.Proof.Gen.ReferenceIdeal.Step

@[expose] public section

set_option maxRecDepth 16384

noncomputable section

namespace Cert.Attn

open Idealize.ShloMosaic Cert.KernelIdeal Cert.KernelIdeal.Gen Idealize.ShloMosaic.TcCoe

variable (m : (ℓ : Loc nD τ sig) → Buf (Elt Ideal) ℓ)

/-- The block of argument 2 that a point is given. -/
theorem idx4 : ∀ t : Fin cfg0.N, win0_4.index t = ![0, t.val, 0] := by decide +kernel

/-- A point leaves in result 1 the block of argument 2 it is given. -/
theorem cast9 (c : Dev nD) (t : Fin cfg0.N) (y : S1x32x4112.Idx) :
    (outsAt0 m c t.val t.isLt).2.1 y = (iblk m c 4 t : S1x32x4112.Idx → EReal) y := by
  by_cases h : t.val % 4 = 0
  · rw [Gen.outsAt0_A m c t h]
    frame_open
    frame_out
    unfold k0_pay8
    idx_vars y
    pointwise
  · rw [Gen.outsAt0_B m c t h]
    frame_open
    frame_out
    unfold k0_pay8
    idx_vars y
    pointwise

/-- A point's block of argument 2, off the argument. -/
theorem blk4_val (c : Dev nD) (t : Fin cfg0.N) (r : Fin 32) (w : Fin 4112) (n : Fin 1024) (hn : n.val = 32 * t.val + r.val) :
    (iblk m c 4 t : S1x32x4112.Idx → EReal) (ix3 0 r w) = (m ((c : Thread nD τ).loc main_arg2) : S1x1024x4112.Idx → EReal) (ix3 0 n w) := by
  rw [← V_main_arg2 m c]
  unfold iblk
  blk_ext [idx4 t]
  all_goals omega

/-- Result 1 at an index. -/
theorem G9_val (c : Dev nD) (n : Fin 1024) (w : Fin 4112) (s : Cert.ReferenceIdeal.Step.State Ideal) :
    Value.G9 m c (ix3 0 n w)
      = Cert.ReferenceIdeal.Step.R_main_v34 s (m ((c : Thread nD τ).loc main_arg2)) (ix3 0 n w) := by
  have hp : Value.pt9Of (ix3 0 n w) = n.val / 32 := by
    show 32 * (0 / 1 - 0) + 1 * (n.val / 32 - 0) + 1 * (w.val / 4112 - 0) = n.val / 32
    omega
  have hN : n.val / 32 < cfg0.N := by have : cfg0.N = 32 := N_0; omega
  have key : ∀ (k : ℕ) (h : k < cfg0.N), k = n.val / 32 → ∀ y,
      (Pipeline.accAt (fun n h => Value.stAt0 m c n h Value.junk0) (Value.stAt0 m c) 0 k ((Nat.zero_add k).symm ▸ h)).2.1 y
        = (iblk m c 4 ⟨n.val / 32, hN⟩ : S1x32x4112.Idx → EReal) y := by
    intro k h e y
    subst e
    rw [← Value.outsAt0_sweep m c _ h]
    exact cast9 m c ⟨n.val / 32, h⟩ y
  unfold Value.G9
  rw [dif_pos (hp ▸ hN)]
  refine (key _ (hp ▸ hN) hp _).trans ?_
  have hl : Value.loc9Of (ix3 0 n w) = ix3 0 (⟨n.val % 32, Nat.mod_lt _ (by decide)⟩ : Fin 32) w := by
    funext a
    match a with
    | ⟨0, _⟩ => rfl
    | ⟨1, _⟩ => rfl
    | ⟨2, _⟩ => exact Fin.ext (Nat.mod_eq_of_lt w.isLt)
  rw [hl]
  refine (blk4_val m c ⟨n.val / 32, hN⟩ ⟨n.val % 32, Nat.mod_lt _ (by decide)⟩ w n (by show n.val = 32 * (n.val / 32) + n.val % 32; omega)).trans ?_
  unfold Cert.ReferenceIdeal.Step.R_main_v34
  pointwise

/-- The block of argument 3 that a point is given. -/
theorem idx5 : ∀ t : Fin cfg0.N, win0_5.index t = ![0, t.val, 0] := by decide +kernel

/-- A point leaves in result 2 the block of argument 3 it is given. -/
theorem cast10 (c : Dev nD) (t : Fin cfg0.N) (y : S1x32x1024.Idx) :
    (outsAt0 m c t.val t.isLt).2.2.1 y = (iblk m c 5 t : S1x32x1024.Idx → EReal) y := by
  by_cases h : t.val % 4 = 0
  · rw [Gen.outsAt0_A m c t h]
    frame_open
    frame_out
    unfold k0_pay9
    idx_vars y
    pointwise
  · rw [Gen.outsAt0_B m c t h]
    frame_open
    frame_out
    unfold k0_pay9
    idx_vars y
    pointwise

/-- A point's block of argument 3, off the argument. -/
theorem blk5_val (c : Dev nD) (t : Fin cfg0.N) (r : Fin 32) (w : Fin 1024) (n : Fin 1024) (hn : n.val = 32 * t.val + r.val) :
    (iblk m c 5 t : S1x32x1024.Idx → EReal) (ix3 0 r w) = (m ((c : Thread nD τ).loc main_arg3) : S1x1024x1024.Idx → EReal) (ix3 0 n w) := by
  rw [← V_main_arg3 m c]
  unfold iblk
  blk_ext [idx5 t]
  all_goals omega

/-- Result 2 at an index. -/
theorem G10_val (c : Dev nD) (n : Fin 1024) (w : Fin 1024) (s : Cert.ReferenceIdeal.Step.State Ideal) :
    Value.G10 m c (ix3 0 n w)
      = Cert.ReferenceIdeal.Step.R_main_v35 s (m ((c : Thread nD τ).loc main_arg3)) (ix3 0 n w) := by
  have hp : Value.pt10Of (ix3 0 n w) = n.val / 32 := by
    show 32 * (0 / 1 - 0) + 1 * (n.val / 32 - 0) + 1 * (w.val / 1024 - 0) = n.val / 32
    omega
  have hN : n.val / 32 < cfg0.N := by have : cfg0.N = 32 := N_0; omega
  have key : ∀ (k : ℕ) (h : k < cfg0.N), k = n.val / 32 → ∀ y,
      (Pipeline.accAt (fun n h => Value.stAt0 m c n h Value.junk0) (Value.stAt0 m c) 0 k ((Nat.zero_add k).symm ▸ h)).2.2.1 y
        = (iblk m c 5 ⟨n.val / 32, hN⟩ : S1x32x1024.Idx → EReal) y := by
    intro k h e y
    subst e
    rw [← Value.outsAt0_sweep m c _ h]
    exact cast10 m c ⟨n.val / 32, h⟩ y
  unfold Value.G10
  rw [dif_pos (hp ▸ hN)]
  refine (key _ (hp ▸ hN) hp _).trans ?_
  have hl : Value.loc10Of (ix3 0 n w) = ix3 0 (⟨n.val % 32, Nat.mod_lt _ (by decide)⟩ : Fin 32) w := by
    funext a
    match a with
    | ⟨0, _⟩ => rfl
    | ⟨1, _⟩ => rfl
    | ⟨2, _⟩ => exact Fin.ext (Nat.mod_eq_of_lt w.isLt)
  rw [hl]
  refine (blk5_val m c ⟨n.val / 32, hN⟩ ⟨n.val % 32, Nat.mod_lt _ (by decide)⟩ w n (by show n.val = 32 * (n.val / 32) + n.val % 32; omega)).trans ?_
  unfold Cert.ReferenceIdeal.Step.R_main_v35
  pointwise

/-- The block of argument 4 that a point is given. -/
theorem idx6 : ∀ t : Fin cfg0.N, win0_6.index t = ![1, t.val, 0] := by decide +kernel

/-- A point leaves in result 3 the block of argument 4 it is given. -/
theorem cast11 (c : Dev nD) (t : Fin cfg0.N) (y : S1x32x4096.Idx) :
    (outsAt0 m c t.val t.isLt).2.2.2.1 y = (iblk m c 6 t : S1x32x4096.Idx → EReal) y := by
  by_cases h : t.val % 4 = 0
  · rw [Gen.outsAt0_A m c t h]
    frame_open
    frame_out
    unfold k0_pay10
    idx_vars y
    pointwise
  · rw [Gen.outsAt0_B m c t h]
    frame_open
    frame_out
    unfold k0_pay10
    idx_vars y
    pointwise

/-- A point's block of argument 4, off the argument. -/
theorem blk6_val (c : Dev nD) (t : Fin cfg0.N) (r : Fin 32) (w : Fin 4096) (n : Fin 1024) (hn : n.val = 32 * t.val + r.val) :
    (iblk m c 6 t : S1x32x4096.Idx → EReal) (ix3 0 r w) = (m ((c : Thread nD τ).loc main_arg4) : S2x1024x4096.Idx → EReal) (ix3 1 n w) := by
  rw [← V_main_arg4 m c]
  unfold iblk
  blk_ext [idx6 t]
  all_goals omega

/-- Result 3 at an index. -/
theorem G11_val (c : Dev nD) (n : Fin 1024) (w : Fin 4096) (s : Cert.ReferenceIdeal.Step.State Ideal) :
    Value.G11 m c (ix3 0 n w)
      = Cert.ReferenceIdeal.Step.R_main_v37 s (m ((c : Thread nD τ).loc main_arg4)) (ix3 0 n w) := by
  have hp : Value.pt11Of (ix3 0 n w) = n.val / 32 := by
    show 32 * (0 / 1 - 0) + 1 * (n.val / 32 - 0) + 1 * (w.val / 4096 - 0) = n.val / 32
    omega
  have hN : n.val / 32 < cfg0.N := by have : cfg0.N = 32 := N_0; omega
  have key : ∀ (k : ℕ) (h : k < cfg0.N), k = n.val / 32 → ∀ y,
      (Pipeline.accAt (fun n h => Value.stAt0 m c n h Value.junk0) (Value.stAt0 m c) 0 k ((Nat.zero_add k).symm ▸ h)).2.2.2.1 y
        = (iblk m c 6 ⟨n.val / 32, hN⟩ : S1x32x4096.Idx → EReal) y := by
    intro k h e y
    subst e
    rw [← Value.outsAt0_sweep m c _ h]
    exact cast11 m c ⟨n.val / 32, h⟩ y
  unfold Value.G11
  rw [dif_pos (hp ▸ hN)]
  refine (key _ (hp ▸ hN) hp _).trans ?_
  have hl : Value.loc11Of (ix3 0 n w) = ix3 0 (⟨n.val % 32, Nat.mod_lt _ (by decide)⟩ : Fin 32) w := by
    funext a
    match a with
    | ⟨0, _⟩ => rfl
    | ⟨1, _⟩ => rfl
    | ⟨2, _⟩ => exact Fin.ext (Nat.mod_eq_of_lt w.isLt)
  rw [hl]
  refine (blk6_val m c ⟨n.val / 32, hN⟩ ⟨n.val % 32, Nat.mod_lt _ (by decide)⟩ w n (by show n.val = 32 * (n.val / 32) + n.val % 32; omega)).trans ?_
  unfold Cert.ReferenceIdeal.Step.R_main_v37
  pointwise

/-- The block of argument 5 that a point is given. -/
theorem idx7 : ∀ t : Fin cfg0.N, win0_7.index t = ![1, t.val, 0] := by decide +kernel

/-- A point leaves in result 4 the block of argument 5 it is given. -/
theorem cast12 (c : Dev nD) (t : Fin cfg0.N) (y : S1x128x1024.Idx) :
    (outsAt0 m c t.val t.isLt).2.2.2.2.1 y = (iblk m c 7 t : S1x128x1024.Idx → EReal) y := by
  by_cases h : t.val % 4 = 0
  · rw [Gen.outsAt0_A m c t h]
    frame_open
    frame_out
    unfold k0_pay11
    idx_vars y
    pointwise
  · rw [Gen.outsAt0_B m c t h]
    frame_open
    frame_out
    unfold k0_pay11
    idx_vars y
    pointwise

/-- A point's block of argument 5, off the argument. -/
theorem blk7_val (c : Dev nD) (t : Fin cfg0.N) (r : Fin 128) (w : Fin 1024) (n : Fin 4096) (hn : n.val = 128 * t.val + r.val) :
    (iblk m c 7 t : S1x128x1024.Idx → EReal) (ix3 0 r w) = (m ((c : Thread nD τ).loc main_arg5) : S2x4096x1024.Idx → EReal) (ix3 1 n w) := by
  rw [← V_main_arg5 m c]
  unfold iblk
  blk_ext [idx7 t]
  all_goals omega

/-- Result 4 at an index. -/
theorem G12_val (c : Dev nD) (n : Fin 4096) (w : Fin 1024) (s : Cert.ReferenceIdeal.Step.State Ideal) :
    Value.G12 m c (ix3 0 n w)
      = Cert.ReferenceIdeal.Step.R_main_v39 s (m ((c : Thread nD τ).loc main_arg5)) (ix3 0 n w) := by
  have hp : Value.pt12Of (ix3 0 n w) = n.val / 128 := by
    show 32 * (0 / 1 - 0) + 1 * (n.val / 128 - 0) + 1 * (w.val / 1024 - 0) = n.val / 128
    omega
  have hN : n.val / 128 < cfg0.N := by have : cfg0.N = 32 := N_0; omega
  have key : ∀ (k : ℕ) (h : k < cfg0.N), k = n.val / 128 → ∀ y,
      (Pipeline.accAt (fun n h => Value.stAt0 m c n h Value.junk0) (Value.stAt0 m c) 0 k ((Nat.zero_add k).symm ▸ h)).2.2.2.2.1 y
        = (iblk m c 7 ⟨n.val / 128, hN⟩ : S1x128x1024.Idx → EReal) y := by
    intro k h e y
    subst e
    rw [← Value.outsAt0_sweep m c _ h]
    exact cast12 m c ⟨n.val / 128, h⟩ y
  unfold Value.G12
  rw [dif_pos (hp ▸ hN)]
  refine (key _ (hp ▸ hN) hp _).trans ?_
  have hl : Value.loc12Of (ix3 0 n w) = ix3 0 (⟨n.val % 128, Nat.mod_lt _ (by decide)⟩ : Fin 128) w := by
    funext a
    match a with
    | ⟨0, _⟩ => rfl
    | ⟨1, _⟩ => rfl
    | ⟨2, _⟩ => exact Fin.ext (Nat.mod_eq_of_lt w.isLt)
  rw [hl]
  refine (blk7_val m c ⟨n.val / 128, hN⟩ ⟨n.val % 128, Nat.mod_lt _ (by decide)⟩ w n (by show n.val = 128 * (n.val / 128) + n.val % 128; omega)).trans ?_
  unfold Cert.ReferenceIdeal.Step.R_main_v39
  pointwise

end Cert.Attn

end
-- ==== Proof.Finite.lean ====
/- The precondition at an index: the queries, the keys and the biases are real. -/
module

public import proofs.«01_k».proof.Proof.Consts
public import proofs.«01_k».proof.Pre_finite_scores
public import proofs.«01_k».proof.Proof.Gen.Pre_finite_scores
public import Idealize.ShloMosaic.Lib.ReduceAll

@[expose] public section

set_option maxRecDepth 16384

noncomputable section

namespace Cert.Attn

open Idealize.ShloMosaic Cert.Pre_finite_scores

/-- What lies strictly below +∞ in absolute value is real. -/
theorem real_of_abs (x : EReal) (h : BitVec.ofBool (decide (FloatOps.absf (F := Ideal) (φ := .f32) x < Ideal.ofBits FTy.f32 2139095040#32)) = 1#1) :
    ∃ a : ℝ, x = (a : EReal) := by
  rw [ofBits_inf, Ideal.absf_def] at h
  induction x using EReal.rec with
  | bot => simp at h
  | top => simp at h
  | coe r => exact ⟨r, rfl⟩

/-- The two conjuncts of the precondition. -/
theorem finite_of_pre (X : FVec Ideal S4x4096x3072 .f32) (T : FVec Ideal S1x16x513 .f32) (a2 a3 a4 a5)
    (h : Cert.Pre_finite_scores.fn (F := Ideal) X T a2 a3 a4 a5 = fun _ => 1#1) :
    (∀ (b : Fin 4) (n : Fin 4096) (l : Fin 3072), l.val < 2048 → ∃ a : ℝ, X (ix3 b n l) = (a : EReal))
      ∧ ∀ (h : Fin 16) (w : Fin 513), ∃ a : ℝ, T (ix3 0 h w) = (a : EReal) := by
  have h0 := congrFun h ix0
  unfold Cert.Pre_finite_scores.fn at h0
  dsimp only at h0
  have hs : ∀ a b : BitVec 1, IntOp.andi a b = 1#1 → a = 1#1 ∧ b = 1#1 := by decide
  obtain ⟨hx, ht⟩ := hs _ _ h0
  have : Subsingleton S_.Idx := ⟨fun a b => funext fun i => i.elim0⟩
  refine ⟨fun b n l hl => ?_, fun hd w => ?_⟩
  · have e := Host.reduce_andi_all _ _ _ _ _ hx (ix3 b n (⟨l.val, hl⟩ : Fin 2048))
    revert e
    pointwise
    exact real_of_abs _
  · have e := Host.reduce_andi_all _ _ _ _ _ ht (ix3 0 hd w)
    revert e
    pointwise
    exact real_of_abs _

end Cert.Attn

end
-- ==== Proof.Algebraic.lean ====
/- The value claim: the kernel's five results are the reference's. -/
module

public import proofs.«01_k».proof.Defs
public import proofs.«01_k».proof.Proof.Attend
public import proofs.«01_k».proof.Proof.Casts
public import proofs.«01_k».proof.Proof.Finite
public import proofs.«01_k».proof.Proof.RefRun

@[expose] public section

set_option maxRecDepth 16384

noncomputable section

namespace Cert.Attn

open Idealize.ShloMosaic Idealize.ShloMosaic.TcCoe

/-- The reference's states, of its memory. -/
def refStates (m' : (ℓ : Loc Cert.ReferenceIdeal.nD Cert.ReferenceIdeal.τ Cert.ReferenceIdeal.sig) → Buf (Elt Ideal) ℓ)
    (c : Dev Cert.ReferenceIdeal.nD) : ℕ → Cert.ReferenceIdeal.Step.State Ideal :=
  states (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))

/-- The kernel and the reference end with equal results. -/
theorem algebraic : Cert.algebraic_KernelIdeal_ReferenceIdeal_pre_finite_scores := by
  intro m g m' g' hpre hagree
  refine ⟨_, _, _, _, _, Cert.KernelIdeal.Value.run (F := Ideal) m g, ?_⟩
  refine (θ_run Cert.ReferenceIdeal.defs _ _).mono (fun _ h c => ?_)
    (Cert.ReferenceIdeal.StepRun.run_iter m' g' (refStates m') (fun _ => rfl) (fun _ _ => rfl))
  obtain ⟨r0, r1, r2, r3, r4, rest⟩ := h c
  obtain ⟨a0, a1, a2, a3, a4, a5⟩ := hagree c
  obtain ⟨hX, hT⟩ := finite_of_pre _ _ _ _ _ _ (hpre c)
  refine ⟨r0.trans (Eq.symm ?_), r1.trans (Eq.symm ?_), r2.trans (Eq.symm ?_), r3.trans (Eq.symm ?_), r4.trans (Eq.symm ?_), rest⟩
  · unfold refStates
    rw [a0, a1]
    refine funext fun i => ?_
    idx_vars i
    exact G8_val m c _ _ _ hX hT
  · rw [a2]
    refine funext fun i => ?_
    idx_vars i
    obtain rfl : i0 = 0 := Subsingleton.elim _ _
    exact G9_val m c _ _ _
  · rw [a3]
    refine funext fun i => ?_
    idx_vars i
    obtain rfl : i0 = 0 := Subsingleton.elim _ _
    exact G10_val m c _ _ _
  · rw [a4]
    refine funext fun i => ?_
    idx_vars i
    obtain rfl : i0 = 0 := Subsingleton.elim _ _
    exact G11_val m c _ _ _
  · rw [a5]
    refine funext fun i => ?_
    idx_vars i
    obtain rfl : i0 = 0 := Subsingleton.elim _ _
    exact G12_val m c _ _ _

end Cert.Attn

end
-- ==== Proof.Mlp.lean ====
/- One row of the feed-forward block: the mixer's projection added to the stream, the squared-ReLU MLP on its RMS norm, and
   the RMS norm of the sum. -/
module

public import Idealize.ShloMosaic.PureOps.Ideal

@[expose] public section

noncomputable section

namespace Cert.Mlp

open Idealize.ShloMosaic

/-- The RMS norm of a row, with its gain. -/
def rms (x g : Fin 1024 → EReal) (j : Fin 1024) : EReal :=
  x j * Ideal.rsqrt (Ideal.div (∑ k, x k * x k) (Ideal.ofBits .f32 0x44800000#32) + Ideal.ofBits .f32 0x358637BD#32) * g j

/-- The stream's row with the mixer's projected output added. -/
def proj (x a : Fin 1024 → EReal) (wo : Fin 1024 → Fin 1024 → EReal) (j : Fin 1024) : EReal := x j + ∑ k, a k * wo k j

/-- A unit of the hidden layer: the square of the positive part. -/
def unit (h : Fin 1024 → EReal) (wu : Fin 1024 → Fin 4096 → EReal) (f : Fin 4096) : EReal :=
  max (∑ k, h k * wu k f) 0 * max (∑ k, h k * wu k f) 0

/-- A row with the MLP's output added. -/
def down (x : Fin 1024 → EReal) (u : Fin 4096 → EReal) (wd : Fin 4096 → Fin 1024 → EReal) (j : Fin 1024) : EReal :=
  x j + ∑ f, u f * wd f j

/-- The stream's row after the block. -/
def row (x a : Fin 1024 → EReal) (wo : Fin 1024 → Fin 1024 → EReal) (g : Fin 1024 → EReal)
    (wu : Fin 1024 → Fin 4096 → EReal) (wd : Fin 4096 → Fin 1024 → EReal) (j : Fin 1024) : EReal :=
  down (proj x a wo) (unit (rms (proj x a wo) g) wu) wd j

/-- Rows of equal operands are equal. -/
theorem row_congr {x x' a a' : Fin 1024 → EReal} {wo wo' : Fin 1024 → Fin 1024 → EReal} {g g' : Fin 1024 → EReal}
    {wu wu' : Fin 1024 → Fin 4096 → EReal} {wd wd' : Fin 4096 → Fin 1024 → EReal} (hx : ∀ k, x k = x' k) (ha : ∀ k, a k = a' k)
    (ho : ∀ k j, wo k j = wo' k j) (hg : ∀ k, g k = g' k) (hu : ∀ k f, wu k f = wu' k f) (hd : ∀ f j, wd f j = wd' f j) :
    row x a wo g wu wd = row x' a' wo' g' wu' wd' := by
  obtain rfl := funext hx
  obtain rfl := funext ha
  obtain rfl := funext₂ ho
  obtain rfl := funext hg
  obtain rfl := funext₂ hu
  obtain rfl := funext₂ hd
  rfl

/-- Norms of equal operands are equal. -/
theorem rms_congr {x x' g g' : Fin 1024 → EReal} (hx : ∀ k, x k = x' k) (hg : ∀ k, g k = g' k) (j : Fin 1024) :
    rms x g j = rms x' g' j := by
  obtain rfl := funext hx
  obtain rfl := funext hg
  rfl

end Cert.Mlp

end
-- ==== Proof.MlpOps.lean ====
/- The operations of one part of 256 rows of the feed-forward kernel, at an index. -/
module

public import proofs.«01_k».proof.Proof.Gen.KernelFinalIdeal.Skeleton
public import proofs.«01_k».proof.Proof.Mlp
public import Idealize.ShloMosaic.Lib.Pointwise

@[expose] public section

set_option maxRecDepth 16384

noncomputable section

namespace Cert.Mlp

open Idealize.ShloMosaic Cert.KernelFinalIdeal Cert.KernelFinalIdeal.Gen

/-- The projection's rows. -/
theorem proj_val (x : FVec Ideal S256x1024 .f32) (a : FVec Ideal S256x1024 .bf16) (wo : FVec Ideal S1x1024x1024 .bf16)
    (r : Fin 256) (j : Fin 1024) :
    k0_pay2 (F := Ideal) x a wo (ix2 r j) = proj (fun k => x (ix2 r k)) (fun k => a (ix2 r k)) (fun k j => wo (ix3 0 k j)) j := by
  unfold k0_pay2 proj
  pointwise

/-- The normed rows. -/
theorem norm_val (x : FVec Ideal S256x1024 .f32) (g : FVec Ideal S1x1024 .f32) (r : Fin 256) (j : Fin 1024) :
    k0_pay6 (F := Ideal) x g (ix2 r j) = rms (fun k => x (ix2 r k)) (fun k => g (ix2 0 k)) j := by
  unfold k0_pay6 rms
  pointwise

/-- The hidden units. -/
theorem unit_val (h : FVec Ideal S256x1024 .bf16) (w : FVec Ideal S1x1024x1024 .bf16) (r : Fin 256) (f : Fin 1024) :
    k0_pay9 (F := Ideal) h w (ix2 r f) = max (∑ k : Fin 1024, h (ix2 r k) * w (ix3 0 k f)) 0 * max (∑ k : Fin 1024, h (ix2 r k) * w (ix3 0 k f)) 0 := by
  unfold k0_pay9
  pointwise

/-- The rows with the MLP's output. -/
theorem down_val (x : FVec Ideal S256x1024 .f32) (u : FVec Ideal S256x4096 .bf16) (wd : FVec Ideal S1x4096x1024 .bf16)
    (r : Fin 256) (j : Fin 1024) :
    k0_pay31 (F := Ideal) x u wd (ix2 r j) = down (fun k => x (ix2 r k)) (fun f => u (ix2 r f)) (fun f j => wd (ix3 0 f j)) j := by
  unfold k0_pay31 down
  pointwise

/-- The last norm's rows. -/
theorem last_val (x : FVec Ideal S256x1024 .f32) (g : FVec Ideal S1x1024 .f32) (r : Fin 256) (j : Fin 1024) :
    k0_pay32 (F := Ideal) x g (ix2 r j) = rms (fun k => x (ix2 r k)) (fun k => g (ix2 0 k)) j := by
  unfold k0_pay32 rms
  pointwise

end Cert.Mlp

end
-- ==== Proof.FinalTile.lean ====
/- What a grid point of the last feed-forward call leaves in its output block, at an index: the row of the point's input blocks. -/
module

public import proofs.«01_k».proof.Proof.Gen.KernelFinalIdeal.Value
public import proofs.«01_k».proof.Proof.MlpOps
public import Idealize.ShloMosaic.Lib.Pipeline.ValueKit
public import Idealize.ShloMosaic.Lib.Pipeline.ReadBack

@[expose] public section

set_option maxRecDepth 16384

noncomputable section

namespace Cert.Mlp

open Idealize.ShloMosaic Cert.KernelFinalIdeal Cert.KernelFinalIdeal.Gen Idealize.ShloMosaic.TcCoe

/-- Row `n` of a block with the projection added. -/
def accAt (x : FVec Ideal S1024x1024 .f32) (a : FVec Ideal S1024x1024 .bf16) (wo : FVec Ideal S1x1024x1024 .bf16)
    (n : Fin 1024) : Fin 1024 → EReal :=
  proj (fun k => x (ix2 n k)) (fun k => a (ix2 n k)) (fun k j => wo (ix3 0 k j))

/-- Row `n`'s hidden units. -/
def unitAt (acc : Fin 1024 → Fin 1024 → EReal) (g : FVec Ideal S1x1024 .f32) (wu : FVec Ideal S1x1024x4096 .bf16)
    (n : Fin 1024) : Fin 4096 → EReal :=
  unit (rms (acc n) (fun k => g (ix2 0 k))) (fun k f => wu (ix3 0 k f))

/-- The 256 rows of a block from row `o` on. -/
abbrev rows (x : FVec Ideal S1024x1024 .f32) (o : ℕ) (inb : ∀ a, ![o, 0] a + ![256, 1024] a ≤ S1024x1024.size a) :
    FVec Ideal S256x1024 .f32 :=
  View.ld (Val := Elt Ideal) (e' := .f32) x (Rect.unit (s := S1024x1024) ![o, 0] ![256, 1024] inb)

/-- The same of a block of the narrow type. -/
abbrev rowsB (x : FVec Ideal S1024x1024 .bf16) (o : ℕ) (inb : ∀ a, ![o, 0] a + ![256, 1024] a ≤ S1024x1024.size a) :
    FVec Ideal S256x1024 .bf16 :=
  View.ld (Val := Elt Ideal) (e' := .bf16) x (Rect.unit (s := S1024x1024) ![o, 0] ![256, 1024] inb)

/-- The 1024 columns of the weights from column `o` on. -/
abbrev cols (w : FVec Ideal S1x1024x4096 .bf16) (o : ℕ) (inb : ∀ a, ![0, 0, o] a + ![1, 1024, 1024] a ≤ S1x1024x4096.size a) :
    FVec Ideal S1x1024x1024 .bf16 :=
  View.ld (Val := Elt Ideal) (e' := .bf16) w (Rect.unit (s := S1x1024x4096) ![0, 0, o] ![1, 1024, 1024] inb)

/-- One part's projection, at an index of the part that starts at row `o`. -/
theorem acc_piece (x : FVec Ideal S1024x1024 .f32) (a : FVec Ideal S1024x1024 .bf16) (wo : FVec Ideal S1x1024x1024 .bf16)
    (o : ℕ) (inb) (i : S256x1024.Idx) (n j : Fin 1024) (hn : n.val = o + (i 0).val) (hj : j.val = (i 1).val) :
    k0_pay2 (F := Ideal) (rows x o inb)
      (rowsB a o inb) wo i = accAt x a wo n j := by
  idx_vars i
  obtain rfl : j = i1 := Fin.ext hj
  refine (proj_val _ _ _ _ _).trans ?_
  have e : ∀ k : Fin 1024, (Rect.unit (s := S1024x1024) ![o, 0] ![256, 1024] inb).idx (ix2 i0 k) = ix2 n k := fun k =>
    funext fun b => Fin.ext ((Rect.idx_unit_val _ _ _ _ _).trans (by
      match b with
      | ⟨0, _⟩ => exact hn.symm
      | ⟨1, _⟩ => exact Nat.zero_add _))
  have ex : ∀ k : Fin 1024, rows x o inb (ix2 i0 k) = x (ix2 n k) :=
    fun k => congrArg x (e k)
  have ea : ∀ k : Fin 1024, rowsB a o inb (ix2 i0 k) = a (ix2 n k) :=
    fun k => congrArg a (e k)
  unfold accAt
  simp only [ex, ea]

/-- The four stored parts. -/
abbrev accPieces (x : FVec Ideal S1024x1024 .f32) (a : FVec Ideal S1024x1024 .bf16) (wo : FVec Ideal S1x1024x1024 .bf16) :
    List (View.Piece (Elt Ideal) S1024x1024 .f32) :=
  [⟨Rect.unit ![768, 0] ![256, 1024] inb_S1024x1024_S256x1024_768_0,
      k0_pay5 (F := Ideal) (rows x 768 inb_S1024x1024_S256x1024_768_0)
        (rowsB a 768 inb_S1024x1024_S256x1024_768_0) wo⟩,
   ⟨Rect.unit ![512, 0] ![256, 1024] inb_S1024x1024_S256x1024_512_0,
      k0_pay4 (F := Ideal) (rows x 512 inb_S1024x1024_S256x1024_512_0)
        (rowsB a 512 inb_S1024x1024_S256x1024_512_0) wo⟩,
   ⟨Rect.unit ![256, 0] ![256, 1024] inb_S1024x1024_S256x1024_256_0,
      k0_pay3 (F := Ideal) (rows x 256 inb_S1024x1024_S256x1024_256_0)
        (rowsB a 256 inb_S1024x1024_S256x1024_256_0) wo⟩,
   ⟨Rect.unit ![0, 0] ![256, 1024] inb_S1024x1024_S256x1024_0_0,
      k0_pay2 (F := Ideal) (rows x 0 inb_S1024x1024_S256x1024_0_0)
        (rowsB a 0 inb_S1024x1024_S256x1024_0_0) wo⟩]

/-- The four stored parts, read back at an index. -/
theorem acc_at (x : FVec Ideal S1024x1024 .f32) (a : FVec Ideal S1024x1024 .bf16) (wo : FVec Ideal S1x1024x1024 .bf16)
    (z : S1024x1024.Idx) (n j : Fin 1024) (hn : (z 0).val = n.val) (hj : (z 1).val = j.val) :
    View.canon (accPieces x a wo) z = accAt x a wo n j := by
  canon_tiles y h
  · exact acc_piece x a wo 768 _ y n j (by omega) (by omega)
  · exact acc_piece x a wo 512 _ y n j (by omega) (by omega)
  · exact acc_piece x a wo 256 _ y n j (by omega) (by omega)
  · exact acc_piece x a wo 0 _ y n j (by omega) (by omega)

/-- A store of part `k` of the rows doesn't change the rows after it. -/
theorem skip (o : ℕ) (inb) (v : FVec Ideal S256x1024 .f32) (L : List (View.Piece (Elt Ideal) S1024x1024 .f32))
    (z : S1024x1024.Idx) (hz : o + 256 ≤ (z 0).val) :
    View.canon (⟨Rect.unit (s := S1024x1024) ![o, 0] ![256, 1024] inb, v⟩ :: L) z = View.canon L z :=
  View.canon_cons_of_not_mem _ _ (fun hm => by
    obtain ⟨y, hy⟩ := (Rect.unit (s := S1024x1024) ![o, 0] ![256, 1024] inb).exists_idx_of_mem hm
    have h0 := (congrArg (fun i => (i 0).val) hy).symm
    have h1 : (z 0).val = o + (y 0).val := h0.trans (Rect.idx_unit_val _ _ _ _ _)
    have h2 : (y 0).val < 256 := (y 0).isLt
    omega)

/-- One stored tile of hidden units, at an index. -/
theorem unit_piece (acc : Fin 1024 → Fin 1024 → EReal) (A : FVec Ideal S256x1024 .f32) (g : FVec Ideal S1x1024 .f32)
    (wu : FVec Ideal S1x1024x4096 .bf16) (o : ℕ) (inb) (i : S256x1024.Idx) (n : Fin 1024) (f : Fin 4096)
    (hA : ∀ k : Fin 1024, A (ix2 (i 0) k) = acc n k) (hf : f.val = o + (i 1).val) :
    k0_pay9 (F := Ideal) (k0_pay6 A g) (cols wu o inb) i
      = unitAt acc g wu n f := by
  idx_vars i
  refine (unit_val _ _ _ _).trans ?_
  have e : ∀ k : Fin 1024, (Rect.unit (s := S1x1024x4096) ![0, 0, o] ![1, 1024, 1024] inb).idx (ix3 0 k i1) = ix3 0 k f := fun k =>
    funext fun b => Fin.ext ((Rect.idx_unit_val _ _ _ _ _).trans (by
      match b with
      | ⟨0, _⟩ => rfl
      | ⟨1, _⟩ => exact Nat.zero_add _
      | ⟨2, _⟩ => exact hf.symm))
  have ew : ∀ k : Fin 1024, cols wu o inb (ix3 0 k i1)
      = wu (ix3 0 k f) := fun k => congrArg wu (e k)
  have hA' : (fun k : Fin 1024 => A (ix2 i0 k)) = acc n := funext hA
  unfold unitAt unit
  simp only [ew, norm_val, hA']

/-- The sixteen stored tiles of hidden units. -/
abbrev unitPieces (A0 A1 A2 A3 : FVec Ideal S256x1024 .f32) (g : FVec Ideal S1x1024 .f32) (wu : FVec Ideal S1x1024x4096 .bf16) :
    List (View.Piece (Elt Ideal) S1024x4096 .bf16) :=
  [⟨Rect.unit ![768, 3072] ![256, 1024] inb_S1024x4096_S256x1024_768_3072,
      k0_pay30 (F := Ideal) (k0_pay24 A3 g) (cols wu 3072 inb_S1x1024x4096_S1x1024x1024_0_0_3072)⟩,
   ⟨Rect.unit ![768, 2048] ![256, 1024] inb_S1024x4096_S256x1024_768_2048,
      k0_pay29 (F := Ideal) (k0_pay24 A3 g) (cols wu 2048 inb_S1x1024x4096_S1x1024x1024_0_0_2048)⟩,
   ⟨Rect.unit ![768, 1024] ![256, 1024] inb_S1024x4096_S256x1024_768_1024,
      k0_pay28 (F := Ideal) (k0_pay26 A3 g (cols wu 1024 inb_S1x1024x4096_S1x1024x1024_0_0_1024)) k0_pay27⟩,
   ⟨Rect.unit ![768, 0] ![256, 1024] inb_S1024x4096_S256x1024_768_0,
      k0_pay25 (F := Ideal) A3 g (cols wu 0 inb_S1x1024x4096_S1x1024x1024_0_0_0)⟩,
   ⟨Rect.unit ![512, 3072] ![256, 1024] inb_S1024x4096_S256x1024_512_3072,
      k0_pay23 (F := Ideal) (k0_pay21 (k0_pay17 A2 g) (cols wu 3072 inb_S1x1024x4096_S1x1024x1024_0_0_3072)) k0_pay22⟩,
   ⟨Rect.unit ![512, 2048] ![256, 1024] inb_S1024x4096_S256x1024_512_2048,
      k0_pay20 (F := Ideal) (k0_pay17 A2 g) (cols wu 2048 inb_S1x1024x4096_S1x1024x1024_0_0_2048)⟩,
   ⟨Rect.unit ![512, 1024] ![256, 1024] inb_S1024x4096_S256x1024_512_1024,
      k0_pay19 (F := Ideal) (k0_pay17 A2 g) (cols wu 1024 inb_S1x1024x4096_S1x1024x1024_0_0_1024)⟩,
   ⟨Rect.unit ![512, 0] ![256, 1024] inb_S1024x4096_S256x1024_512_0,
      k0_pay18 (F := Ideal) (k0_pay17 A2 g) (cols wu 0 inb_S1x1024x4096_S1x1024x1024_0_0_0)⟩,
   ⟨Rect.unit ![256, 3072] ![256, 1024] inb_S1024x4096_S256x1024_256_3072,
      k0_pay16 (F := Ideal) (k0_pay12 A1 g) (cols wu 3072 inb_S1x1024x4096_S1x1024x1024_0_0_3072)⟩,
   ⟨Rect.unit ![256, 2048] ![256, 1024] inb_S1024x4096_S256x1024_256_2048,
      k0_pay15 (F := Ideal) (k0_pay12 A1 g) (cols wu 2048 inb_S1x1024x4096_S1x1024x1024_0_0_2048)⟩,
   ⟨Rect.unit ![256, 1024] ![256, 1024] inb_S1024x4096_S256x1024_256_1024,
      k0_pay14 (F := Ideal) A1 g (cols wu 1024 inb_S1x1024x4096_S1x1024x1024_0_0_1024)⟩,
   ⟨Rect.unit ![256, 0] ![256, 1024] inb_S1024x4096_S256x1024_256_0,
      k0_pay13 (F := Ideal) A1 g (cols wu 0 inb_S1x1024x4096_S1x1024x1024_0_0_0)⟩,
   ⟨Rect.unit ![0, 3072] ![256, 1024] inb_S1024x4096_S256x1024_0_3072,
      k0_pay11 (F := Ideal) (k0_pay6 A0 g) (cols wu 3072 inb_S1x1024x4096_S1x1024x1024_0_0_3072)⟩,
   ⟨Rect.unit ![0, 2048] ![256, 1024] inb_S1024x4096_S256x1024_0_2048,
      k0_pay10 (F := Ideal) (k0_pay6 A0 g) (cols wu 2048 inb_S1x1024x4096_S1x1024x1024_0_0_2048)⟩,
   ⟨Rect.unit ![0, 1024] ![256, 1024] inb_S1024x4096_S256x1024_0_1024,
      k0_pay9 (F := Ideal) (k0_pay6 A0 g) (cols wu 1024 inb_S1x1024x4096_S1x1024x1024_0_0_1024)⟩,
   ⟨Rect.unit ![0, 0] ![256, 1024] inb_S1024x4096_S256x1024_0_0,
      k0_pay8 (F := Ideal) (k0_pay7 A0 g (cols wu 0 inb_S1x1024x4096_S1x1024x1024_0_0_0))⟩]

/-- The sixteen stored tiles of hidden units, read back at an index. -/
theorem unit_at (acc : Fin 1024 → Fin 1024 → EReal) (A0 A1 A2 A3 : FVec Ideal S256x1024 .f32) (g : FVec Ideal S1x1024 .f32)
    (wu : FVec Ideal S1x1024x4096 .bf16)
    (hB0 : ∀ (i : Fin 256) (n k : Fin 1024), n.val = i.val → A0 (ix2 i k) = acc n k)
    (hB1 : ∀ (i : Fin 256) (n k : Fin 1024), n.val = 256 + i.val → A1 (ix2 i k) = acc n k)
    (hB2 : ∀ (i : Fin 256) (n k : Fin 1024), n.val = 512 + i.val → A2 (ix2 i k) = acc n k)
    (hB3 : ∀ (i : Fin 256) (n k : Fin 1024), n.val = 768 + i.val → A3 (ix2 i k) = acc n k)
    (z : S1024x4096.Idx) (n : Fin 1024) (f : Fin 4096) (hn : (z 0).val = n.val) (hf : (z 1).val = f.val) :
    View.canon (unitPieces A0 A1 A2 A3 g wu) z = unitAt acc g wu n f := by
  canon_tiles y h
  · exact unit_piece acc A3 g wu 3072 _ y n f (fun k => hB3 _ _ _ (by omega)) (by omega)
  · exact unit_piece acc A3 g wu 2048 _ y n f (fun k => hB3 _ _ _ (by omega)) (by omega)
  · exact unit_piece acc A3 g wu 1024 _ y n f (fun k => hB3 _ _ _ (by omega)) (by omega)
  · exact unit_piece acc A3 g wu 0 _ y n f (fun k => hB3 _ _ _ (by omega)) (by omega)
  · exact unit_piece acc A2 g wu 3072 _ y n f (fun k => hB2 _ _ _ (by omega)) (by omega)
  · exact unit_piece acc A2 g wu 2048 _ y n f (fun k => hB2 _ _ _ (by omega)) (by omega)
  · exact unit_piece acc A2 g wu 1024 _ y n f (fun k => hB2 _ _ _ (by omega)) (by omega)
  · exact unit_piece acc A2 g wu 0 _ y n f (fun k => hB2 _ _ _ (by omega)) (by omega)
  · exact unit_piece acc A1 g wu 3072 _ y n f (fun k => hB1 _ _ _ (by omega)) (by omega)
  · exact unit_piece acc A1 g wu 2048 _ y n f (fun k => hB1 _ _ _ (by omega)) (by omega)
  · exact unit_piece acc A1 g wu 1024 _ y n f (fun k => hB1 _ _ _ (by omega)) (by omega)
  · exact unit_piece acc A1 g wu 0 _ y n f (fun k => hB1 _ _ _ (by omega)) (by omega)
  · exact unit_piece acc A0 g wu 3072 _ y n f (fun k => hB0 _ _ _ (by omega)) (by omega)
  · exact unit_piece acc A0 g wu 2048 _ y n f (fun k => hB0 _ _ _ (by omega)) (by omega)
  · exact unit_piece acc A0 g wu 1024 _ y n f (fun k => hB0 _ _ _ (by omega)) (by omega)
  · exact unit_piece acc A0 g wu 0 _ y n f (fun k => hB0 _ _ _ (by omega)) (by omega)

/-- An index of the part's rows, read from the whole buffer. -/
theorem idx_rows (o : ℕ) (inb) (i : Fin 256) (k : Fin 1024) (n : Fin 1024) (h : n.val = o + i.val) :
    (((Rect.unit (s := S1024x1024) ![o, 0] ![256, 1024] inb).idx (ix2 i k)) 0).val = n.val
      ∧ (((Rect.unit (s := S1024x1024) ![o, 0] ![256, 1024] inb).idx (ix2 i k)) 1).val = k.val :=
  ⟨(Rect.idx_unit_val _ _ _ _ _).trans h.symm, (Rect.idx_unit_val _ _ _ _ _).trans (Nat.zero_add _)⟩

/-- The place in the block of an index of the part that starts at row `o`. -/
theorem emb_rows (o : ℕ) (inb) (i : S256x1024.Idx) :
    ((Rect.unit (s := S1024x1024) ![o, 0] ![256, 1024] inb).emb i 0).val = o + (i 0).val
      ∧ ((Rect.unit (s := S1024x1024) ![o, 0] ![256, 1024] inb).emb i 1).val = (i 1).val :=
  ⟨Rect.idx_unit_val _ _ _ _ _, (Rect.idx_unit_val _ _ _ _ _).trans (Nat.zero_add _)⟩

/-- An index of the part's hidden units, read from the whole scratch. -/
theorem idx_units (o : ℕ) (inb) (i : Fin 256) (f : Fin 4096) (n : Fin 1024) (h : n.val = o + i.val) :
    (((Rect.unit (s := S1024x4096) ![o, 0] ![256, 4096] inb).idx (ix2 i f)) 0).val = n.val
      ∧ (((Rect.unit (s := S1024x4096) ![o, 0] ![256, 4096] inb).idx (ix2 i f)) 1).val = f.val :=
  ⟨(Rect.idx_unit_val _ _ _ _ _).trans h.symm, (Rect.idx_unit_val _ _ _ _ _).trans (Nat.zero_add _)⟩

/-- The projection's rows of a part, as the part reads them back from the buffer. -/
abbrev accPart (x : FVec Ideal S1024x1024 .f32) (a : FVec Ideal S1024x1024 .bf16) (wo : FVec Ideal S1x1024x1024 .bf16) (o : ℕ)
    (inb : ∀ b, ![o, 0] b + ![256, 1024] b ≤ S1024x1024.size b) : FVec Ideal S256x1024 .f32 :=
  fun i => View.canon (accPieces x a wo) ((Rect.unit (s := S1024x1024) ![o, 0] ![256, 1024] inb).idx i)

/-- The projection's rows of a part, at an index. -/
theorem accPart_at (x : FVec Ideal S1024x1024 .f32) (a : FVec Ideal S1024x1024 .bf16) (wo : FVec Ideal S1x1024x1024 .bf16) (o : ℕ)
    (inb) (i : Fin 256) (n k : Fin 1024) (h : n.val = o + i.val) : accPart x a wo o inb (ix2 i k) = accAt x a wo n k :=
  acc_at x a wo _ n k (idx_rows o inb i k n h).1 (idx_rows o inb i k n h).2

/-- The hidden units of a part's row, as the part reads them back from the scratch. -/
theorem unit_read (x : FVec Ideal S1024x1024 .f32) (a : FVec Ideal S1024x1024 .bf16) (wo : FVec Ideal S1x1024x1024 .bf16)
    (g : FVec Ideal S1x1024 .f32) (wu : FVec Ideal S1x1024x4096 .bf16) (o : ℕ) (inb) (i : Fin 256) (n : Fin 1024) (f : Fin 4096)
    (h : n.val = o + i.val) :
    View.canon (unitPieces (accPart x a wo 0 inb_S1024x1024_S256x1024_0_0) (accPart x a wo 256 inb_S1024x1024_S256x1024_256_0)
        (accPart x a wo 512 inb_S1024x1024_S256x1024_512_0) (accPart x a wo 768 inb_S1024x1024_S256x1024_768_0) g wu)
      ((Rect.unit (s := S1024x4096) ![o, 0] ![256, 4096] inb).idx (ix2 i f)) = unitAt (accAt x a wo) g wu n f :=
  unit_at (accAt x a wo) _ _ _ _ g wu (fun i n k h => accPart_at x a wo 0 _ i n k (h.trans (Nat.zero_add _).symm))
    (fun i n k h => accPart_at x a wo 256 _ i n k h) (fun i n k h => accPart_at x a wo 512 _ i n k h)
    (fun i n k h => accPart_at x a wo 768 _ i n k h) _ n f (idx_units o inb i f n h).1 (idx_units o inb i f n h).2

/-- One part's rows of the stream, at an index. -/
theorem stream_piece (acc : Fin 1024 → EReal) (un : Fin 4096 → EReal) (A : FVec Ideal S256x1024 .f32) (U : FVec Ideal S256x4096 .bf16)
    (wd : FVec Ideal S1x4096x1024 .bf16) (i : S256x1024.Idx) (j : Fin 1024) (hj : j.val = (i 1).val)
    (hA : ∀ k : Fin 1024, A (ix2 (i 0) k) = acc k) (hU : ∀ f : Fin 4096, U (ix2 (i 0) f) = un f) :
    k0_pay31 (F := Ideal) A U wd i = down acc un (fun f j => wd (ix3 0 f j)) j := by
  idx_vars i
  obtain rfl : j = i1 := Fin.ext hj
  refine (down_val _ _ _ _ _).trans ?_
  rw [show (fun k : Fin 1024 => A (ix2 i0 k)) = acc from funext hA, show (fun f : Fin 4096 => U (ix2 i0 f)) = un from funext hU]

/-- One part's output, at an index. -/
theorem out_piece (acc : Fin 1024 → EReal) (un : Fin 4096 → EReal) (A : FVec Ideal S256x1024 .f32) (U : FVec Ideal S256x4096 .bf16)
    (wd : FVec Ideal S1x4096x1024 .bf16) (pg : FVec Ideal S1x1024 .f32) (i : S256x1024.Idx) (j : Fin 1024) (hj : j.val = (i 1).val)
    (hA : ∀ k : Fin 1024, A (ix2 (i 0) k) = acc k) (hU : ∀ f : Fin 4096, U (ix2 (i 0) f) = un f) :
    k0_pay32 (F := Ideal) (k0_pay31 A U wd) pg i
      = rms (down acc un (fun f j => wd (ix3 0 f j))) (fun k => pg (ix2 0 k)) j := by
  idx_vars i
  obtain rfl : j = i1 := Fin.ext hj
  refine (last_val _ _ _ _).trans ?_
  simp only [down_val]
  rw [show (fun k : Fin 1024 => A (ix2 i0 k)) = acc from funext hA, show (fun f : Fin 4096 => U (ix2 i0 f)) = un from funext hU]

end Cert.Mlp

end
-- ==== Proof.FinalOut.lean ====
/- The output block of a grid point of the last feed-forward call: each row is the block's row, normed. -/
module

public import proofs.«01_k».proof.Proof.FinalTile

@[expose] public section

set_option maxRecDepth 16384

noncomputable section

namespace Cert.Mlp

open Idealize.ShloMosaic Cert.KernelFinalIdeal Cert.KernelFinalIdeal.Gen Idealize.ShloMosaic.TcCoe

variable (m : (ℓ : Loc nD τ sig) → Buf (Elt Ideal) ℓ)

/-- The stream of row `n` of a point's blocks, after the block. -/
def streamAt (x : FVec Ideal S1024x1024 .f32) (a : FVec Ideal S1024x1024 .bf16) (wo : FVec Ideal S1x1024x1024 .bf16)
    (g : FVec Ideal S1x1024 .f32) (wu : FVec Ideal S1x1024x4096 .bf16) (wd : FVec Ideal S1x4096x1024 .bf16) (n : Fin 1024) :
    Fin 1024 → EReal :=
  down (accAt x a wo n) (unitAt (accAt x a wo) g wu n) (fun f j => wd (ix3 0 f j))

/-- The output of row `n` of a point's blocks. -/
def outAt (x : FVec Ideal S1024x1024 .f32) (a : FVec Ideal S1024x1024 .bf16) (wo : FVec Ideal S1x1024x1024 .bf16)
    (g : FVec Ideal S1x1024 .f32) (wu : FVec Ideal S1x1024x4096 .bf16) (wd : FVec Ideal S1x4096x1024 .bf16)
    (pg : FVec Ideal S1x1024 .f32) (n j : Fin 1024) : EReal :=
  rms (streamAt x a wo g wu wd n) (fun k => pg (ix2 0 k)) j

/-- What a point leaves in its output block. -/
theorem final_out (c : Dev nD) (t : Fin cfg0.N) (y : S1024x1024.Idx) :
    outsAt0 m c t y = outAt (iblk m c 0 t) (iblk m c 1 t) (iblk m c 2 t) (iblk m c 3 t) (iblk m c 4 t) (iblk m c 5 t)
      (iblk m c 6 t) (y 0) (y 1) := by
  unfold outsAt0
  frame_open
  frame_out
  simp only [View.readCov_eq_canon', Memref.IsWhole.read_unread]
  generalize iblk m c 0 t = X
  generalize iblk m c 1 t = A
  generalize iblk m c 2 t = WO
  generalize iblk m c 3 t = G
  generalize iblk m c 4 t = WU
  generalize iblk m c 5 t = WD
  generalize iblk m c 6 t = PG
  refine View.canon_append_of_piecesOf (Val := Elt Ideal) (s := S1024x1024) (e := .f32)
    (fun y => outAt X A WO G WU WD PG (y 0) (y 1)) _ [_, _, _, _]
    ⟨fun i => ?_, fun i => ?_, fun i => ?_, fun i => ?_, trivial⟩ y ?_
  · have h := emb_rows 768 inb_S1024x1024_S256x1024_768_0 i
    refine out_piece _ _ _ _ WD PG i _ h.2 (fun k => ?_) (fun f => unit_read X A WO G WU 768 _ (i 0) _ f h.1)
    have h0 := idx_rows 768 inb_S1024x1024_S256x1024_768_0 (i 0) k _ h.1
    exact (skip 512 _ _ _ _ (by omega)).trans <| (skip 256 _ _ _ _ (by omega)).trans <| (skip 0 _ _ _ _ (by omega)).trans <| acc_at X A WO _ _ k h0.1 h0.2
  · have h := emb_rows 512 inb_S1024x1024_S256x1024_512_0 i
    refine out_piece _ _ _ _ WD PG i _ h.2 (fun k => ?_) (fun f => unit_read X A WO G WU 512 _ (i 0) _ f h.1)
    have h0 := idx_rows 512 inb_S1024x1024_S256x1024_512_0 (i 0) k _ h.1
    exact (skip 256 _ _ _ _ (by omega)).trans <| (skip 0 _ _ _ _ (by omega)).trans <| acc_at X A WO _ _ k h0.1 h0.2
  · have h := emb_rows 256 inb_S1024x1024_S256x1024_256_0 i
    refine out_piece _ _ _ _ WD PG i _ h.2 (fun k => ?_) (fun f => unit_read X A WO G WU 256 _ (i 0) _ f h.1)
    have h0 := idx_rows 256 inb_S1024x1024_S256x1024_256_0 (i 0) k _ h.1
    exact (skip 0 _ _ _ _ (by omega)).trans <| acc_at X A WO _ _ k h0.1 h0.2
  · have h := emb_rows 0 inb_S1024x1024_S256x1024_0_0 i
    exact out_piece _ _ _ _ WD PG i _ h.2 (fun k => accPart_at X A WO 0 _ (i 0) _ k h.1) (fun f => unit_read X A WO G WU 0 _ (i 0) _ f h.1)
  · exact View.cover_of_tiledBy _ ![256, 1024] (by sl_kernel_rfl) y

end Cert.Mlp

end
-- ==== Proof.FinalHost.lean ====
/- The last feed-forward call's blocks, off its arguments: the host flattens the rows and takes the second layer's weights. -/
module

public import proofs.«01_k».proof.Proof.FinalOut
public import Idealize.ShloMosaic.Lib.StableHlo.ReadAt

@[expose] public section

set_option maxRecDepth 16384

noncomputable section

namespace Cert.Mlp

open Idealize.ShloMosaic Cert.KernelFinalIdeal Cert.KernelFinalIdeal.Gen Idealize.ShloMosaic.TcCoe

variable (m : (ℓ : Loc nD τ sig) → Buf (Elt Ideal) ℓ)

/-- The block index of every operand at a point. -/
theorem fidx0 : ∀ t : Fin cfg0.N, win0_0.index t = ![t.val, 0] := by decide +kernel
theorem fidx1 : ∀ t : Fin cfg0.N, win0_1.index t = ![t.val, 0] := by decide +kernel
theorem fidx2 : ∀ t : Fin cfg0.N, win0_2.index t = ![0, 0, 0] := by decide +kernel
theorem fidx3 : ∀ t : Fin cfg0.N, win0_3.index t = ![0, 0] := by decide +kernel
theorem fidx4 : ∀ t : Fin cfg0.N, win0_4.index t = ![0, 0, 0] := by decide +kernel
theorem fidx5 : ∀ t : Fin cfg0.N, win0_5.index t = ![0, 0, 0] := by decide +kernel
theorem fidx6 : ∀ t : Fin cfg0.N, win0_6.index t = ![0, 0] := by decide +kernel
theorem fidx7 : ∀ t : Fin cfg0.N, win0_7.index t = ![t.val, 0] := by decide +kernel

/-- The flattened rows, off the stream. -/
theorem fv0 (c : Dev nD) (n : Fin 16384) (k : Fin 1024) :
    V m c main_v0 (ix2 n k) = m ((c : Thread nD τ).loc main_arg0) (ix3 ⟨n.val / 4096, by omega⟩ ⟨n.val % 4096, by omega⟩ k) := by
  entry_read
  pointwise

/-- The flattened rows, off the mixer's output. -/
theorem fv2 (c : Dev nD) (n : Fin 16384) (k : Fin 1024) :
    V m c main_v2 (ix2 n k) = m ((c : Thread nD τ).loc main_arg1) (ix3 ⟨n.val / 4096, by omega⟩ ⟨n.val % 4096, by omega⟩ k) := by
  entry_read
  pointwise

/-- The projection's weights. -/
theorem fv3 (c : Dev nD) (k j : Fin 1024) :
    V m c main_v3 (ix3 0 k j) = m ((c : Thread nD τ).loc main_arg2) (ix3 0 k j) := by
  entry_read
  pointwise

/-- The gain of the layer's norm. -/
theorem fv6 (c : Dev nD) (k : Fin 1024) :
    V m c main_v6 (ix2 0 k) = m ((c : Thread nD τ).loc main_arg3) (ix2 1 k) := by
  entry_read
  pointwise

/-- The weights into the hidden layer. -/
theorem fv8 (c : Dev nD) (k : Fin 1024) (f : Fin 4096) :
    V m c main_v8 (ix3 0 k f) = m ((c : Thread nD τ).loc main_arg4) (ix3 1 k f) := by
  entry_read
  pointwise

/-- The weights out of the hidden layer. -/
theorem fv10 (c : Dev nD) (f : Fin 4096) (j : Fin 1024) :
    V m c main_v10 (ix3 0 f j) = m ((c : Thread nD τ).loc main_arg5) (ix3 1 f j) := by
  entry_read
  pointwise

/-- The gain of the final norm. -/
theorem fv11 (c : Dev nD) (k : Fin 1024) :
    V m c main_v11 (ix2 0 k) = m ((c : Thread nD τ).loc main_arg6) (ix1 k) := by
  entry_read
  pointwise

/-- Row `r` of point `t`'s rows is row `1024 t + r` of all. -/
def rowOf (t : Fin cfg0.N) (r : Fin 1024) : Fin 16384 := ⟨t.val * 1024 + r.val, by have : cfg0.N = 16 := N_0; omega⟩

/-- A point's rows of the stream. -/
theorem fb0 (c : Dev nD) (t : Fin cfg0.N) (r k : Fin 1024) : iblk m c 0 t (ix2 r k) = V m c main_v0 (ix2 (rowOf t r) k) := by
  unfold iblk rowOf
  blk_ext [fidx0 t]

/-- A point's rows of the mixer's output. -/
theorem fb1 (c : Dev nD) (t : Fin cfg0.N) (r k : Fin 1024) : iblk m c 1 t (ix2 r k) = V m c main_v2 (ix2 (rowOf t r) k) := by
  unfold iblk rowOf
  blk_ext [fidx1 t]

/-- A point's weights are the whole arrays. -/
theorem fb2 (c : Dev nD) (t : Fin cfg0.N) (k j : Fin 1024) : iblk m c 2 t (ix3 0 k j) = V m c main_v3 (ix3 0 k j) := by
  unfold iblk
  blk_ext [fidx2 t]

theorem fb3 (c : Dev nD) (t : Fin cfg0.N) (k : Fin 1024) : iblk m c 3 t (ix2 0 k) = V m c main_v6 (ix2 0 k) := by
  unfold iblk
  blk_ext [fidx3 t]

theorem fb4 (c : Dev nD) (t : Fin cfg0.N) (k : Fin 1024) (f : Fin 4096) :
    iblk m c 4 t (ix3 0 k f) = V m c main_v8 (ix3 0 k f) := by
  unfold iblk
  blk_ext [fidx4 t]

theorem fb5 (c : Dev nD) (t : Fin cfg0.N) (f : Fin 4096) (j : Fin 1024) :
    iblk m c 5 t (ix3 0 f j) = V m c main_v10 (ix3 0 f j) := by
  unfold iblk
  blk_ext [fidx5 t]

theorem fb6 (c : Dev nD) (t : Fin cfg0.N) (k : Fin 1024) : iblk m c 6 t (ix2 0 k) = V m c main_v11 (ix2 0 k) := by
  unfold iblk
  blk_ext [fidx6 t]

end Cert.Mlp

end
-- ==== Proof.FinalRef.lean ====
/- The plain feed-forward block of the reference, at an index. -/
module

public import proofs.«01_k».proof.Proof.Gen.ReferenceFinalIdeal.Run
public import proofs.«01_k».proof.Proof.Mlp
public import Idealize.ShloMosaic.Lib.Pipeline.ValueKit

@[expose] public section

set_option maxRecDepth 16384

noncomputable section

namespace Cert.Mlp

open Idealize.ShloMosaic Cert.ReferenceFinalIdeal Cert.ReferenceFinalIdeal.Gen Idealize.ShloMosaic.TcCoe

/-- The reference's RMS norm. -/
def rRms (x : FVec Ideal S4x4096x1024 .f32) (g : FVec Ideal S1024 .f32) : FVec Ideal S4x4096x1024 .f32 :=
  mulf (mulf x (broadcastInDim S4x4096x1024 ![0, 1, 2] bcast_S4x4096x1_S4x4096x1024_0_1_2 (Host.rsqrt (addf
    (Host.divf (broadcastInDim S4x4096x1 ![0, 1] bcast_S4x4096_S4x4096x1_0_1
        (Host.reduceAdd (mulf x x) (constant S_ .f32 0x00000000#32) reducesTo_S4x4096x1024_S4x4096_d2 h_S_))
      (broadcastInDim S4x4096x1 ![] bcast_S_S4x4096x1 (constant S_ .f32 0x44800000#32)))
    (broadcastInDim S4x4096x1 ![] bcast_S_S4x4096x1 (constant S_ .f32 0x358637BD#32))))))
    (broadcastInDim S4x4096x1024 ![0, 1, 2] bcast_S1x1x1024_S4x4096x1024_0_1_2 (broadcastInDim S1x1x1024 ![2] bcast_S1024_S1x1x1024_2 g))

/-- The reference's projection, added to the stream. -/
def rProj (x a : FVec Ideal S4x4096x1024 .f32) (wo : FVec Ideal S1024x1024 .f32) : FVec Ideal S4x4096x1024 .f32 :=
  addf x (Host.dotGeneral dot_S4x4096x1024_S1024x1024_S4x4096x1024_2_0_01_1_n_n none a wo)

/-- The reference's hidden units before the square. -/
def rHid (h : FVec Ideal S4x4096x1024 .f32) (wu : FVec Ideal S1024x4096 .f32) : FVec Ideal S4x4096x4096 .f32 :=
  maximumf (Host.dotGeneral dot_S4x4096x1024_S1024x4096_S4x4096x4096_2_0_01_1_n_n none h wu)
    (broadcastInDim S4x4096x4096 ![] bcast_S_S4x4096x4096 (constant S_ .f32 0x00000000#32))

/-- The reference's second product, added to the stream. -/
def rDown (x : FVec Ideal S4x4096x1024 .f32) (u : FVec Ideal S4x4096x4096 .f32) (wd : FVec Ideal S4096x1024 .f32) :
    FVec Ideal S4x4096x1024 .f32 :=
  addf x (Host.dotGeneral dot_S4x4096x4096_S4096x1024_S4x4096x1024_2_0_01_1_n_n none (mulf u u) wd)

/-- The step at an index. -/
theorem rRms_val (x : FVec Ideal S4x4096x1024 .f32) (g : FVec Ideal S1024 .f32) (b : Fin 4) (s : Fin 4096) (j : Fin 1024) :
    rRms x g (ix3 b s j) = rms (fun k => x (ix3 b s k)) (fun k => g (ix1 k)) j := by
  unfold rRms rms
  pointwise

/-- The step at an index. -/
theorem rProj_val (x a : FVec Ideal S4x4096x1024 .f32) (wo : FVec Ideal S1024x1024 .f32) (b : Fin 4) (s : Fin 4096) (j : Fin 1024) :
    rProj x a wo (ix3 b s j) = proj (fun k => x (ix3 b s k)) (fun k => a (ix3 b s k)) (fun k j => wo (ix2 k j)) j := by
  unfold rProj proj
  pointwise

/-- The step at an index. -/
theorem rHid_val (h : FVec Ideal S4x4096x1024 .f32) (wu : FVec Ideal S1024x4096 .f32) (b : Fin 4) (s : Fin 4096) (f : Fin 4096) :
    rHid h wu (ix3 b s f) = max (∑ k, h (ix3 b s k) * wu (ix2 k f)) 0 := by
  unfold rHid
  pointwise

/-- The step at an index. -/
theorem rDown_val (x : FVec Ideal S4x4096x1024 .f32) (u : FVec Ideal S4x4096x4096 .f32) (wd : FVec Ideal S4096x1024 .f32)
    (b : Fin 4) (s : Fin 4096) (j : Fin 1024) :
    rDown x u wd (ix3 b s j) = down (fun k => x (ix3 b s k)) (fun f => u (ix3 b s f) * u (ix3 b s f)) (fun f j => wd (ix2 f j)) j := by
  unfold rDown down
  pointwise

/-- The reference's stream after the block. -/
def rRow (x a : FVec Ideal S4x4096x1024 .f32) (wo : FVec Ideal S1024x1024 .f32) (g : FVec Ideal S1024 .f32)
    (wu : FVec Ideal S1024x4096 .f32) (wd : FVec Ideal S4096x1024 .f32) : FVec Ideal S4x4096x1024 .f32 :=
  rDown (rProj x a wo) (rHid (rRms (rProj x a wo) g) wu) wd

/-- The step at an index. -/
theorem rRow_val (x a : FVec Ideal S4x4096x1024 .f32) (wo : FVec Ideal S1024x1024 .f32) (g : FVec Ideal S1024 .f32)
    (wu : FVec Ideal S1024x4096 .f32) (wd : FVec Ideal S4096x1024 .f32) (b : Fin 4) (s : Fin 4096) (j : Fin 1024) :
    rRow x a wo g wu wd (ix3 b s j) = row (fun k => x (ix3 b s k)) (fun k => a (ix3 b s k)) (fun k j => wo (ix2 k j))
      (fun k => g (ix1 k)) (fun k f => wu (ix2 k f)) (fun f j => wd (ix2 f j)) j := by
  unfold rRow row unit
  simp only [rDown_val, rHid_val, rRms_val, rProj_val]

/-- The rows flattened, at an index. -/
theorem flat_val (y : FVec Ideal S4x4096x1024 .f32) (n : Fin 16384) (j : Fin 1024) :
    shapeCast S16384x1024 y shapeCasts_S4x4096x1024_S16384x1024 (ix2 n j)
      = y (ix3 ⟨n.val / 4096, by omega⟩ ⟨n.val % 4096, by omega⟩ j) := by
  pointwise

/-- The projection's weights, at an index. -/
theorem refWo_val (w : FVec Ideal S1x1024x1024 .f32) (k j : Fin 1024) :
    shapeCast S1024x1024 w shapeCasts_S1x1024x1024_S1024x1024 (ix2 k j) = w (ix3 0 k j) := by
  pointwise

/-- The second layer's gain, at an index. -/
theorem refGain_val (w : FVec Ideal S2x1024 .f32) (k : Fin 1024) :
    shapeCast S1024 (extractStridedSlice S1x1024 ![1, 0] w slices_S2x1024_S1x1024_1_0) shapeCasts_S1x1024_S1024 (ix1 k)
      = w (ix2 1 k) := by
  pointwise

/-- The second layer's weights into the hidden layer, at an index. -/
theorem refUp_val (w : FVec Ideal S2x1024x4096 .f32) (k : Fin 1024) (f : Fin 4096) :
    shapeCast S1024x4096 (extractStridedSlice S1x1024x4096 ![1, 0, 0] w slices_S2x1024x4096_S1x1024x4096_1_0_0)
      shapeCasts_S1x1024x4096_S1024x4096 (ix2 k f) = w (ix3 1 k f) := by
  pointwise

/-- The second layer's weights out of the hidden layer, at an index. -/
theorem refDown_val (w : FVec Ideal S2x4096x1024 .f32) (f : Fin 4096) (j : Fin 1024) :
    shapeCast S4096x1024 (extractStridedSlice S1x4096x1024 ![1, 0, 0] w slices_S2x4096x1024_S1x4096x1024_1_0_0)
      shapeCasts_S1x4096x1024_S4096x1024 (ix2 f j) = w (ix3 1 f j) := by
  pointwise

variable (m : (ℓ : Loc nD τ sig) → Buf (Elt Ideal) ℓ)

/-- The reference's result. -/
theorem refFinal_eq (c : Dev nD) : Value.res_out0 m c = shapeCast _ (rRms (rRow (m ((c.tc : Thread nD τ).loc main_arg0))
    (m ((c.tc : Thread nD τ).loc main_arg1)) (shapeCast _ (m ((c.tc : Thread nD τ).loc main_arg2)) shapeCasts_S1x1024x1024_S1024x1024)
    (shapeCast _ (extractStridedSlice S1x1024 ![1, 0] (m ((c.tc : Thread nD τ).loc main_arg3)) slices_S2x1024_S1x1024_1_0) shapeCasts_S1x1024_S1024)
    (shapeCast _ (extractStridedSlice S1x1024x4096 ![1, 0, 0] (m ((c.tc : Thread nD τ).loc main_arg4)) slices_S2x1024x4096_S1x1024x4096_1_0_0)
      shapeCasts_S1x1024x4096_S1024x4096)
    (shapeCast _ (extractStridedSlice S1x4096x1024 ![1, 0, 0] (m ((c.tc : Thread nD τ).loc main_arg5)) slices_S2x4096x1024_S1x4096x1024_1_0_0)
      shapeCasts_S1x4096x1024_S4096x1024))
    (m ((c.tc : Thread nD τ).loc main_arg6))) shapeCasts_S4x4096x1024_S16384x1024 := rfl

/-- The reference's result at an index. -/
theorem refFinal_val (c : Dev nD) (n : Fin 16384) (j : Fin 1024) : Value.res_out0 m c (ix2 n j)
    = rms (row (fun k => m ((c.tc : Thread nD τ).loc main_arg0) (ix3 ⟨n.val / 4096, by omega⟩ ⟨n.val % 4096, by omega⟩ k))
        (fun k => m ((c.tc : Thread nD τ).loc main_arg1) (ix3 ⟨n.val / 4096, by omega⟩ ⟨n.val % 4096, by omega⟩ k))
        (fun k j => m ((c.tc : Thread nD τ).loc main_arg2) (ix3 0 k j)) (fun k => m ((c.tc : Thread nD τ).loc main_arg3) (ix2 1 k))
        (fun k f => m ((c.tc : Thread nD τ).loc main_arg4) (ix3 1 k f)) (fun f j => m ((c.tc : Thread nD τ).loc main_arg5) (ix3 1 f j)))
      (fun k => m ((c.tc : Thread nD τ).loc main_arg6) (ix1 k)) j := by
  rw [refFinal_eq]
  generalize m ((c.tc : Thread nD τ).loc main_arg0) = X
  generalize m ((c.tc : Thread nD τ).loc main_arg1) = A
  generalize m ((c.tc : Thread nD τ).loc main_arg2) = WO
  generalize m ((c.tc : Thread nD τ).loc main_arg3) = G
  generalize m ((c.tc : Thread nD τ).loc main_arg4) = WU
  generalize m ((c.tc : Thread nD τ).loc main_arg5) = WD
  generalize m ((c.tc : Thread nD τ).loc main_arg6) = PG
  refine (flat_val _ n j).trans ?_
  refine (rRms_val _ _ _ _ _).trans ?_
  refine rms_congr (fun i => (rRow_val _ _ _ _ _ _ _ _ _).trans (congrFun (row_congr ?_ ?_ ?_ ?_ ?_ ?_) i)) ?_ j
  · exact fun _ => rfl
  · exact fun _ => rfl
  · exact fun k j => refWo_val _ k j
  · exact fun k => refGain_val _ k
  · exact fun k f => refUp_val _ k f
  · exact fun f j => refDown_val _ f j
  · exact fun _ => rfl

end Cert.Mlp

end
-- ==== Proof.FinalAlg.lean ====
/- The last feed-forward call and the plain block end with equal results. -/
module

public import proofs.«01_k».proof.Defs
public import proofs.«01_k».proof.Proof.Gen.KernelFinal
public import proofs.«01_k».proof.Proof.Gen.KernelFinal.Frame
public import proofs.«01_k».proof.Proof.Gen.KernelFinalIdeal.Frame
public import proofs.«01_k».proof.Proof.FinalHost
public import Idealize.ShloMosaic.Lib.Quiescent
public import proofs.«01_k».proof.Proof.FinalRef

@[expose] public section

set_option maxRecDepth 16384

noncomputable section

namespace Cert.Mlp

open Idealize.ShloMosaic Cert.KernelFinalIdeal Cert.KernelFinalIdeal.Gen Idealize.ShloMosaic.TcCoe Idealize.SL.Sem

variable (m : (ℓ : Loc nD τ sig) → Buf (Elt Ideal) ℓ)

/-- The result array at a row of point `t`. -/
theorem final_arr (c : Dev nD) (t : Fin cfg0.N) (r j : Fin 1024) :
    (dats m 0 c).arrAt 7 cfg0.N (ix2 (rowOf t r) j) = outsAt0 m c t (ix2 r j) := by
  have hf : (cfg0.win 7).flush t = true := (by decide +kernel : ∀ t : Fin cfg0.N, (cfg0.win 7).flush t = true) t
  have h := congrFun (Value.blocks7 m c t hf) (ix2 r j)
  rw [Value.flushed7] at h
  refine Eq.trans ?_ (h.trans ?_)
  · unfold rowOf
    blk_ext [fidx7 t]
  · rfl

/-- Rows of one stream are each the block's row, normed. -/
theorem outAt_eq (c : Dev nD) (t : Fin cfg0.N) (r j : Fin 1024) :
    outAt (iblk m c 0 t) (iblk m c 1 t) (iblk m c 2 t) (iblk m c 3 t) (iblk m c 4 t) (iblk m c 5 t) (iblk m c 6 t) r j
      = rms (row (fun k => m ((c : Thread nD τ).loc main_arg0) (ix3 ⟨(rowOf t r).val / 4096, by omega⟩ ⟨(rowOf t r).val % 4096, by omega⟩ k))
          (fun k => m ((c : Thread nD τ).loc main_arg1) (ix3 ⟨(rowOf t r).val / 4096, by omega⟩ ⟨(rowOf t r).val % 4096, by omega⟩ k))
          (fun k j => m ((c : Thread nD τ).loc main_arg2) (ix3 0 k j)) (fun k => m ((c : Thread nD τ).loc main_arg3) (ix2 1 k))
          (fun k f => m ((c : Thread nD τ).loc main_arg4) (ix3 1 k f)) (fun f j => m ((c : Thread nD τ).loc main_arg5) (ix3 1 f j)))
        (fun k => m ((c : Thread nD τ).loc main_arg6) (ix1 k)) j := by
  refine rms_congr (fun i => congrFun (row_congr ?_ ?_ ?_ ?_ ?_ ?_) i) ?_ j
  · exact fun k => (fb0 m c t r k).trans (fv0 m c _ k)
  · exact fun k => (fb1 m c t r k).trans (fv2 m c _ k)
  · exact fun k j => (fb2 m c t k j).trans (fv3 m c k j)
  · exact fun k => (fb3 m c t k).trans (fv6 m c k)
  · exact fun k f => (fb4 m c t k f).trans (fv8 m c k f)
  · exact fun f j => (fb5 m c t f j).trans (fv10 m c f j)
  · exact fun k => (fb6 m c t k).trans (fv11 m c k)

/-- The result array, at an index. -/
theorem final_val (c : Dev nD) (n : Fin 16384) (j : Fin 1024) :
    (dats m 0 c).arrAt 7 cfg0.N (ix2 n j)
      = rms (row (fun k => m ((c : Thread nD τ).loc main_arg0) (ix3 ⟨n.val / 4096, by omega⟩ ⟨n.val % 4096, by omega⟩ k))
          (fun k => m ((c : Thread nD τ).loc main_arg1) (ix3 ⟨n.val / 4096, by omega⟩ ⟨n.val % 4096, by omega⟩ k))
          (fun k j => m ((c : Thread nD τ).loc main_arg2) (ix3 0 k j)) (fun k => m ((c : Thread nD τ).loc main_arg3) (ix2 1 k))
          (fun k f => m ((c : Thread nD τ).loc main_arg4) (ix3 1 k f)) (fun f j => m ((c : Thread nD τ).loc main_arg5) (ix3 1 f j)))
        (fun k => m ((c : Thread nD τ).loc main_arg6) (ix1 k)) j := by
  have hN : cfg0.N = 16 := N_0
  obtain ⟨t, r, rfl⟩ : ∃ t r, n = rowOf t r := ⟨⟨n.val / 1024, by omega⟩, ⟨n.val % 1024, by omega⟩,
    Fin.ext (by show n.val = n.val / 1024 * 1024 + n.val % 1024; omega)⟩
  exact (final_arr m c _ _ j).trans ((final_out m c _ _).trans (outAt_eq m c _ _ j))

/-- The last feed-forward call and the plain block end with equal results. -/
theorem algebraic_final : Cert.algebraic_KernelFinalIdeal_ReferenceFinalIdeal := by
  intro m g m' g' _ hagree
  refine ⟨_, Cert.KernelFinalIdeal.Value.run_blocks (F := Ideal) m g, ?_⟩
  refine (θ_run Cert.ReferenceFinalIdeal.defs _ _).mono (fun _ h c => ?_) (Cert.ReferenceFinalIdeal.Value.run m' g')
  obtain ⟨r0, rest⟩ := h c
  obtain ⟨a0, a1, a2, a3, a4, a5, a6⟩ := hagree c
  refine ⟨r0.trans (funext fun i => ?_), rest⟩
  idx_vars i
  refine (refFinal_val m' c i0 i1).trans (Eq.trans ?_ (final_val m c i0 i1).symm)
  rw [a0, a1, a2, a3, a4, a5, a6]

/-- The last feed-forward call runs from every memory, leaves its arguments and ends quiescent. -/
theorem frame_final : quiescent_KernelFinal := fun m ρ _ => Cert.KernelFinal.Gen.frame m ρ

/-- So does its idealisation. -/
theorem frame_final_ideal : quiescent_KernelFinalIdeal := fun m ρ _ => Cert.KernelFinalIdeal.Gen.frame m ρ

/-- So does the plain block. -/
theorem frame_final_ref : quiescent_ReferenceFinalIdeal := fun m ρ _ =>
  (θ_run Cert.ReferenceFinalIdeal.defs _ _).mono
    (fun r h => ⟨fun c => (h c).2, Idealize.ShloMosaic.sem_eq_zero_of_no_sems (by decide) r.2⟩)
    (Cert.ReferenceFinalIdeal.Value.run m ρ)

end Cert.Mlp

end
-- ==== Proof.MidTile.lean ====
/- The pieces that the middle feed-forward call stores, at an index: those of the last call, split at other places. -/
module

public import proofs.«01_k».proof.Proof.FinalOut
public import proofs.«01_k».proof.Proof.Gen.KernelMidIdeal.Value

@[expose] public section

set_option maxRecDepth 16384

noncomputable section

namespace Cert.Mlp

open Idealize.ShloMosaic Cert.KernelMidIdeal Cert.KernelMidIdeal.Gen Idealize.ShloMosaic.TcCoe

variable (acc : Fin 1024 → EReal) (un : Fin 4096 → EReal) (A : FVec Ideal S256x1024 .f32) (U : FVec Ideal S256x4096 .bf16)
  (wd : FVec Ideal S1x4096x1024 .bf16) (pg : FVec Ideal S1x1024 .f32) (i : S256x1024.Idx) (j : Fin 1024) (hj : j.val = (i 1).val)
  (hA : ∀ k : Fin 1024, A (ix2 (i 0) k) = acc k) (hU : ∀ f : Fin 4096, U (ix2 (i 0) f) = un f)

include hj hA hU

/-- The stream's rows of the first part. -/
theorem mid_stream0 : k0_pay32 (F := Ideal) A U wd i = down acc un (fun f j => wd (ix3 0 f j)) j :=
  stream_piece acc un A U wd i j hj hA hU

/-- The stream's rows of the second part. -/
theorem mid_stream1 : k0_pay34 (F := Ideal) A U wd i = down acc un (fun f j => wd (ix3 0 f j)) j :=
  stream_piece acc un A U wd i j hj hA hU

/-- The stream's rows of the third part. -/
theorem mid_stream2 : k0_pay39 (F := Ideal) A U wd i = down acc un (fun f j => wd (ix3 0 f j)) j :=
  stream_piece acc un A U wd i j hj hA hU

/-- The stream's rows of the fourth part. -/
theorem mid_stream3 : k0_pay1 (F := Ideal) (k0_pay41 A) U wd i = down acc un (fun f j => wd (ix3 0 f j)) j :=
  stream_piece acc un A U wd i j hj hA hU

/-- The normed rows of the first part. -/
theorem mid_norm0 : k0_pay33 (F := Ideal) (k0_pay32 A U wd) pg i
    = rms (down acc un (fun f j => wd (ix3 0 f j))) (fun k => pg (ix2 0 k)) j :=
  out_piece acc un A U wd pg i j hj hA hU

/-- The normed rows of the second part. -/
theorem mid_norm1 : k0_pay38 (F := Ideal) (k0_pay34 A U wd) (k0_pay35 pg) (k0_pay36 A U wd) k0_pay37 i
    = rms (down acc un (fun f j => wd (ix3 0 f j))) (fun k => pg (ix2 0 k)) j :=
  out_piece acc un A U wd pg i j hj hA hU

/-- The normed rows of the third part. -/
theorem mid_norm2 : k0_pay40 (F := Ideal) A U wd pg i
    = rms (down acc un (fun f j => wd (ix3 0 f j))) (fun k => pg (ix2 0 k)) j :=
  out_piece acc un A U wd pg i j hj hA hU

/-- The normed rows of the fourth part. -/
theorem mid_norm3 : k0_pay2 (F := Ideal) (k0_pay41 A) U wd pg i
    = rms (down acc un (fun f j => wd (ix3 0 f j))) (fun k => pg (ix2 0 k)) j :=
  out_piece acc un A U wd pg i j hj hA hU

end Cert.Mlp

end
-- ==== Proof.MidOut.lean ====
/- The two output blocks of a grid point of the middle feed-forward call: each row is the block's row, and the row normed. -/
module

public import proofs.«01_k».proof.Proof.MidTile

@[expose] public section

set_option maxRecDepth 16384

noncomputable section

namespace Cert.Mlp

open Idealize.ShloMosaic Cert.KernelMidIdeal Cert.KernelMidIdeal.Gen Idealize.ShloMosaic.TcCoe

variable (m : (ℓ : Loc nD τ sig) → Buf (Elt Ideal) ℓ)

/-- What a point leaves in its block of the stream. -/
theorem mid_out (c : Dev nD) (t : Fin cfg0.N) (y : S1024x1024.Idx) :
    (outsAt0 m c t).1 y = streamAt (iblk m c 0 t) (iblk m c 1 t) (iblk m c 2 t) (iblk m c 3 t) (iblk m c 4 t) (iblk m c 5 t)
      (y 0) (y 1) := by
  unfold outsAt0
  frame_open
  frame_out
  simp only [View.readCov_eq_canon', Memref.IsWhole.read_unread]
  generalize iblk m c 0 t = X
  generalize iblk m c 1 t = A
  generalize iblk m c 2 t = WO
  generalize iblk m c 3 t = G
  generalize iblk m c 4 t = WU
  generalize iblk m c 5 t = WD
  generalize iblk m c 6 t = PG
  refine View.canon_append_of_piecesOf (Val := Elt Ideal) (s := S1024x1024) (e := .f32)
    (fun y => streamAt X A WO G WU WD (y 0) (y 1)) _ [_, _, _, _]
    ⟨fun i => ?_, fun i => ?_, fun i => ?_, fun i => ?_, trivial⟩ y ?_
  · have h := emb_rows 768 inb_S1024x1024_S256x1024_768_0 i
    refine mid_stream3 _ _ _ _ WD i _ h.2 (fun k => ?_) (fun f => unit_read X A WO G WU 768 _ (i 0) _ f h.1)
    have h0 := idx_rows 768 inb_S1024x1024_S256x1024_768_0 (i 0) k _ h.1
    exact (skip 512 _ _ _ _ (by omega)).trans <| (skip 256 _ _ _ _ (by omega)).trans <| (skip 0 _ _ _ _ (by omega)).trans <| acc_at X A WO _ _ k h0.1 h0.2
  · have h := emb_rows 512 inb_S1024x1024_S256x1024_512_0 i
    refine mid_stream2 _ _ _ _ WD i _ h.2 (fun k => ?_) (fun f => unit_read X A WO G WU 512 _ (i 0) _ f h.1)
    have h0 := idx_rows 512 inb_S1024x1024_S256x1024_512_0 (i 0) k _ h.1
    exact (skip 256 _ _ _ _ (by omega)).trans <| (skip 0 _ _ _ _ (by omega)).trans <| acc_at X A WO _ _ k h0.1 h0.2
  · have h := emb_rows 256 inb_S1024x1024_S256x1024_256_0 i
    refine mid_stream1 _ _ _ _ WD i _ h.2 (fun k => ?_) (fun f => unit_read X A WO G WU 256 _ (i 0) _ f h.1)
    have h0 := idx_rows 256 inb_S1024x1024_S256x1024_256_0 (i 0) k _ h.1
    exact (skip 0 _ _ _ _ (by omega)).trans <| acc_at X A WO _ _ k h0.1 h0.2
  · have h := emb_rows 0 inb_S1024x1024_S256x1024_0_0 i
    exact mid_stream0 _ _ _ _ WD i _ h.2 (fun k => accPart_at X A WO 0 _ (i 0) _ k h.1) (fun f => unit_read X A WO G WU 0 _ (i 0) _ f h.1)
  · exact View.cover_of_tiledBy _ ![256, 1024] (by sl_kernel_rfl) y

/-- What a point leaves in its block of normed rows. -/
theorem mid_norm_out (c : Dev nD) (t : Fin cfg0.N) (y : S1024x1024.Idx) :
    (outsAt0 m c t).2 y = outAt (iblk m c 0 t) (iblk m c 1 t) (iblk m c 2 t) (iblk m c 3 t) (iblk m c 4 t) (iblk m c 5 t)
      (iblk m c 6 t) (y 0) (y 1) := by
  unfold outsAt0
  frame_open
  frame_out
  simp only [View.readCov_eq_canon', Memref.IsWhole.read_unread]
  generalize iblk m c 0 t = X
  generalize iblk m c 1 t = A
  generalize iblk m c 2 t = WO
  generalize iblk m c 3 t = G
  generalize iblk m c 4 t = WU
  generalize iblk m c 5 t = WD
  generalize iblk m c 6 t = PG
  refine View.canon_append_of_piecesOf (Val := Elt Ideal) (s := S1024x1024) (e := .bf16)
    (fun y => outAt X A WO G WU WD PG (y 0) (y 1)) _ [_, _, _, _]
    ⟨fun i => ?_, fun i => ?_, fun i => ?_, fun i => ?_, trivial⟩ y ?_
  · have h := emb_rows 768 inb_S1024x1024_S256x1024_768_0 i
    refine mid_norm3 _ _ _ _ WD PG i _ h.2 (fun k => ?_) (fun f => unit_read X A WO G WU 768 _ (i 0) _ f h.1)
    have h0 := idx_rows 768 inb_S1024x1024_S256x1024_768_0 (i 0) k _ h.1
    exact (skip 512 _ _ _ _ (by omega)).trans <| (skip 256 _ _ _ _ (by omega)).trans <| (skip 0 _ _ _ _ (by omega)).trans <| acc_at X A WO _ _ k h0.1 h0.2
  · have h := emb_rows 512 inb_S1024x1024_S256x1024_512_0 i
    refine mid_norm2 _ _ _ _ WD PG i _ h.2 (fun k => ?_) (fun f => unit_read X A WO G WU 512 _ (i 0) _ f h.1)
    have h0 := idx_rows 512 inb_S1024x1024_S256x1024_512_0 (i 0) k _ h.1
    exact (skip 256 _ _ _ _ (by omega)).trans <| (skip 0 _ _ _ _ (by omega)).trans <| acc_at X A WO _ _ k h0.1 h0.2
  · have h := emb_rows 256 inb_S1024x1024_S256x1024_256_0 i
    refine mid_norm1 _ _ _ _ WD PG i _ h.2 (fun k => ?_) (fun f => unit_read X A WO G WU 256 _ (i 0) _ f h.1)
    have h0 := idx_rows 256 inb_S1024x1024_S256x1024_256_0 (i 0) k _ h.1
    exact (skip 0 _ _ _ _ (by omega)).trans <| acc_at X A WO _ _ k h0.1 h0.2
  · have h := emb_rows 0 inb_S1024x1024_S256x1024_0_0 i
    exact mid_norm0 _ _ _ _ WD PG i _ h.2 (fun k => accPart_at X A WO 0 _ (i 0) _ k h.1) (fun f => unit_read X A WO G WU 0 _ (i 0) _ f h.1)
  · exact View.cover_of_tiledBy _ ![256, 1024] (by sl_kernel_rfl) y

end Cert.Mlp

end
-- ==== Proof.MidHost.lean ====
/- The middle feed-forward call's blocks, off its arguments: the host flattens the rows and takes the first layer's weights. -/
module

public import proofs.«01_k».proof.Proof.MidOut
public import Idealize.ShloMosaic.Lib.StableHlo.ReadAt

@[expose] public section

set_option maxRecDepth 16384

noncomputable section

namespace Cert.Mlp

open Idealize.ShloMosaic Cert.KernelMidIdeal Cert.KernelMidIdeal.Gen Idealize.ShloMosaic.TcCoe

variable (m : (ℓ : Loc nD τ sig) → Buf (Elt Ideal) ℓ)

/-- The block index of every operand at a point. -/
theorem midx0 : ∀ t : Fin cfg0.N, win0_0.index t = ![t.val, 0] := by decide +kernel
theorem midx1 : ∀ t : Fin cfg0.N, win0_1.index t = ![t.val, 0] := by decide +kernel
theorem midx2 : ∀ t : Fin cfg0.N, win0_2.index t = ![0, 0, 0] := by decide +kernel
theorem midx3 : ∀ t : Fin cfg0.N, win0_3.index t = ![0, 0] := by decide +kernel
theorem midx4 : ∀ t : Fin cfg0.N, win0_4.index t = ![0, 0, 0] := by decide +kernel
theorem midx5 : ∀ t : Fin cfg0.N, win0_5.index t = ![0, 0, 0] := by decide +kernel
theorem midx6 : ∀ t : Fin cfg0.N, win0_6.index t = ![0, 0] := by decide +kernel
theorem midx8 : ∀ t : Fin cfg0.N, win0_8.index t = ![t.val, 0] := by decide +kernel
theorem midx7 : ∀ t : Fin cfg0.N, win0_7.index t = ![t.val, 0] := by decide +kernel

/-- The flattened rows, off the stream. -/
theorem mv0 (c : Dev nD) (n : Fin 16384) (k : Fin 1024) :
    V m c main_v0 (ix2 n k) = m ((c : Thread nD τ).loc main_arg0) (ix3 ⟨n.val / 4096, by omega⟩ ⟨n.val % 4096, by omega⟩ k) := by
  entry_read
  pointwise

/-- The flattened rows, off the mixer's output. -/
theorem mv2 (c : Dev nD) (n : Fin 16384) (k : Fin 1024) :
    V m c main_v2 (ix2 n k) = m ((c : Thread nD τ).loc main_arg1) (ix3 ⟨n.val / 4096, by omega⟩ ⟨n.val % 4096, by omega⟩ k) := by
  entry_read
  pointwise

/-- The projection's weights. -/
theorem mv3 (c : Dev nD) (k j : Fin 1024) :
    V m c main_v3 (ix3 0 k j) = m ((c : Thread nD τ).loc main_arg2) (ix3 0 k j) := by
  entry_read
  pointwise

/-- The gain of the layer's norm. -/
theorem mv6 (c : Dev nD) (k : Fin 1024) :
    V m c main_v6 (ix2 0 k) = m ((c : Thread nD τ).loc main_arg3) (ix2 0 k) := by
  entry_read
  pointwise

/-- The weights into the hidden layer. -/
theorem mv8 (c : Dev nD) (k : Fin 1024) (f : Fin 4096) :
    V m c main_v8 (ix3 0 k f) = m ((c : Thread nD τ).loc main_arg4) (ix3 0 k f) := by
  entry_read
  pointwise

/-- The weights out of the hidden layer. -/
theorem mv10 (c : Dev nD) (f : Fin 4096) (j : Fin 1024) :
    V m c main_v10 (ix3 0 f j) = m ((c : Thread nD τ).loc main_arg5) (ix3 0 f j) := by
  entry_read
  pointwise

/-- The gain of the next layer's norm. -/
theorem mv12 (c : Dev nD) (k : Fin 1024) :
    V m c main_v12 (ix2 0 k) = m ((c : Thread nD τ).loc main_arg6) (ix2 0 k) := by
  entry_read
  pointwise

/-- Row `r` of point `t`'s rows is row `1024 t + r` of all. -/
def midRow (t : Fin cfg0.N) (r : Fin 1024) : Fin 16384 := ⟨t.val * 1024 + r.val, by have : cfg0.N = 16 := N_0; omega⟩

/-- A point's rows of the stream. -/
theorem mb0 (c : Dev nD) (t : Fin cfg0.N) (r k : Fin 1024) : iblk m c 0 t (ix2 r k) = V m c main_v0 (ix2 (midRow t r) k) := by
  unfold iblk midRow
  blk_ext [midx0 t]

/-- A point's rows of the mixer's output. -/
theorem mb1 (c : Dev nD) (t : Fin cfg0.N) (r k : Fin 1024) : iblk m c 1 t (ix2 r k) = V m c main_v2 (ix2 (midRow t r) k) := by
  unfold iblk midRow
  blk_ext [midx1 t]

/-- A point's weights are the whole arrays. -/
theorem mb2 (c : Dev nD) (t : Fin cfg0.N) (k j : Fin 1024) : iblk m c 2 t (ix3 0 k j) = V m c main_v3 (ix3 0 k j) := by
  unfold iblk
  blk_ext [midx2 t]

theorem mb3 (c : Dev nD) (t : Fin cfg0.N) (k : Fin 1024) : iblk m c 3 t (ix2 0 k) = V m c main_v6 (ix2 0 k) := by
  unfold iblk
  blk_ext [midx3 t]

theorem mb4 (c : Dev nD) (t : Fin cfg0.N) (k : Fin 1024) (f : Fin 4096) :
    iblk m c 4 t (ix3 0 k f) = V m c main_v8 (ix3 0 k f) := by
  unfold iblk
  blk_ext [midx4 t]

theorem mb5 (c : Dev nD) (t : Fin cfg0.N) (f : Fin 4096) (j : Fin 1024) :
    iblk m c 5 t (ix3 0 f j) = V m c main_v10 (ix3 0 f j) := by
  unfold iblk
  blk_ext [midx5 t]

theorem mb6 (c : Dev nD) (t : Fin cfg0.N) (k : Fin 1024) : iblk m c 6 t (ix2 0 k) = V m c main_v12 (ix2 0 k) := by
  unfold iblk
  blk_ext [midx6 t]

end Cert.Mlp

end
-- ==== Proof.MidRef.lean ====
/- The two results of the plain middle block, at an index. -/
module

public import proofs.«01_k».proof.Proof.Gen.ReferenceMidIdeal.Run
public import proofs.«01_k».proof.Proof.FinalRef

@[expose] public section

set_option maxRecDepth 16384

noncomputable section

namespace Cert.Mlp

open Idealize.ShloMosaic Cert.ReferenceMidIdeal Cert.ReferenceMidIdeal.Gen Idealize.ShloMosaic.TcCoe

/-- The first layer's gain, at an index. -/
theorem refGain0_val (w : FVec Ideal S2x1024 .f32) (k : Fin 1024) :
    shapeCast S1024 (extractStridedSlice S1x1024 ![0, 0] w slices_S2x1024_S1x1024_0_0) shapeCasts_S1x1024_S1024 (ix1 k)
      = w (ix2 0 k) := by
  pointwise

/-- The first layer's weights into the hidden layer, at an index. -/
theorem refUp0_val (w : FVec Ideal S2x1024x4096 .f32) (k : Fin 1024) (f : Fin 4096) :
    shapeCast S1024x4096 (extractStridedSlice S1x1024x4096 ![0, 0, 0] w slices_S2x1024x4096_S1x1024x4096_0_0_0)
      shapeCasts_S1x1024x4096_S1024x4096 (ix2 k f) = w (ix3 0 k f) := by
  pointwise

/-- The first layer's weights out of the hidden layer, at an index. -/
theorem refDown0_val (w : FVec Ideal S2x4096x1024 .f32) (f : Fin 4096) (j : Fin 1024) :
    shapeCast S4096x1024 (extractStridedSlice S1x4096x1024 ![0, 0, 0] w slices_S2x4096x1024_S1x4096x1024_0_0_0)
      shapeCasts_S1x4096x1024_S4096x1024 (ix2 f j) = w (ix3 0 f j) := by
  pointwise

/-- The next layer's gain, at an index. -/
theorem refNext_val (w : FVec Ideal S1x1024 .f32) (k : Fin 1024) :
    shapeCast S1024 w shapeCasts_S1x1024_S1024 (ix1 k) = w (ix2 0 k) := by
  pointwise

variable (m : (ℓ : Loc nD τ sig) → Buf (Elt Ideal) ℓ)

/-- The reference's stream after the block. -/
def rMid (c : Dev nD) : FVec Ideal S4x4096x1024 .f32 :=
  rRow (m ((c.tc : Thread nD τ).loc main_arg0)) (m ((c.tc : Thread nD τ).loc main_arg1))
    (shapeCast _ (m ((c.tc : Thread nD τ).loc main_arg2)) shapeCasts_S1x1024x1024_S1024x1024)
    (shapeCast _ (extractStridedSlice S1x1024 ![0, 0] (m ((c.tc : Thread nD τ).loc main_arg3)) slices_S2x1024_S1x1024_0_0) shapeCasts_S1x1024_S1024)
    (shapeCast _ (extractStridedSlice S1x1024x4096 ![0, 0, 0] (m ((c.tc : Thread nD τ).loc main_arg4)) slices_S2x1024x4096_S1x1024x4096_0_0_0)
      shapeCasts_S1x1024x4096_S1024x4096)
    (shapeCast _ (extractStridedSlice S1x4096x1024 ![0, 0, 0] (m ((c.tc : Thread nD τ).loc main_arg5)) slices_S2x4096x1024_S1x4096x1024_0_0_0)
      shapeCasts_S1x4096x1024_S4096x1024)

/-- The reference's first result. -/
theorem refMid0_eq (c : Dev nD) : Value.res_out0 m c = shapeCast _ (rMid m c) shapeCasts_S4x4096x1024_S16384x1024 := rfl

/-- The reference's second result. -/
theorem refMid1_eq (c : Dev nD) : Value.res_out1 m c = truncf .bf16 (shapeCast _ (rRms (rMid m c)
    (shapeCast _ (m ((c.tc : Thread nD τ).loc main_arg6)) shapeCasts_S1x1024_S1024)) shapeCasts_S4x4096x1024_S16384x1024) bitsLt_bf16_f32 := rfl

/-- The reference's stream at an index. -/
theorem rMid_val (c : Dev nD) (b : Fin 4) (s : Fin 4096) (j : Fin 1024) : rMid m c (ix3 b s j)
    = row (fun k => m ((c.tc : Thread nD τ).loc main_arg0) (ix3 b s k)) (fun k => m ((c.tc : Thread nD τ).loc main_arg1) (ix3 b s k))
        (fun k j => m ((c.tc : Thread nD τ).loc main_arg2) (ix3 0 k j)) (fun k => m ((c.tc : Thread nD τ).loc main_arg3) (ix2 0 k))
        (fun k f => m ((c.tc : Thread nD τ).loc main_arg4) (ix3 0 k f)) (fun f j => m ((c.tc : Thread nD τ).loc main_arg5) (ix3 0 f j)) j := by
  unfold rMid
  generalize m ((c.tc : Thread nD τ).loc main_arg0) = X
  generalize m ((c.tc : Thread nD τ).loc main_arg1) = A
  generalize m ((c.tc : Thread nD τ).loc main_arg2) = WO
  generalize m ((c.tc : Thread nD τ).loc main_arg3) = G
  generalize m ((c.tc : Thread nD τ).loc main_arg4) = WU
  generalize m ((c.tc : Thread nD τ).loc main_arg5) = WD
  refine (rRow_val _ _ _ _ _ _ _ _ _).trans (congrFun (row_congr ?_ ?_ ?_ ?_ ?_ ?_) j)
  · exact fun _ => rfl
  · exact fun _ => rfl
  · exact fun k j => refWo_val _ k j
  · exact fun k => refGain0_val _ k
  · exact fun k f => refUp0_val _ k f
  · exact fun f j => refDown0_val _ f j

/-- The reference's first result at an index. -/
theorem refMid0_val (c : Dev nD) (n : Fin 16384) (j : Fin 1024) : Value.res_out0 m c (ix2 n j)
    = rMid m c (ix3 ⟨n.val / 4096, by omega⟩ ⟨n.val % 4096, by omega⟩ j) := by
  rw [refMid0_eq]
  exact flat_val _ n j

/-- The reference's second result at an index. -/
theorem refMid1_val (c : Dev nD) (n : Fin 16384) (j : Fin 1024) : Value.res_out1 m c (ix2 n j)
    = rms (fun k => rMid m c (ix3 ⟨n.val / 4096, by omega⟩ ⟨n.val % 4096, by omega⟩ k))
        (fun k => m ((c.tc : Thread nD τ).loc main_arg6) (ix2 0 k)) j := by
  rw [refMid1_eq]
  generalize rMid m c = Y
  generalize m ((c.tc : Thread nD τ).loc main_arg6) = PG
  refine (flat_val _ n j).trans ((rRms_val _ _ _ _ _).trans (rms_congr (fun _ => rfl) ?_ j))
  exact fun k => refNext_val _ k

end Cert.Mlp

end
-- ==== Proof.MidAlg.lean ====
/- The middle feed-forward call and the plain block end with equal results. -/
module

public import proofs.«01_k».proof.Defs
public import proofs.«01_k».proof.Proof.Gen.KernelMid
public import proofs.«01_k».proof.Proof.Gen.KernelMid.Frame
public import proofs.«01_k».proof.Proof.Gen.KernelMidIdeal.Frame
public import proofs.«01_k».proof.Proof.MidHost
public import proofs.«01_k».proof.Proof.MidRef
public import Idealize.ShloMosaic.Lib.Quiescent

@[expose] public section

set_option maxRecDepth 16384

noncomputable section

namespace Cert.Mlp

open Idealize.ShloMosaic Cert.KernelMidIdeal Cert.KernelMidIdeal.Gen Idealize.ShloMosaic.TcCoe Idealize.SL.Sem

variable (m : (ℓ : Loc nD τ sig) → Buf (Elt Ideal) ℓ)

/-- Row `n` of the stream after the block, of the arguments. -/
def midRowOf (c : Dev nD) (n : Fin 16384) : Fin 1024 → EReal :=
  row (fun k => m ((c : Thread nD τ).loc main_arg0) (ix3 ⟨n.val / 4096, by omega⟩ ⟨n.val % 4096, by omega⟩ k))
    (fun k => m ((c : Thread nD τ).loc main_arg1) (ix3 ⟨n.val / 4096, by omega⟩ ⟨n.val % 4096, by omega⟩ k))
    (fun k j => m ((c : Thread nD τ).loc main_arg2) (ix3 0 k j)) (fun k => m ((c : Thread nD τ).loc main_arg3) (ix2 0 k))
    (fun k f => m ((c : Thread nD τ).loc main_arg4) (ix3 0 k f)) (fun f j => m ((c : Thread nD τ).loc main_arg5) (ix3 0 f j))

/-- The stream's array at a row of point `t`. -/
theorem mid_arr7 (c : Dev nD) (t : Fin cfg0.N) (r j : Fin 1024) :
    (dats m 0 c).arrAt 7 cfg0.N (ix2 (midRow t r) j) = (outsAt0 m c t).1 (ix2 r j) := by
  have hf : (cfg0.win 7).flush t = true := (by decide +kernel : ∀ t : Fin cfg0.N, (cfg0.win 7).flush t = true) t
  have h := congrFun (Value.blocks7 m c t hf) (ix2 r j)
  rw [Value.flushed7] at h
  refine Eq.trans ?_ (h.trans ?_)
  · unfold midRow
    blk_ext [midx7 t]
  · rfl

/-- The normed rows' array at a row of point `t`. -/
theorem mid_arr8 (c : Dev nD) (t : Fin cfg0.N) (r j : Fin 1024) :
    (dats m 0 c).arrAt 8 cfg0.N (ix2 (midRow t r) j) = (outsAt0 m c t).2 (ix2 r j) := by
  have hf : (cfg0.win 8).flush t = true := (by decide +kernel : ∀ t : Fin cfg0.N, (cfg0.win 8).flush t = true) t
  have h := congrFun (Value.blocks8 m c t hf) (ix2 r j)
  rw [Value.flushed8] at h
  refine Eq.trans ?_ (h.trans ?_)
  · unfold midRow
    blk_ext [midx8 t]
  · rfl

/-- A row of point `t` is the block's row of the arguments. -/
theorem streamAt_eq (c : Dev nD) (t : Fin cfg0.N) (r : Fin 1024) :
    streamAt (iblk m c 0 t) (iblk m c 1 t) (iblk m c 2 t) (iblk m c 3 t) (iblk m c 4 t) (iblk m c 5 t) r = midRowOf m c (midRow t r) := by
  refine row_congr ?_ ?_ ?_ ?_ ?_ ?_
  · exact fun k => (mb0 m c t r k).trans (mv0 m c _ k)
  · exact fun k => (mb1 m c t r k).trans (mv2 m c _ k)
  · exact fun k j => (mb2 m c t k j).trans (mv3 m c k j)
  · exact fun k => (mb3 m c t k).trans (mv6 m c k)
  · exact fun k f => (mb4 m c t k f).trans (mv8 m c k f)
  · exact fun f j => (mb5 m c t f j).trans (mv10 m c f j)

/-- Every row is some point's. -/
theorem exists_midRow (n : Fin 16384) : ∃ t r, n = midRow t r := by
  have hN : cfg0.N = 16 := N_0
  exact ⟨⟨n.val / 1024, by omega⟩, ⟨n.val % 1024, by omega⟩, Fin.ext (by show n.val = n.val / 1024 * 1024 + n.val % 1024; omega)⟩

/-- The first result array, at an index. -/
theorem mid_val0 (c : Dev nD) (n : Fin 16384) (j : Fin 1024) : (dats m 0 c).arrAt 7 cfg0.N (ix2 n j) = midRowOf m c n j := by
  obtain ⟨t, r, rfl⟩ := exists_midRow n
  exact (mid_arr7 m c t r j).trans ((mid_out m c t _).trans (congrFun (streamAt_eq m c t r) j))

/-- The second result array, at an index. -/
theorem mid_val1 (c : Dev nD) (n : Fin 16384) (j : Fin 1024) :
    (dats m 0 c).arrAt 8 cfg0.N (ix2 n j) = rms (midRowOf m c n) (fun k => m ((c : Thread nD τ).loc main_arg6) (ix2 0 k)) j := by
  obtain ⟨t, r, rfl⟩ := exists_midRow n
  exact (mid_arr8 m c t r j).trans ((mid_norm_out m c t _).trans
    (rms_congr (congrFun (streamAt_eq m c t r)) (fun k => (mb6 m c t k).trans (mv12 m c k)) j))

/-- The middle feed-forward call and the plain block end with equal results. -/
theorem algebraic_mid : Cert.algebraic_KernelMidIdeal_ReferenceMidIdeal := by
  intro m g m' g' _ hagree
  refine ⟨_, _, Cert.KernelMidIdeal.Value.run_blocks (F := Ideal) m g, ?_⟩
  refine (θ_run Cert.ReferenceMidIdeal.defs _ _).mono (fun _ h c => ?_) (Cert.ReferenceMidIdeal.Value.run m' g')
  obtain ⟨r0, r1, rest⟩ := h c
  obtain ⟨a0, a1, a2, a3, a4, a5, a6⟩ := hagree c
  have key : ∀ (n : Fin 16384) (j : Fin 1024),
      rMid m' c (ix3 ⟨n.val / 4096, by omega⟩ ⟨n.val % 4096, by omega⟩ j) = midRowOf m c n j := fun n j => by
    refine (rMid_val m' c _ _ j).trans ?_
    rw [a0, a1, a2, a3, a4, a5]
    rfl
  refine ⟨r0.trans (funext fun i => ?_), r1.trans (funext fun i => ?_), rest⟩
  · idx_vars i
    exact (refMid0_val m' c i0 i1).trans ((key i0 i1).trans (mid_val0 m c i0 i1).symm)
  · idx_vars i
    refine (refMid1_val m' c i0 i1).trans (Eq.trans ?_ (mid_val1 m c i0 i1).symm)
    refine rms_congr (key i0) (fun k => ?_) i1
    rw [a6]

/-- The middle feed-forward call runs from every memory, leaves its arguments and ends quiescent. -/
theorem frame_mid : quiescent_KernelMid := fun m ρ _ => Cert.KernelMid.Gen.frame m ρ

/-- So does its idealisation. -/
theorem frame_mid_ideal : quiescent_KernelMidIdeal := fun m ρ _ => Cert.KernelMidIdeal.Gen.frame m ρ

/-- So does the plain block. -/
theorem frame_mid_ref : quiescent_ReferenceMidIdeal := fun m ρ _ =>
  (θ_run Cert.ReferenceMidIdeal.defs _ _).mono
    (fun r h => ⟨fun c => (h c).2.2, Idealize.ShloMosaic.sem_eq_zero_of_no_sems (by decide) r.2⟩)
    (Cert.ReferenceMidIdeal.Value.run m ρ)

end Cert.Mlp

end
-- ==== Proof.QkvTile.lean ====
/- The pieces that the qkv projection's call stores, at an index. -/
module

public import proofs.«01_k».proof.Proof.Mlp
public import proofs.«01_k».proof.Proof.Gen.KernelQkvIdeal.Value
public import Idealize.ShloMosaic.Lib.Pipeline.ValueKit
public import Idealize.ShloMosaic.Lib.Pipeline.ReadBack

@[expose] public section

set_option maxRecDepth 16384

noncomputable section

namespace Cert.Mlp

open Idealize.ShloMosaic Cert.KernelQkvIdeal Cert.KernelQkvIdeal.Gen Idealize.ShloMosaic.TcCoe

/-- A column of the projection of a row's RMS norm. -/
def normDot (x g w : Fin 1024 → EReal) : EReal := ∑ k, rms x g k * w k

/-- The scale of the queries: that of the scores, in the unit in which the softmax's exponential is a power of two. -/
def qScale : EReal := (((1 / 8) * (Real.log 2)⁻¹ : ℝ) : EReal)

/-- Projections of equal operands are equal. -/
theorem normDot_congr {x x' g g' w w' : Fin 1024 → EReal} (hx : ∀ k, x k = x' k) (hg : ∀ k, g k = g' k) (hw : ∀ k, w k = w' k) :
    normDot x g w = normDot x' g' w' := by
  obtain rfl := funext hx
  obtain rfl := funext hg
  obtain rfl := funext hw
  rfl

/-- What a grid point leaves at row `n` and column `j` of its block: the queries scaled, the keys and values as projected. -/
def qkvAt (x : FVec Ideal S1024x1024 .f32) (g : FVec Ideal S1x1024 .f32) (w : S1024x3072.Idx → EReal) (n : Fin 1024) (j : Fin 3072) :
    EReal :=
  if j.val < 1024 then normDot (fun k => x (ix2 n k)) (fun k => g (ix2 0 k)) (fun k => w (ix2 k j)) * qScale
  else normDot (fun k => x (ix2 n k)) (fun k => g (ix2 0 k)) (fun k => w (ix2 k j))

variable (x : FVec Ideal S256x1024 .f32) (g : FVec Ideal S1x1024 .f32) (w : FVec Ideal S1024x1024 .bf16)

/-- The normed rows of a part. -/
theorem qkv_norm (r : Fin 256) (k : Fin 1024) :
    k0_pay8 (F := Ideal) x g (ix2 r k) = rms (fun k => x (ix2 r k)) (fun k => g (ix2 0 k)) k := by
  unfold k0_pay8 rms
  pointwise

/-- The product of a part's rows with a column group. -/
theorem group_val (h : FVec Ideal S256x1024 .f32) (r : Fin 256) (j : Fin 1024) :
    k0_pay11 (F := Ideal) h w (ix2 r j) = ∑ k : Fin 1024, h (ix2 r k) * w (ix2 k j) := by
  unfold k0_pay11 k0_pay9
  pointwise

/-- The product with the queries' columns, scaled. -/
theorem query_val (h : FVec Ideal S256x1024 .f32) (r : Fin 256) (j : Fin 1024) :
    k0_pay10 (F := Ideal) h w (ix2 r j) = (∑ k : Fin 1024, h (ix2 r k) * w (ix2 k j)) * qScale := by
  unfold k0_pay10 k0_pay9
  pointwise
  rfl

/-- The keys and values of a part. -/
theorem group_piece (i : S256x1024.Idx) : k0_pay11 (F := Ideal) (k0_pay8 x g) w i
    = normDot (fun k => x (ix2 (i 0) k)) (fun k => g (ix2 0 k)) (fun k => w (ix2 k (i 1))) := by
  rw [eq_ix2 i]
  exact (group_val w _ _ _).trans (Finset.sum_congr rfl fun k _ => congrArg (· * _) (qkv_norm x g _ k))

/-- The queries of a part. -/
theorem query_piece (i : S256x1024.Idx) : k0_pay10 (F := Ideal) (k0_pay8 x g) w i
    = normDot (fun k => x (ix2 (i 0) k)) (fun k => g (ix2 0 k)) (fun k => w (ix2 k (i 1))) * qScale := by
  rw [eq_ix2 i]
  exact (query_val w _ _ _).trans (congrArg (· * _) (Finset.sum_congr rfl fun k _ => congrArg (· * _) (qkv_norm x g _ k)))

/-- The values of the first part are computed as its keys are. -/
theorem values0 : k0_pay12 (F := Ideal) (k0_pay8 x g) w = k0_pay11 (k0_pay8 x g) w := rfl

/-- The second part is computed as the first. -/
theorem part1 : k0_pay14 (F := Ideal) (k0_pay13 x g) w = k0_pay10 (k0_pay8 x g) w
    ∧ k0_pay15 (F := Ideal) (k0_pay13 x g) w = k0_pay11 (k0_pay8 x g) w
    ∧ k0_pay16 (F := Ideal) (k0_pay13 x g) w = k0_pay11 (k0_pay8 x g) w := ⟨rfl, rfl, rfl⟩

/-- So is the third. -/
theorem part2 : k0_pay19 (F := Ideal) (k0_pay18 x g w) = k0_pay10 (k0_pay8 x g) w
    ∧ k0_pay20 (F := Ideal) (k0_pay17 x g) w = k0_pay11 (k0_pay8 x g) w
    ∧ k0_pay21 (F := Ideal) (k0_pay17 x g) w = k0_pay11 (k0_pay8 x g) w := ⟨rfl, rfl, rfl⟩

/-- So is the fourth. -/
theorem part3 : k0_pay1 (F := Ideal) (k0_pay23 x g w) = k0_pay10 (k0_pay8 x g) w
    ∧ k0_pay2 (F := Ideal) (k0_pay22 x g) w = k0_pay11 (k0_pay8 x g) w
    ∧ k0_pay3 (F := Ideal) (k0_pay22 x g) w = k0_pay11 (k0_pay8 x g) w := ⟨rfl, rfl, rfl⟩

end Cert.Mlp

end
-- ==== Proof.QkvOut.lean ====
/- The weights held in scratch, and the block of projected rows that every grid point of the qkv call leaves. -/
module

public import proofs.«01_k».proof.Proof.QkvTile

@[expose] public section

set_option maxRecDepth 16384

noncomputable section

namespace Cert.Mlp

open Idealize.ShloMosaic Cert.KernelQkvIdeal Cert.KernelQkvIdeal.Gen Idealize.ShloMosaic.TcCoe

/-- A column group's weights of the whole scratch. -/
abbrev groupOf (w : S1024x3072.Idx → EReal) (q : ℕ) (inb : ∀ b, ![0, q] b + ![1024, 1024] b ≤ S1024x3072.size b) :
    FVec Ideal S1024x1024 .bf16 :=
  fun j => w ((Rect.unit (s := S1024x3072) ![0, q] ![1024, 1024] inb).idx j)

/-- The operands of the part of the block at row `o` and column `q`: the block's row, and the weights' column. -/
theorem part_dot (x : FVec Ideal S1024x1024 .f32) (g : FVec Ideal S1x1024 .f32) (w : S1024x3072.Idx → EReal) (o q : ℕ) (inbx inbw inbo)
    (i : S256x1024.Idx) :
    normDot (fun k => View.ld (Val := Elt Ideal) (e' := .f32) x (Rect.unit (s := S1024x1024) ![o, 0] ![256, 1024] inbx) (ix2 (i 0) k)) (fun k => g (ix2 0 k))
        (fun k => groupOf w q inbw (ix2 k (i 1)))
      = normDot (fun k => x (ix2 ((Rect.unit (s := S1024x3072) ![o, q] ![256, 1024] inbo).emb i 0) k)) (fun k => g (ix2 0 k))
        (fun k => w (ix2 k ((Rect.unit (s := S1024x3072) ![o, q] ![256, 1024] inbo).emb i 1))) := by
  refine normDot_congr (fun k => congrArg x ?_) (fun _ => rfl) (fun k => congrArg w ?_)
  · funext a
    match a with
    | ⟨0, _⟩ => exact Fin.ext ((Rect.idx_unit_val _ _ _ _ _).trans (Rect.idx_unit_val _ _ _ _ _).symm)
    | ⟨1, _⟩ => exact Fin.ext ((Rect.idx_unit_val _ _ _ _ _).trans (Nat.zero_add _))
  · funext a
    match a with
    | ⟨0, _⟩ => exact Fin.ext ((Rect.idx_unit_val _ _ _ _ _).trans (Nat.zero_add _))
    | ⟨1, _⟩ => exact Fin.ext ((Rect.idx_unit_val _ _ _ _ _).trans (Rect.idx_unit_val _ _ _ _ _).symm)

/-- The queries of the part at row `o`. -/
theorem query_at (x : FVec Ideal S1024x1024 .f32) (g : FVec Ideal S1x1024 .f32) (w : S1024x3072.Idx → EReal) (o : ℕ) (inbx inbw inbo)
    (i : S256x1024.Idx) :
    k0_pay10 (F := Ideal) (k0_pay8 (View.ld (Val := Elt Ideal) (e' := .f32) x (Rect.unit (s := S1024x1024) ![o, 0] ![256, 1024] inbx)) g) (groupOf w 0 inbw) i
      = qkvAt x g w ((Rect.unit (s := S1024x3072) ![o, 0] ![256, 1024] inbo).emb i 0) ((Rect.unit (s := S1024x3072) ![o, 0] ![256, 1024] inbo).emb i 1) := by
  refine (query_piece _ _ _ i).trans ((congrArg (· * qScale) (part_dot x g w o 0 inbx inbw inbo i)).trans ?_)
  unfold qkvAt
  rw [if_pos]
  exact lt_of_eq_of_lt ((Rect.idx_unit_val _ _ _ _ _).trans (Nat.zero_add _)) (i 1).isLt

/-- The keys or values of the part at row `o`. -/
theorem group_at (x : FVec Ideal S1024x1024 .f32) (g : FVec Ideal S1x1024 .f32) (w : S1024x3072.Idx → EReal) (o q : ℕ) (inbx inbw inbo)
    (hq : 1024 ≤ q) (i : S256x1024.Idx) :
    k0_pay11 (F := Ideal) (k0_pay8 (View.ld (Val := Elt Ideal) (e' := .f32) x (Rect.unit (s := S1024x1024) ![o, 0] ![256, 1024] inbx)) g) (groupOf w q inbw) i
      = qkvAt x g w ((Rect.unit (s := S1024x3072) ![o, q] ![256, 1024] inbo).emb i 0) ((Rect.unit (s := S1024x3072) ![o, q] ![256, 1024] inbo).emb i 1) := by
  refine (group_piece _ _ _ i).trans ((part_dot x g w o q inbx inbw inbo i).trans ?_)
  unfold qkvAt
  rw [if_neg]
  have h : ((Rect.unit (s := S1024x3072) ![o, q] ![256, 1024] inbo).emb i 1).val = q + (i 1).val := Rect.idx_unit_val _ _ _ _ _
  omega

/-- The normed rows of the part at row `o`. -/
abbrev normPart (x : FVec Ideal S1024x1024 .f32) (g : FVec Ideal S1x1024 .f32) (o : ℕ)
    (inb : ∀ b, ![o, 0] b + ![256, 1024] b ≤ S1024x1024.size b) : FVec Ideal S256x1024 .f32 :=
  k0_pay8 (F := Ideal) (View.ld (Val := Elt Ideal) (e' := .f32) x (Rect.unit (s := S1024x1024) ![o, 0] ![256, 1024] inb)) g

/-- The twelve stores of a point's block, over the weights in scratch. -/
abbrev blockPieces (x : FVec Ideal S1024x1024 .f32) (g : FVec Ideal S1x1024 .f32) (w : S1024x3072.Idx → EReal) :
    List (View.Piece (Elt Ideal) S1024x3072 .bf16) :=
  [⟨Rect.unit ![768, 2048] ![256, 1024] inb_S1024x3072_S256x1024_768_2048, k0_pay11 (F := Ideal) (normPart x g 768 inb_S1024x1024_S256x1024_768_0) (groupOf w 2048 inb_S1024x3072_S1024x1024_0_2048)⟩,
   ⟨Rect.unit ![768, 1024] ![256, 1024] inb_S1024x3072_S256x1024_768_1024, k0_pay11 (F := Ideal) (normPart x g 768 inb_S1024x1024_S256x1024_768_0) (groupOf w 1024 inb_S1024x3072_S1024x1024_0_1024)⟩,
   ⟨Rect.unit ![768, 0] ![256, 1024] inb_S1024x3072_S256x1024_768_0, k0_pay10 (F := Ideal) (normPart x g 768 inb_S1024x1024_S256x1024_768_0) (groupOf w 0 inb_S1024x3072_S1024x1024_0_0)⟩,
   ⟨Rect.unit ![512, 2048] ![256, 1024] inb_S1024x3072_S256x1024_512_2048, k0_pay11 (F := Ideal) (normPart x g 512 inb_S1024x1024_S256x1024_512_0) (groupOf w 2048 inb_S1024x3072_S1024x1024_0_2048)⟩,
   ⟨Rect.unit ![512, 1024] ![256, 1024] inb_S1024x3072_S256x1024_512_1024, k0_pay11 (F := Ideal) (normPart x g 512 inb_S1024x1024_S256x1024_512_0) (groupOf w 1024 inb_S1024x3072_S1024x1024_0_1024)⟩,
   ⟨Rect.unit ![512, 0] ![256, 1024] inb_S1024x3072_S256x1024_512_0, k0_pay10 (F := Ideal) (normPart x g 512 inb_S1024x1024_S256x1024_512_0) (groupOf w 0 inb_S1024x3072_S1024x1024_0_0)⟩,
   ⟨Rect.unit ![256, 2048] ![256, 1024] inb_S1024x3072_S256x1024_256_2048, k0_pay11 (F := Ideal) (normPart x g 256 inb_S1024x1024_S256x1024_256_0) (groupOf w 2048 inb_S1024x3072_S1024x1024_0_2048)⟩,
   ⟨Rect.unit ![256, 1024] ![256, 1024] inb_S1024x3072_S256x1024_256_1024, k0_pay11 (F := Ideal) (normPart x g 256 inb_S1024x1024_S256x1024_256_0) (groupOf w 1024 inb_S1024x3072_S1024x1024_0_1024)⟩,
   ⟨Rect.unit ![256, 0] ![256, 1024] inb_S1024x3072_S256x1024_256_0, k0_pay10 (F := Ideal) (normPart x g 256 inb_S1024x1024_S256x1024_256_0) (groupOf w 0 inb_S1024x3072_S1024x1024_0_0)⟩,
   ⟨Rect.unit ![0, 2048] ![256, 1024] inb_S1024x3072_S256x1024_0_2048, k0_pay11 (F := Ideal) (normPart x g 0 inb_S1024x1024_S256x1024_0_0) (groupOf w 2048 inb_S1024x3072_S1024x1024_0_2048)⟩,
   ⟨Rect.unit ![0, 1024] ![256, 1024] inb_S1024x3072_S256x1024_0_1024, k0_pay11 (F := Ideal) (normPart x g 0 inb_S1024x1024_S256x1024_0_0) (groupOf w 1024 inb_S1024x3072_S1024x1024_0_1024)⟩,
   ⟨Rect.unit ![0, 0] ![256, 1024] inb_S1024x3072_S256x1024_0_0, k0_pay10 (F := Ideal) (normPart x g 0 inb_S1024x1024_S256x1024_0_0) (groupOf w 0 inb_S1024x3072_S1024x1024_0_0)⟩]

/-- The block they leave. -/
theorem block_val (x : FVec Ideal S1024x1024 .f32) (g : FVec Ideal S1x1024 .f32) (w : S1024x3072.Idx → EReal) (y : S1024x3072.Idx) :
    View.canon (blockPieces x g w) y = qkvAt x g w (y 0) (y 1) := by
  refine View.canon_append_of_piecesOf (Val := Elt Ideal) (s := S1024x3072) (e := .bf16)
    (fun y => qkvAt x g w (y 0) (y 1)) [] (blockPieces x g w)
    ⟨group_at x g w 768 2048 _ _ inb_S1024x3072_S256x1024_768_2048 (by decide),
     group_at x g w 768 1024 _ _ inb_S1024x3072_S256x1024_768_1024 (by decide),
     query_at x g w 768 _ _ inb_S1024x3072_S256x1024_768_0,
     group_at x g w 512 2048 _ _ inb_S1024x3072_S256x1024_512_2048 (by decide),
     group_at x g w 512 1024 _ _ inb_S1024x3072_S256x1024_512_1024 (by decide),
     query_at x g w 512 _ _ inb_S1024x3072_S256x1024_512_0,
     group_at x g w 256 2048 _ _ inb_S1024x3072_S256x1024_256_2048 (by decide),
     group_at x g w 256 1024 _ _ inb_S1024x3072_S256x1024_256_1024 (by decide),
     query_at x g w 256 _ _ inb_S1024x3072_S256x1024_256_0,
     group_at x g w 0 2048 _ _ inb_S1024x3072_S256x1024_0_2048 (by decide),
     group_at x g w 0 1024 _ _ inb_S1024x3072_S256x1024_0_1024 (by decide),
     query_at x g w 0 _ _ inb_S1024x3072_S256x1024_0_0, trivial⟩ y ?_
  exact View.cover_of_tiledBy _ ![256, 1024] (by sl_kernel_rfl) y

/-- The weights as the first point's store leaves them. -/
theorem stored_val (w : FVec Ideal S1024x3072 .f32) (z : S1024x3072.Idx) :
    View.canon (Val := Elt Ideal) (s := S1024x3072) (e := .bf16)
      [⟨Rect.unit ![0, 0] ![1024, 3072] inb_S1024x3072_S1024x3072_0_0, k0_pay4 (F := Ideal) w⟩] z = w z := by
  refine View.canon_append_of_piecesOf (Val := Elt Ideal) (s := S1024x3072) (e := .bf16) (fun z => w z) [] [_] ⟨fun i => ?_, trivial⟩ z ?_
  · have h : (Rect.unit (s := S1024x3072) ![0, 0] ![1024, 3072] inb_S1024x3072_S1024x3072_0_0).emb i = i := by
      funext a
      exact Fin.ext ((Rect.idx_unit_val _ _ _ _ _).trans (by match a with | ⟨0, _⟩ => exact Nat.zero_add _ | ⟨1, _⟩ => exact Nat.zero_add _))
    rw [h]
    unfold k0_pay4
    idx_vars i
    pointwise
  · exact View.cover_of_tiledBy _ ![1024, 3072] (by sl_kernel_rfl) z

variable (m : (ℓ : Loc nD τ sig) → Buf (Elt Ideal) ℓ)

/-- What a later point leaves in its block, over the weights it finds in scratch. -/
theorem outB (c : Dev nD) (t : Fin cfg0.N) (h : ¬ t.val % 16 = 0) (y : S1024x3072.Idx) :
    (outsAt0 m c t.val t.isLt).1 y = qkvAt (iblk m c 0 t) (iblk m c 1 t)
      (outsAt0 m c (t.val - 1) (by have := t.isLt; omega)).2.2.2.2 (y 0) (y 1) := by
  rw [Gen.outsAt0_B m c t h]
  frame_open
  frame_out
  generalize iblk m c 0 t = X
  generalize iblk m c 1 t = A
  generalize (outsAt0 m c (t.val - 1) _).2.2.2.2 = S
  have e := read_unread_whole (Val := Elt Ideal) cc0_scratch0 (Memref.isWhole_whole _) S
  refine (block_val X A _ y).trans ?_
  exact congrArg (fun w => qkvAt X A w (y 0) (y 1)) e

/-- What the first point leaves in its block, over the weights it is given. -/
theorem outA (c : Dev nD) (t : Fin cfg0.N) (h : t.val % 16 = 0) (y : S1024x3072.Idx) :
    (outsAt0 m c t.val t.isLt).1 y = qkvAt (iblk m c 0 t) (iblk m c 1 t) (iblk m c 2 t) (y 0) (y 1) := by
  rw [Gen.outsAt0_A m c t h]
  frame_open
  frame_out
  simp only [View.readCov_eq_canon', Memref.IsWhole.read_unread]
  generalize iblk m c 0 t = X
  generalize iblk m c 1 t = A
  generalize iblk m c 2 t = W
  refine (block_val X A _ y).trans ?_
  exact congrArg (fun w => qkvAt X A w (y 0) (y 1)) (funext (stored_val W))

/-- The weights in scratch after the first point. -/
theorem heldA (c : Dev nD) (t : Fin cfg0.N) (h : t.val % 16 = 0) (y : S1024x3072.Idx) :
    (outsAt0 m c t.val t.isLt).2.2.2.2 y = (iblk m c 2 t : S1024x3072.Idx → EReal) y := by
  rw [Gen.outsAt0_A m c t h]
  frame_open
  frame_out
  generalize iblk m c 2 t = W
  unfold k0_pay4
  idx_vars y
  pointwise

end Cert.Mlp

end
-- ==== Proof.QkvHost.lean ====
/- The qkv call's blocks, off its arguments, and the weights that scratch holds at every grid point. -/
module

public import proofs.«01_k».proof.Proof.QkvOut
public import Idealize.ShloMosaic.Lib.StableHlo.ReadAt

@[expose] public section

set_option maxRecDepth 16384

noncomputable section

namespace Cert.Mlp

open Idealize.ShloMosaic Cert.KernelQkvIdeal Cert.KernelQkvIdeal.Gen Idealize.ShloMosaic.TcCoe

variable (m : (ℓ : Loc nD τ sig) → Buf (Elt Ideal) ℓ)

/-- The block index of every operand at a point. -/
theorem qidx0 : ∀ t : Fin cfg0.N, win0_0.index t = ![t.val, 0] := by decide +kernel
theorem qidx1 : ∀ t : Fin cfg0.N, win0_1.index t = ![0, 0] := by decide +kernel
theorem qidx2 : ∀ t : Fin cfg0.N, win0_2.index t = ![0, 0] := by decide +kernel

/-- The flattened rows, off the stream. -/
theorem qv0 (c : Dev nD) (n : Fin 16384) (k : Fin 1024) :
    V m c main_v0 (ix2 n k) = m ((c : Thread nD τ).loc main_arg0) (ix3 ⟨n.val / 4096, by omega⟩ ⟨n.val % 4096, by omega⟩ k) := by
  entry_read
  pointwise

/-- The gain of the norm. -/
theorem qv2 (c : Dev nD) (k : Fin 1024) :
    V m c main_v2 (ix2 0 k) = m ((c : Thread nD τ).loc main_arg1) (ix2 0 k) := by
  entry_read
  pointwise

/-- The projection's weights. -/
theorem qv3 (c : Dev nD) (k : Fin 1024) (j : Fin 3072) :
    V m c main_v3 (ix2 k j) = m ((c : Thread nD τ).loc main_arg2) (ix3 0 k j) := by
  entry_read
  pointwise

/-- Row `r` of point `t`'s rows is row `1024 t + r` of all. -/
def qkvRow (t : Fin cfg0.N) (r : Fin 1024) : Fin 16384 := ⟨t.val * 1024 + r.val, by have : cfg0.N = 16 := N_0; omega⟩

/-- A point's rows of the stream. -/
theorem qb0 (c : Dev nD) (t : Fin cfg0.N) (r k : Fin 1024) : iblk m c 0 t (ix2 r k) = V m c main_v0 (ix2 (qkvRow t r) k) := by
  unfold iblk qkvRow
  blk_ext [qidx0 t]

/-- A point's gain and weights are the whole arrays. -/
theorem qb1 (c : Dev nD) (t : Fin cfg0.N) (k : Fin 1024) : iblk m c 1 t (ix2 0 k) = V m c main_v2 (ix2 0 k) := by
  unfold iblk
  blk_ext [qidx1 t]

theorem qb2 (c : Dev nD) (t : Fin cfg0.N) (k : Fin 1024) (j : Fin 3072) : iblk m c 2 t (ix2 k j) = V m c main_v3 (ix2 k j) := by
  unfold iblk
  blk_ext [qidx2 t]

/-- A later point leaves the scratch as it was. -/
theorem heldB (c : Dev nD) (n : ℕ) (h : n < cfg0.N) (hn : ¬ n % 16 = 0) :
    (outsAt0 m c n h).2.2.2.2 = (outsAt0 m c (n - 1) (by omega)).2.2.2.2 := by
  rw [Gen.outsAt0_B m c ⟨n, h⟩ hn]
  dsimp only
  unfold sout0_B_0
  rfl

/-- The scratch holds the weights after every point. -/
theorem held (c : Dev nD) : ∀ (n : ℕ) (h : n < cfg0.N) (k : Fin 1024) (j : Fin 3072),
    (outsAt0 m c n h).2.2.2.2 (ix2 k j) = V m c main_v3 (ix2 k j) := by
  intro n
  induction n with
  | zero => exact fun h k j => (heldA m c ⟨0, h⟩ rfl _).trans (qb2 m c ⟨0, h⟩ k j)
  | succ n ih =>
    intro h k j
    have hN : cfg0.N = 16 := N_0
    exact (congrFun (heldB m c (n + 1) h (by omega)) _).trans (ih (by omega) k j)

/-- A row of the projection at a column, off the arguments. -/
def qkvOf (x : FVec Ideal S4x4096x1024 .f32) (g : FVec Ideal S1x1024 .f32) (w : FVec Ideal S1x1024x3072 .f32) (n : Fin 16384)
    (j : Fin 3072) : EReal :=
  normDot (fun k => x (ix3 ⟨n.val / 4096, by omega⟩ ⟨n.val % 4096, by omega⟩ k)) (fun k => g (ix2 0 k)) (fun k => w (ix3 0 k j))

/-- What a point leaves in its block, off the arguments. -/
theorem qkv_out (c : Dev nD) (t : Fin cfg0.N) (r : Fin 1024) (j : Fin 3072) :
    (outsAt0 m c t.val t.isLt).1 (ix2 r j)
      = if j.val < 1024 then qkvOf (m ((c : Thread nD τ).loc main_arg0)) (m ((c : Thread nD τ).loc main_arg1))
          (m ((c : Thread nD τ).loc main_arg2)) (qkvRow t r) j * qScale
        else qkvOf (m ((c : Thread nD τ).loc main_arg0)) (m ((c : Thread nD τ).loc main_arg1))
          (m ((c : Thread nD τ).loc main_arg2)) (qkvRow t r) j := by
  have key : ∀ w : S1024x3072.Idx → EReal, (∀ (k : Fin 1024) (j : Fin 3072), w (ix2 k j) = V m c main_v3 (ix2 k j)) →
      normDot (fun k => iblk m c 0 t (ix2 r k)) (fun k => iblk m c 1 t (ix2 0 k)) (fun k => w (ix2 k j))
        = qkvOf (m ((c : Thread nD τ).loc main_arg0)) (m ((c : Thread nD τ).loc main_arg1))
          (m ((c : Thread nD τ).loc main_arg2)) (qkvRow t r) j := fun w hw =>
    normDot_congr (fun k => (qb0 m c t r k).trans (qv0 m c _ k)) (fun k => (qb1 m c t k).trans (qv2 m c k))
      (fun k => (hw k j).trans (qv3 m c k j))
  have out : ∀ w : S1024x3072.Idx → EReal, (∀ (k : Fin 1024) (j : Fin 3072), w (ix2 k j) = V m c main_v3 (ix2 k j)) →
      (outsAt0 m c t.val t.isLt).1 (ix2 r j) = qkvAt (iblk m c 0 t) (iblk m c 1 t) w r j →
      (outsAt0 m c t.val t.isLt).1 (ix2 r j)
      = if j.val < 1024 then qkvOf (m ((c : Thread nD τ).loc main_arg0)) (m ((c : Thread nD τ).loc main_arg1))
          (m ((c : Thread nD τ).loc main_arg2)) (qkvRow t r) j * qScale
        else qkvOf (m ((c : Thread nD τ).loc main_arg0)) (m ((c : Thread nD τ).loc main_arg1))
          (m ((c : Thread nD τ).loc main_arg2)) (qkvRow t r) j := by
    intro w hw h
    rw [h, ← key w hw]
    rfl
  by_cases hz : t.val % 16 = 0
  · exact out _ (fun k j => qb2 m c t k j) (outA m c t hz _)
  · exact out _ (fun k j => held m c _ _ k j) (outB m c t hz _)

end Cert.Mlp

end
-- ==== Proof.QkvSide.lean ====
/- The other results of the qkv call: weights of later calls, in the narrow format. -/
module

public import proofs.«01_k».proof.Proof.QkvHost

@[expose] public section

set_option maxRecDepth 16384

noncomputable section

namespace Cert.Mlp

open Idealize.ShloMosaic Cert.KernelQkvIdeal Cert.KernelQkvIdeal.Gen Idealize.ShloMosaic.TcCoe

variable (m : (ℓ : Loc nD τ sig) → Buf (Elt Ideal) ℓ)

/-- A point's block of argument 3, and of result 1. -/
theorem qidx3 : ∀ t : Fin cfg0.N, win0_3.index t = ![0, t.val, 0] := by decide +kernel
theorem qidx7 : ∀ t : Fin cfg0.N, win0_7.index t = ![0, t.val, 0] := by decide +kernel

/-- A point leaves in result 1 the block of argument 3 that it is given. -/
theorem qcast7 (c : Dev nD) (t : Fin cfg0.N) (y : S1x64x1024.Idx) :
    (outsAt0 m c t.val t.isLt).2.1 y = (iblk m c 3 t : S1x64x1024.Idx → EReal) y := by
  by_cases h : t.val % 16 = 0
  · rw [Gen.outsAt0_A m c t h]
    frame_open
    frame_out
    unfold k0_pay5
    idx_vars y
    pointwise
  · rw [Gen.outsAt0_B m c t h]
    frame_open
    frame_out
    unfold k0_pay5
    idx_vars y
    pointwise

/-- Result 1, the projection out of the attention, at an index. -/
theorem qside7 (c : Dev nD) (n : Fin 1024) (w : Fin 1024) :
    (dats m 0 c).arrAt 7 cfg0.N (ix3 0 n w) = (m ((c : Thread nD τ).loc main_arg3) : S1x1024x1024.Idx → EReal) (ix3 0 n w) := by
  have hN : cfg0.N = 16 := N_0
  obtain ⟨t, r, rfl⟩ : ∃ (t : Fin cfg0.N) (r : Fin 64), n = ⟨t.val * 64 + r.val, by omega⟩ :=
    ⟨⟨n.val / 64, by omega⟩, ⟨n.val % 64, by omega⟩, Fin.ext (by show n.val = n.val / 64 * 64 + n.val % 64; omega)⟩
  have hf : (cfg0.win 7).flush t = true := (by decide +kernel : ∀ t : Fin cfg0.N, (cfg0.win 7).flush t = true) t
  have h := congrFun (Value.blocks7 m c t hf) (ix3 0 r w)
  rw [Value.flushed7] at h
  refine Eq.trans ?_ (h.trans ?_)
  · blk_ext [qidx7 t]
  · refine (qcast7 m c t (ix3 0 r w)).trans ?_
    rw [← V_main_arg3 m c]
    unfold iblk
    blk_ext [qidx3 t]

/-- A point's block of argument 4, and of result 2. -/
theorem qidx4 : ∀ t : Fin cfg0.N, win0_4.index t = ![0, t.val, 0] := by decide +kernel
theorem qidx8 : ∀ t : Fin cfg0.N, win0_8.index t = ![0, t.val, 0] := by decide +kernel

/-- A point leaves in result 2 the block of argument 4 that it is given. -/
theorem qcast8 (c : Dev nD) (t : Fin cfg0.N) (y : S1x64x4096.Idx) :
    (outsAt0 m c t.val t.isLt).2.2.1 y = (iblk m c 4 t : S1x64x4096.Idx → EReal) y := by
  by_cases h : t.val % 16 = 0
  · rw [Gen.outsAt0_A m c t h]
    frame_open
    frame_out
    unfold k0_pay6
    idx_vars y
    pointwise
  · rw [Gen.outsAt0_B m c t h]
    frame_open
    frame_out
    unfold k0_pay6
    idx_vars y
    pointwise

/-- Result 2, the first layer's weights into the hidden layer, at an index. -/
theorem qside8 (c : Dev nD) (n : Fin 1024) (w : Fin 4096) :
    (dats m 0 c).arrAt 8 cfg0.N (ix3 0 n w) = (m ((c : Thread nD τ).loc main_arg4) : S2x1024x4096.Idx → EReal) (ix3 0 n w) := by
  have hN : cfg0.N = 16 := N_0
  obtain ⟨t, r, rfl⟩ : ∃ (t : Fin cfg0.N) (r : Fin 64), n = ⟨t.val * 64 + r.val, by omega⟩ :=
    ⟨⟨n.val / 64, by omega⟩, ⟨n.val % 64, by omega⟩, Fin.ext (by show n.val = n.val / 64 * 64 + n.val % 64; omega)⟩
  have hf : (cfg0.win 8).flush t = true := (by decide +kernel : ∀ t : Fin cfg0.N, (cfg0.win 8).flush t = true) t
  have h := congrFun (Value.blocks8 m c t hf) (ix3 0 r w)
  rw [Value.flushed8] at h
  refine Eq.trans ?_ (h.trans ?_)
  · blk_ext [qidx8 t]
  · refine (qcast8 m c t (ix3 0 r w)).trans ?_
    rw [← V_main_arg4 m c]
    unfold iblk
    blk_ext [qidx4 t]

/-- A point's block of argument 5, and of result 3. -/
theorem qidx5 : ∀ t : Fin cfg0.N, win0_5.index t = ![0, t.val, 0] := by decide +kernel
theorem qidx9 : ∀ t : Fin cfg0.N, win0_9.index t = ![0, t.val, 0] := by decide +kernel

/-- A point leaves in result 3 the block of argument 5 that it is given. -/
theorem qcast9 (c : Dev nD) (t : Fin cfg0.N) (y : S1x256x1024.Idx) :
    (outsAt0 m c t.val t.isLt).2.2.2.1 y = (iblk m c 5 t : S1x256x1024.Idx → EReal) y := by
  by_cases h : t.val % 16 = 0
  · rw [Gen.outsAt0_A m c t h]
    frame_open
    frame_out
    unfold k0_pay7
    idx_vars y
    pointwise
  · rw [Gen.outsAt0_B m c t h]
    frame_open
    frame_out
    unfold k0_pay7
    idx_vars y
    pointwise

/-- Result 3, the first layer's weights out of the hidden layer, at an index. -/
theorem qside9 (c : Dev nD) (n : Fin 4096) (w : Fin 1024) :
    (dats m 0 c).arrAt 9 cfg0.N (ix3 0 n w) = (m ((c : Thread nD τ).loc main_arg5) : S2x4096x1024.Idx → EReal) (ix3 0 n w) := by
  have hN : cfg0.N = 16 := N_0
  obtain ⟨t, r, rfl⟩ : ∃ (t : Fin cfg0.N) (r : Fin 256), n = ⟨t.val * 256 + r.val, by omega⟩ :=
    ⟨⟨n.val / 256, by omega⟩, ⟨n.val % 256, by omega⟩, Fin.ext (by show n.val = n.val / 256 * 256 + n.val % 256; omega)⟩
  have hf : (cfg0.win 9).flush t = true := (by decide +kernel : ∀ t : Fin cfg0.N, (cfg0.win 9).flush t = true) t
  have h := congrFun (Value.blocks9 m c t hf) (ix3 0 r w)
  rw [Value.flushed9] at h
  refine Eq.trans ?_ (h.trans ?_)
  · blk_ext [qidx9 t]
  · refine (qcast9 m c t (ix3 0 r w)).trans ?_
    rw [← V_main_arg5 m c]
    unfold iblk
    blk_ext [qidx5 t]

end Cert.Mlp

end
-- ==== Proof.QkvRef.lean ====
/- The plain qkv projection, at an index. -/
module

public import proofs.«01_k».proof.Proof.Gen.ReferenceQkvIdeal.Run
public import proofs.«01_k».proof.Proof.QkvTile
public import proofs.«01_k».proof.Proof.FinalRef
public import proofs.«01_k».proof.Proof.Consts

@[expose] public section

set_option maxRecDepth 16384

noncomputable section

namespace Cert.Mlp

open Idealize.ShloMosaic Cert.ReferenceQkvIdeal Cert.ReferenceQkvIdeal.Gen Idealize.ShloMosaic.TcCoe

/-- The reference's projection. -/
def rQkv (h : FVec Ideal S4x4096x1024 .f32) (w : FVec Ideal S1024x3072 .f32) : FVec Ideal S4x4096x3072 .f32 :=
  Host.dotGeneral dot_S4x4096x1024_S1024x3072_S4x4096x3072_2_0_01_1_n_n none h w

/-- The reference's queries, in the unit of the base-2 exponential. -/
def rQuery (p : FVec Ideal S4x4096x3072 .f32) : FVec Ideal S4x4096x1024 .f32 :=
  Host.divf (mulf (extractStridedSlice S4x4096x1024 ![0, 0, 0] p slices_S4x4096x3072_S4x4096x1024_0_0_0)
      (broadcastInDim S4x4096x1024 ![] bcast_S_S4x4096x1024 (constant S_ .f32 0x3E000000#32)))
    (broadcastInDim S4x4096x1024 ![] bcast_S_S4x4096x1024 (Host.log (constant S_ .f32 0x40000000#32)))

/-- The reference's queries, keys and values. -/
def rAll (p : FVec Ideal S4x4096x3072 .f32) : FVec Ideal S16384x3072 .bf16 :=
  truncf .bf16 (shapeCast _ (concatenate S4x4096x3072 2 [⟨S4x4096x1024, rQuery p⟩,
    ⟨S4x4096x2048, extractStridedSlice S4x4096x2048 ![0, 0, 1024] p slices_S4x4096x3072_S4x4096x2048_0_0_1024⟩]
    concatenates_S4x4096x1024_S4x4096x2048_S4x4096x3072_d2) shapeCasts_S4x4096x3072_S16384x3072) bitsLt_bf16_f32

/-- The step at an index. -/
theorem rQkv_val (h : FVec Ideal S4x4096x1024 .f32) (w : FVec Ideal S1024x3072 .f32) (b : Fin 4) (s : Fin 4096) (j : Fin 3072) :
    rQkv h w (ix3 b s j) = ∑ k, h (ix3 b s k) * w (ix2 k j) := by
  unfold rQkv
  pointwise

/-- The scale and the change of unit are one factor. -/
theorem scale_eq (z : EReal) :
    Ideal.div (z * Ideal.ofBits .f32 0x3E000000#32) (Ideal.log (Ideal.ofBits .f32 0x40000000#32)) = z * qScale := by
  rw [Cert.Attn.ofBits_eighth, Cert.Attn.ofBits_two, Ideal.log_coe, if_neg (by norm_num), Ideal.div_coe (Real.log_pos (by norm_num)).ne',
    mul_assoc, ← EReal.coe_mul, one_div (Real.log 2)]
  rfl

/-- The step at an index. -/
theorem rQuery_val (p : FVec Ideal S4x4096x3072 .f32) (b : Fin 4) (s : Fin 4096) (j : Fin 1024) :
    rQuery p (ix3 b s j) = p (ix3 b s ⟨j.val, by omega⟩) * qScale := by
  rw [← scale_eq]
  unfold rQuery
  pointwise

/-- The step at an index. -/
theorem rAll_val (p : FVec Ideal S4x4096x3072 .f32) (n : Fin 16384) (j : Fin 3072) :
    rAll p (ix2 n j) = if j.val < 1024 then p (ix3 ⟨n.val / 4096, by omega⟩ ⟨n.val % 4096, by omega⟩ j) * qScale
      else p (ix3 ⟨n.val / 4096, by omega⟩ ⟨n.val % 4096, by omega⟩ j) := by
  unfold rAll
  generalize hq : rQuery p = q
  pointwise
  split
  · subst hq
    exact rQuery_val p _ _ _
  · refine congrArg (fun z => p (ix3 _ _ z)) (Fin.ext ?_)
    show 1024 + (j.val - 1024) = j.val
    omega

/-- The gain, at an index. -/
theorem refQkvGain_val (g : FVec Ideal S1x1024 .f32) (k : Fin 1024) :
    shapeCast S1024 g shapeCasts_S1x1024_S1024 (ix1 k) = g (ix2 0 k) := by
  pointwise

/-- The weights, at an index. -/
theorem refQkvW_val (w : FVec Ideal S1x1024x3072 .f32) (k : Fin 1024) (j : Fin 3072) :
    shapeCast S1024x3072 w shapeCasts_S1x1024x3072_S1024x3072 (ix2 k j) = w (ix3 0 k j) := by
  pointwise

/-- The reference's first result, of the stream, the gain and the weights. -/
def rResult (x : FVec Ideal S4x4096x1024 .f32) (g : FVec Ideal S1x1024 .f32) (w : FVec Ideal S1x1024x3072 .f32) :
    FVec Ideal S16384x3072 .bf16 :=
  rAll (rQkv (rRms x (shapeCast _ g shapeCasts_S1x1024_S1024)) (shapeCast _ w shapeCasts_S1x1024x3072_S1024x3072))

/-- The projection at an index. -/
theorem rProj3_val (x : FVec Ideal S4x4096x1024 .f32) (g : FVec Ideal S1x1024 .f32) (w : FVec Ideal S1x1024x3072 .f32) (b : Fin 4)
    (s : Fin 4096) (j : Fin 3072) :
    rQkv (rRms x (shapeCast _ g shapeCasts_S1x1024_S1024)) (shapeCast _ w shapeCasts_S1x1024x3072_S1024x3072) (ix3 b s j)
      = normDot (fun k => x (ix3 b s k)) (fun k => g (ix2 0 k)) (fun k => w (ix3 0 k j)) := by
  refine (rQkv_val _ _ b s j).trans (Finset.sum_congr rfl fun k _ => congrArg₂ (· * ·) ?_ (refQkvW_val w k j))
  exact (rRms_val _ _ b s k).trans (rms_congr (fun _ => rfl) (refQkvGain_val g) k)

end Cert.Mlp

end
-- ==== Proof.QkvAlg.lean ====
/- The qkv projection's call against the plain projection: equal results from equal arguments. -/
module

public import proofs.«01_k».proof.Defs
public import proofs.«01_k».proof.Proof.QkvSide
public import proofs.«01_k».proof.Proof.QkvRef
public import proofs.«01_k».proof.Proof.Gen.KernelQkv
public import proofs.«01_k».proof.Proof.Gen.KernelQkv.Frame
public import Idealize.ShloMosaic.Lib.Quiescent

@[expose] public section

set_option maxRecDepth 16384

noncomputable section

namespace Cert.Mlp

open Idealize.ShloMosaic Cert.KernelQkvIdeal Cert.KernelQkvIdeal.Gen Idealize.ShloMosaic.TcCoe Idealize.SL.Sem

variable (m : (ℓ : Loc nD τ sig) → Buf (Elt Ideal) ℓ)

/-- The block index of the first result at a point. -/
theorem qidx6 : ∀ t : Fin cfg0.N, win0_6.index t = ![t.val, 0] := by decide +kernel

/-- The first result's array at a row of point `t`. -/
theorem qkv_arr (c : Dev nD) (t : Fin cfg0.N) (r : Fin 1024) (j : Fin 3072) :
    (dats m 0 c).arrAt 6 cfg0.N (ix2 (qkvRow t r) j) = (outsAt0 m c t.val t.isLt).1 (ix2 r j) := by
  have hf : (cfg0.win 6).flush t = true := (by decide +kernel : ∀ t : Fin cfg0.N, (cfg0.win 6).flush t = true) t
  have h := congrFun (Value.blocks6 m c t hf) (ix2 r j)
  rw [Value.flushed6] at h
  refine Eq.trans ?_ (h.trans ?_)
  · unfold qkvRow
    blk_ext [qidx6 t]
  · rfl

/-- The first result, at an index. -/
theorem qkv_val (c : Dev nD) (n : Fin 16384) (j : Fin 3072) : (dats m 0 c).arrAt 6 cfg0.N (ix2 n j)
    = if j.val < 1024 then qkvOf (m ((c : Thread nD τ).loc main_arg0)) (m ((c : Thread nD τ).loc main_arg1))
        (m ((c : Thread nD τ).loc main_arg2)) n j * qScale
      else qkvOf (m ((c : Thread nD τ).loc main_arg0)) (m ((c : Thread nD τ).loc main_arg1)) (m ((c : Thread nD τ).loc main_arg2)) n j := by
  have hN : cfg0.N = 16 := N_0
  obtain ⟨t, r, rfl⟩ : ∃ t r, n = qkvRow t r :=
    ⟨⟨n.val / 1024, by omega⟩, ⟨n.val % 1024, by omega⟩, Fin.ext (by show n.val = n.val / 1024 * 1024 + n.val % 1024; omega)⟩
  exact (qkv_arr m c t r j).trans (qkv_out m c t r j)

/-- The plain projection's first result, at an index. -/
theorem rResult_val (x : FVec Ideal Cert.ReferenceQkvIdeal.S4x4096x1024 .f32) (g : FVec Ideal Cert.ReferenceQkvIdeal.S1x1024 .f32)
    (w : FVec Ideal Cert.ReferenceQkvIdeal.S1x1024x3072 .f32) (n : Fin 16384) (j : Fin 3072) :
    rResult x g w (ix2 n j) = if j.val < 1024 then qkvOf x g w n j * qScale else qkvOf x g w n j := by
  unfold rResult
  refine (rAll_val _ n j).trans ?_
  rw [rProj3_val]
  rfl

/-- The plain cast of the first layer's weights into the hidden layer, at an index. -/
theorem rUp_val (w : FVec Ideal Cert.ReferenceQkvIdeal.S2x1024x4096 .f32) (n : Fin 1024) (k : Fin 4096) :
    truncf .bf16 (extractStridedSlice Cert.ReferenceQkvIdeal.S1x1024x4096 ![0, 0, 0] w
      Cert.ReferenceQkvIdeal.Facts₀.slices_S2x1024x4096_S1x1024x4096_0_0_0) Cert.ReferenceQkvIdeal.Facts₀.bitsLt_bf16_f32 (ix3 0 n k)
      = w (ix3 0 n k) := by
  pointwise

/-- The plain cast of the first layer's weights out of the hidden layer, at an index. -/
theorem rDn_val (w : FVec Ideal Cert.ReferenceQkvIdeal.S2x4096x1024 .f32) (n : Fin 4096) (k : Fin 1024) :
    truncf .bf16 (extractStridedSlice Cert.ReferenceQkvIdeal.S1x4096x1024 ![0, 0, 0] w
      Cert.ReferenceQkvIdeal.Facts₀.slices_S2x4096x1024_S1x4096x1024_0_0_0) Cert.ReferenceQkvIdeal.Facts₀.bitsLt_bf16_f32 (ix3 0 n k)
      = w (ix3 0 n k) := by
  pointwise

/-- The qkv projection's call and the plain projection end with equal results. -/
theorem algebraic_qkv : Cert.algebraic_KernelQkvIdeal_ReferenceQkvIdeal := by
  intro m g m' g' _ hagree
  refine ⟨_, _, _, _, Cert.KernelQkvIdeal.Value.run_blocks (F := Ideal) m g, ?_⟩
  refine (θ_run Cert.ReferenceQkvIdeal.defs _ _).mono (fun _ h c => ?_) (Cert.ReferenceQkvIdeal.Value.run m' g')
  obtain ⟨r0, r1, r2, r3, rest⟩ := h c
  obtain ⟨a0, a1, a2, a3, a4, a5⟩ := hagree c
  refine ⟨r0.trans (funext fun i => ?_), r1.trans (funext fun i => ?_), r2.trans (funext fun i => ?_), r3.trans (funext fun i => ?_), rest⟩
  · idx_vars i
    rw [a0, a1, a2]
    exact (rResult_val _ _ _ i0 i1).trans (qkv_val m c i0 i1).symm
  · idx_vars i
    obtain rfl : i0 = (0 : Fin 1) := Subsingleton.elim (α := Fin 1) _ _
    rw [a3]
    exact (qside7 m c i1 i2).symm
  · idx_vars i
    obtain rfl : i0 = (0 : Fin 1) := Subsingleton.elim (α := Fin 1) _ _
    rw [a4]
    exact (rUp_val _ i1 i2).trans (qside8 m c i1 i2).symm
  · idx_vars i
    obtain rfl : i0 = (0 : Fin 1) := Subsingleton.elim (α := Fin 1) _ _
    rw [a5]
    exact (rDn_val _ i1 i2).trans (qside9 m c i1 i2).symm

/-- The qkv projection's call runs from every memory, leaves its arguments and ends quiescent. -/
theorem frame_qkv : quiescent_KernelQkv := fun m ρ _ => Cert.KernelQkv.Gen.frame m ρ

/-- So does its idealisation. -/
theorem frame_qkv_ideal : quiescent_KernelQkvIdeal := fun m ρ _ => Cert.KernelQkvIdeal.Gen.frame m ρ

/-- So does the plain projection. -/
theorem frame_qkv_ref : quiescent_ReferenceQkvIdeal := fun m ρ _ =>
  (θ_run Cert.ReferenceQkvIdeal.defs _ _).mono
    (fun r h => ⟨fun c => (h c).2.2.2.2, Idealize.ShloMosaic.sem_eq_zero_of_no_sems (by decide) r.2⟩)
    (Cert.ReferenceQkvIdeal.Value.run m ρ)

/-- `scale_log2e` is the number the call's literal rounds. -/
theorem preserves_qkv : preserves_KernelQkv_KernelQkvIdeal :=
  IdealRules.named_const.statement Cert.KernelQkvIdeal.κ "scale_log2e" .f32 0x3E38AA3B#32 (((1 / 8) * (Real.log 2)⁻¹ : ℝ) : EReal) rfl

end Cert.Mlp

end
-- ==== Proof.lean ====
/- The certificate's claim, from its conjuncts: the frames, the named constants, and the results of the four calls. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.Pre_finite_scores
public import proofs.«01_k».proof.Proof.Frames
public import proofs.«01_k».proof.Proof.Algebraic
public import proofs.«01_k».proof.Proof.FinalAlg
public import proofs.«01_k».proof.Proof.MidAlg
public import proofs.«01_k».proof.Proof.QkvAlg
public import proofs.«01_k».proof.Proof.Gen.KernelFinal
public import proofs.«01_k».proof.Proof.Gen.KernelFinalIdeal
public import proofs.«01_k».proof.Proof.Gen.KernelFinal.Frame
public import proofs.«01_k».proof.Proof.Gen.KernelFinalIdeal.Frame
public import proofs.«01_k».proof.Proof.Gen.KernelFinalIdeal.Value
public import proofs.«01_k».proof.Proof.Gen.ReferenceFinalIdeal
public import proofs.«01_k».proof.Proof.Gen.ReferenceFinalIdeal.Run
public import proofs.«01_k».proof.Proof.Gen.KernelMid
public import proofs.«01_k».proof.Proof.Gen.KernelMidIdeal
public import proofs.«01_k».proof.Proof.Gen.KernelMid.Frame
public import proofs.«01_k».proof.Proof.Gen.KernelMidIdeal.Frame
public import proofs.«01_k».proof.Proof.Gen.KernelMidIdeal.Value
public import proofs.«01_k».proof.Proof.Gen.ReferenceMidIdeal
public import proofs.«01_k».proof.Proof.Gen.ReferenceMidIdeal.Run
public import proofs.«01_k».proof.Proof.Gen.KernelQkv
public import proofs.«01_k».proof.Proof.Gen.KernelQkvIdeal
public import proofs.«01_k».proof.Proof.Gen.KernelQkv.Frame
public import proofs.«01_k».proof.Proof.Gen.KernelQkvIdeal.Frame
public import proofs.«01_k».proof.Proof.Gen.KernelQkvIdeal.Value
public import proofs.«01_k».proof.Proof.Gen.ReferenceQkvIdeal
public import proofs.«01_k».proof.Proof.Gen.ReferenceQkvIdeal.Run
public import Idealize.ShloMosaic.Adequacy
public import Idealize.ShloMosaic.Init

@[expose] public section

noncomputable section

namespace Cert.Proof

open Idealize.ShloMosaic

/-- Everything the certificate states. -/
theorem claim : Cert.Claim :=
  ⟨Cert.Kernel.Gen.facts, Cert.KernelIdeal.Gen.facts, Cert.ReferenceIdeal.Gen.facts, Cert.KernelFinal.Gen.facts,
    Cert.KernelFinalIdeal.Gen.facts, Cert.ReferenceFinalIdeal.Gen.facts, Cert.KernelMid.Gen.facts, Cert.KernelMidIdeal.Gen.facts,
    Cert.ReferenceMidIdeal.Gen.facts, Cert.KernelQkv.Gen.facts, Cert.KernelQkvIdeal.Gen.facts, Cert.ReferenceQkvIdeal.Gen.facts,
    Cert.Pre_finite_scores.Gen.facts,
    Attn.frame_p, Attn.frame_pi, Attn.frame_pi_pre, Attn.frame_ri, Attn.frame_ri_pre, Mlp.frame_final, Mlp.frame_final_ideal,
    Mlp.frame_final_ref, Mlp.frame_mid, Mlp.frame_mid_ideal, Mlp.frame_mid_ref,
    Mlp.frame_qkv, Mlp.frame_qkv_ideal, Mlp.frame_qkv_ref, Attn.preserves, Attn.algebraic, trivial, Mlp.algebraic_final, trivial, Mlp.algebraic_mid, Mlp.preserves_qkv, Mlp.algebraic_qkv⟩

end Cert.Proof

end
